-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v409)) (v1 : (c : Dev Cert.KernelIdeal.nD) → Buf (Elt Ideal) ((c.tc : Thread Cert.KernelIdeal.nD Cert.KernelIdeal.τ).loc Cert.KernelIdeal.main_v381)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v409) = v0 c
          ∧ r.2.mem ((c.tc : Thread Cert.KernelIdeal.nD Cert.KernelIdeal.τ).loc Cert.KernelIdeal.main_v381) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v567) = v0 c
          ∧ r.2.mem ((c.tc : Thread Cert.ReferenceIdeal.nD Cert.ReferenceIdeal.τ).loc Cert.ReferenceIdeal.main_v428) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4x1x512x512 : Shape := ⟨4, ![4, 1, 512, 512]⟩
abbrev S4x3x3 : Shape := ⟨3, ![4, 3, 3]⟩
abbrev S512 : Shape := ⟨1, ![512]⟩
abbrev S512x512 : Shape := ⟨2, ![512, 512]⟩
abbrev S262144 : Shape := ⟨1, ![262144]⟩
abbrev S_ : Shape := ⟨0, ![]⟩
abbrev S1x262144 : Shape := ⟨2, ![1, 262144]⟩
abbrev S3x262144 : Shape := ⟨2, ![3, 262144]⟩
abbrev S4x3x262144 : Shape := ⟨3, ![4, 3, 262144]⟩
abbrev S4x1x262144 : Shape := ⟨3, ![4, 1, 262144]⟩
abbrev S4x262144 : Shape := ⟨2, ![4, 262144]⟩
abbrev S4x262144x1 : Shape := ⟨3, ![4, 262144, 1]⟩
abbrev S4x262144x2 : Shape := ⟨3, ![4, 262144, 2]⟩
abbrev S4x512x512 : Shape := ⟨3, ![4, 512, 512]⟩
abbrev S1x512x512 : Shape := ⟨3, ![1, 512, 512]⟩
abbrev S2x512 : Shape := ⟨2, ![2, 512]⟩
abbrev S510x512 : Shape := ⟨2, ![510, 512]⟩
abbrev S1x512 : Shape := ⟨2, ![1, 512]⟩
abbrev S511x512 : Shape := ⟨2, ![511, 512]⟩
abbrev S512x2 : Shape := ⟨2, ![512, 2]⟩
abbrev S512x510 : Shape := ⟨2, ![512, 510]⟩
abbrev S512x1 : Shape := ⟨2, ![512, 1]⟩
abbrev S512x511 : Shape := ⟨2, ![512, 511]⟩
abbrev S4x512 : Shape := ⟨2, ![4, 512]⟩
abbrev S4x512x1 : Shape := ⟨3, ![4, 512, 1]⟩
abbrev S4x512x2 : Shape := ⟨3, ![4, 512, 2]⟩
abbrev S4x1x512x2 : Shape := ⟨4, ![4, 1, 512, 2]⟩
abbrev S4 : Shape := ⟨1, ![4]⟩
abbrev S2048 : Shape := ⟨1, ![2048]⟩
abbrev S2048x1 : Shape := ⟨2, ![2048, 1]⟩
abbrev S2048x2 : Shape := ⟨2, ![2048, 2]⟩
abbrev S4x1 : Shape := ⟨2, ![4, 1]⟩
abbrev S3x512 : Shape := ⟨2, ![3, 512]⟩
abbrev S509x512 : Shape := ⟨2, ![509, 512]⟩
abbrev S508x512 : Shape := ⟨2, ![508, 512]⟩
abbrev S5x512 : Shape := ⟨2, ![5, 512]⟩
abbrev S507x512 : Shape := ⟨2, ![507, 512]⟩
abbrev S6x512 : Shape := ⟨2, ![6, 512]⟩
abbrev S506x512 : Shape := ⟨2, ![506, 512]⟩
abbrev S7x512 : Shape := ⟨2, ![7, 512]⟩
abbrev S505x512 : Shape := ⟨2, ![505, 512]⟩
abbrev S512x3 : Shape := ⟨2, ![512, 3]⟩
abbrev S512x509 : Shape := ⟨2, ![512, 509]⟩
abbrev S512x4 : Shape := ⟨2, ![512, 4]⟩
abbrev S512x508 : Shape := ⟨2, ![512, 508]⟩
abbrev S512x5 : Shape := ⟨2, ![512, 5]⟩
abbrev S512x507 : Shape := ⟨2, ![512, 507]⟩
abbrev S512x6 : Shape := ⟨2, ![512, 6]⟩
abbrev S512x506 : Shape := ⟨2, ![512, 506]⟩
abbrev S512x7 : Shape := ⟨2, ![512, 7]⟩
abbrev S512x505 : Shape := ⟨2, ![512, 505]⟩
abbrev S1 : Shape := ⟨1, ![1]⟩
abbrev S1x1x1 : Shape := ⟨3, ![1, 1, 1]⟩
abbrev S1x1 : Shape := ⟨2, ![1, 1]⟩

abbrev nBuf : Space → Nat
  | .hbm => 654
  | .vmem => 18
  | .smem => 0
  | _ => 0

abbrev hbmTy0_0 (i : Nat) : BufTy := match i % 128 with
  | 0 => ⟨S4x1x512x512, .f32⟩
  | 1 => ⟨S4x1x512x512, .f32⟩
  | 2 => ⟨S4x3x3, .f32⟩
  | 3 => ⟨S512, .f32⟩
  | 4 => ⟨S512, .f32⟩
  | 5 => ⟨S512x512, .f32⟩
  | 6 => ⟨S512x512, .f32⟩
  | 7 => ⟨S262144, .f32⟩
  | 8 => ⟨S262144, .f32⟩
  | 9 => ⟨S_, .f32⟩
  | 10 => ⟨S262144, .f32⟩
  | 11 => ⟨S1x262144, .f32⟩
  | 12 => ⟨S1x262144, .f32⟩
  | 13 => ⟨S1x262144, .f32⟩
  | 14 => ⟨S3x262144, .f32⟩
  | 15 => ⟨S4x3x262144, .f32⟩
  | 16 => ⟨S4x1x262144, .f32⟩
  | 17 => ⟨S4x262144, .f32⟩
  | 18 => ⟨S4x1x262144, .f32⟩
  | 19 => ⟨S4x262144, .f32⟩
  | 20 => ⟨S_, .f32⟩
  | 21 => ⟨S4x262144, .f32⟩
  | 22 => ⟨S4x262144, .f32⟩
  | 23 => ⟨S4x262144, .f32⟩
  | 24 => ⟨S4x1x262144, .f32⟩
  | 25 => ⟨S4x262144, .f32⟩
  | 26 => ⟨S4x1x262144, .f32⟩
  | 27 => ⟨S4x262144, .f32⟩
  | 28 => ⟨S_, .f32⟩
  | 29 => ⟨S4x262144, .f32⟩
  | 30 => ⟨S4x262144, .f32⟩
  | 31 => ⟨S4x262144, .f32⟩
  | 32 => ⟨S4x262144, .f32⟩
  | 33 => ⟨S4x262144, .f32⟩
  | 34 => ⟨S_, .f32⟩
  | 35 => ⟨S4x262144, .f32⟩
  | 36 => ⟨S4x262144, .f32⟩
  | 37 => ⟨S_, .f32⟩
  | 38 => ⟨S4x262144, .f32⟩
  | 39 => ⟨S4x262144, .f32⟩
  | 40 => ⟨S4x262144, .f32⟩
  | 41 => ⟨S4x262144, .f32⟩
  | 42 => ⟨S4x262144, .f32⟩
  | 43 => ⟨S4x262144, .f32⟩
  | 44 => ⟨S4x262144, .f32⟩
  | 45 => ⟨S4x262144, .f32⟩
  | 46 => ⟨S4x262144, .f32⟩
  | 47 => ⟨S4x262144, .f32⟩
  | 48 => ⟨S4x262144, .f32⟩
  | 49 => ⟨S4x262144, .f32⟩
  | 50 => ⟨S4x262144, .f32⟩
  | 51 => ⟨S4x262144, .f32⟩
  | 52 => ⟨S4x1x262144, .f32⟩
  | 53 => ⟨S_, .f32⟩
  | 54 => ⟨S_, .f32⟩
  | 55 => ⟨S_, .f32⟩
  | 56 => ⟨S4x262144, .f32⟩
  | 57 => ⟨S4x262144, .f32⟩
  | 58 => ⟨S_, .f32⟩
  | 59 => ⟨S4x262144, .f32⟩
  | 60 => ⟨S4x262144, .f32⟩
  | 61 => ⟨S4x262144, .i32⟩
  | 62 => ⟨S_, .f32⟩
  | 63 => ⟨S_, .f32⟩
  | 64 => ⟨S_, .f32⟩
  | 65 => ⟨S4x262144, .f32⟩
  | 66 => ⟨S4x262144, .f32⟩
  | 67 => ⟨S_, .f32⟩
  | 68 => ⟨S4x262144, .f32⟩
  | 69 => ⟨S4x262144, .f32⟩
  | 70 => ⟨S4x262144, .i32⟩
  | 71 => ⟨S_, .f32⟩
  | 72 => ⟨S4x262144, .f32⟩
  | 73 => ⟨S4x262144, .i1⟩
  | 74 => ⟨S_, .f32⟩
  | 75 => ⟨S4x262144, .f32⟩
  | 76 => ⟨S4x262144, .i1⟩
  | 77 => ⟨S4x262144, .i1⟩
  | 78 => ⟨S_, .f32⟩
  | 79 => ⟨S4x262144, .f32⟩
  | 80 => ⟨S4x262144, .i1⟩
  | 81 => ⟨S4x262144, .i1⟩
  | 82 => ⟨S_, .f32⟩
  | 83 => ⟨S4x262144, .f32⟩
  | 84 => ⟨S4x262144, .i1⟩
  | 85 => ⟨S4x262144, .i1⟩
  | 86 => ⟨S4x262144, .f32⟩
  | 87 => ⟨S_, .i32⟩
  | 88 => ⟨S4x262144, .i32⟩
  | 89 => ⟨S4x262144, .i1⟩
  | 90 => ⟨S_, .i32⟩
  | 91 => ⟨S4x262144, .i32⟩
  | 92 => ⟨S4x262144, .i32⟩
  | 93 => ⟨S4x262144, .i32⟩
  | 94 => ⟨S_, .i32⟩
  | 95 => ⟨S4x262144, .i32⟩
  | 96 => ⟨S4x262144, .i1⟩
  | 97 => ⟨S_, .i32⟩
  | 98 => ⟨S4x262144, .i32⟩
  | 99 => ⟨S4x262144, .i32⟩
  | 100 => ⟨S4x262144, .i32⟩
  | 101 => ⟨S4x262144x1, .i32⟩
  | 102 => ⟨S4x262144x1, .i32⟩
  | 103 => ⟨S4x262144x2, .i32⟩
  | 104 => ⟨S4x1x262144, .f32⟩
  | 105 => ⟨S4x1x262144, .f32⟩
  | 106 => ⟨S4x1x262144, .f32⟩
  | 107 => ⟨S4x1x262144, .f32⟩
  | 108 => ⟨S4x1x262144, .f32⟩
  | 109 => ⟨S_, .f32⟩
  | 110 => ⟨S_, .f32⟩
  | 111 => ⟨S_, .f32⟩
  | 112 => ⟨S4x262144, .f32⟩
  | 113 => ⟨S4x262144, .f32⟩
  | 114 => ⟨S_, .f32⟩
  | 115 => ⟨S4x262144, .f32⟩
  | 116 => ⟨S4x262144, .f32⟩
  | 117 => ⟨S4x262144, .i32⟩
  | 118 => ⟨S_, .f32⟩
  | 119 => ⟨S_, .f32⟩
  | 120 => ⟨S_, .f32⟩
  | 121 => ⟨S4x262144, .f32⟩
  | 122 => ⟨S4x262144, .f32⟩
  | 123 => ⟨S_, .f32⟩
  | 124 => ⟨S4x262144, .f32⟩
  | 125 => ⟨S4x262144, .f32⟩
  | 126 => ⟨S4x262144, .i32⟩
  | 127 => ⟨S_, .f32⟩
  | _ => ⟨S4x1x512x512, .f32⟩

abbrev hbmTy0_1 (i : Nat) : BufTy := match i % 128 with
  | 0 => ⟨S4x262144, .f32⟩
  | 1 => ⟨S4x262144, .i1⟩
  | 2 => ⟨S_, .f32⟩
  | 3 => ⟨S4x262144, .f32⟩
  | 4 => ⟨S4x262144, .i1⟩
  | 5 => ⟨S4x262144, .i1⟩
  | 6 => ⟨S_, .f32⟩
  | 7 => ⟨S4x262144, .f32⟩
  | 8 => ⟨S4x262144, .i1⟩
  | 9 => ⟨S4x262144, .i1⟩
  | 10 => ⟨S_, .f32⟩
  | 11 => ⟨S4x262144, .f32⟩
  | 12 => ⟨S4x262144, .i1⟩
  | 13 => ⟨S4x262144, .i1⟩
  | 14 => ⟨S4x262144, .f32⟩
  | 15 => ⟨S_, .i32⟩
  | 16 => ⟨S4x262144, .i32⟩
  | 17 => ⟨S4x262144, .i1⟩
  | 18 => ⟨S_, .i32⟩
  | 19 => ⟨S4x262144, .i32⟩
  | 20 => ⟨S4x262144, .i32⟩
  | 21 => ⟨S4x262144, .i32⟩
  | 22 => ⟨S_, .i32⟩
  | 23 => ⟨S4x262144, .i32⟩
  | 24 => ⟨S4x262144, .i1⟩
  | 25 => ⟨S_, .i32⟩
  | 26 => ⟨S4x262144, .i32⟩
  | 27 => ⟨S4x262144, .i32⟩
  | 28 => ⟨S4x262144, .i32⟩
  | 29 => ⟨S4x262144x1, .i32⟩
  | 30 => ⟨S4x262144x1, .i32⟩
  | 31 => ⟨S4x262144x2, .i32⟩
  | 32 => ⟨S4x1x262144, .f32⟩
  | 33 => ⟨S4x1x262144, .f32⟩
  | 34 => ⟨S4x1x262144, .f32⟩
  | 35 => ⟨S4x1x262144, .f32⟩
  | 36 => ⟨S4x1x262144, .f32⟩
  | 37 => ⟨S4x1x262144, .f32⟩
  | 38 => ⟨S_, .f32⟩
  | 39 => ⟨S_, .f32⟩
  | 40 => ⟨S_, .f32⟩
  | 41 => ⟨S4x262144, .f32⟩
  | 42 => ⟨S4x262144, .f32⟩
  | 43 => ⟨S_, .f32⟩
  | 44 => ⟨S4x262144, .f32⟩
  | 45 => ⟨S4x262144, .f32⟩
  | 46 => ⟨S4x262144, .i32⟩
  | 47 => ⟨S_, .f32⟩
  | 48 => ⟨S_, .f32⟩
  | 49 => ⟨S_, .f32⟩
  | 50 => ⟨S4x262144, .f32⟩
  | 51 => ⟨S4x262144, .f32⟩
  | 52 => ⟨S_, .f32⟩
  | 53 => ⟨S4x262144, .f32⟩
  | 54 => ⟨S4x262144, .f32⟩
  | 55 => ⟨S4x262144, .i32⟩
  | 56 => ⟨S_, .f32⟩
  | 57 => ⟨S4x262144, .f32⟩
  | 58 => ⟨S4x262144, .i1⟩
  | 59 => ⟨S_, .f32⟩
  | 60 => ⟨S4x262144, .f32⟩
  | 61 => ⟨S4x262144, .i1⟩
  | 62 => ⟨S4x262144, .i1⟩
  | 63 => ⟨S_, .f32⟩
  | 64 => ⟨S4x262144, .f32⟩
  | 65 => ⟨S4x262144, .i1⟩
  | 66 => ⟨S4x262144, .i1⟩
  | 67 => ⟨S_, .f32⟩
  | 68 => ⟨S4x262144, .f32⟩
  | 69 => ⟨S4x262144, .i1⟩
  | 70 => ⟨S4x262144, .i1⟩
  | 71 => ⟨S4x262144, .f32⟩
  | 72 => ⟨S_, .i32⟩
  | 73 => ⟨S4x262144, .i32⟩
  | 74 => ⟨S4x262144, .i1⟩
  | 75 => ⟨S_, .i32⟩
  | 76 => ⟨S4x262144, .i32⟩
  | 77 => ⟨S4x262144, .i32⟩
  | 78 => ⟨S4x262144, .i32⟩
  | 79 => ⟨S_, .i32⟩
  | 80 => ⟨S4x262144, .i32⟩
  | 81 => ⟨S4x262144, .i1⟩
  | 82 => ⟨S_, .i32⟩
  | 83 => ⟨S4x262144, .i32⟩
  | 84 => ⟨S4x262144, .i32⟩
  | 85 => ⟨S4x262144, .i32⟩
  | 86 => ⟨S4x262144x1, .i32⟩
  | 87 => ⟨S4x262144x1, .i32⟩
  | 88 => ⟨S4x262144x2, .i32⟩
  | 89 => ⟨S4x1x262144, .f32⟩
  | 90 => ⟨S4x1x262144, .f32⟩
  | 91 => ⟨S4x1x262144, .f32⟩
  | 92 => ⟨S4x1x262144, .f32⟩
  | 93 => ⟨S4x1x262144, .f32⟩
  | 94 => ⟨S4x1x262144, .f32⟩
  | 95 => ⟨S_, .f32⟩
  | 96 => ⟨S_, .f32⟩
  | 97 => ⟨S_, .f32⟩
  | 98 => ⟨S4x262144, .f32⟩
  | 99 => ⟨S4x262144, .f32⟩
  | 100 => ⟨S_, .f32⟩
  | 101 => ⟨S4x262144, .f32⟩
  | 102 => ⟨S4x262144, .f32⟩
  | 103 => ⟨S4x262144, .i32⟩
  | 104 => ⟨S_, .f32⟩
  | 105 => ⟨S_, .f32⟩
  | 106 => ⟨S_, .f32⟩
  | 107 => ⟨S4x262144, .f32⟩
  | 108 => ⟨S4x262144, .f32⟩
  | 109 => ⟨S_, .f32⟩
  | 110 => ⟨S4x262144, .f32⟩
  | 111 => ⟨S4x262144, .f32⟩
  | 112 => ⟨S4x262144, .i32⟩
  | 113 => ⟨S_, .f32⟩
  | 114 => ⟨S4x262144, .f32⟩
  | 115 => ⟨S4x262144, .i1⟩
  | 116 => ⟨S_, .f32⟩
  | 117 => ⟨S4x262144, .f32⟩
  | 118 => ⟨S4x262144, .i1⟩
  | 119 => ⟨S4x262144, .i1⟩
  | 120 => ⟨S_, .f32⟩
  | 121 => ⟨S4x262144, .f32⟩
  | 122 => ⟨S4x262144, .i1⟩
  | 123 => ⟨S4x262144, .i1⟩
  | 124 => ⟨S_, .f32⟩
  | 125 => ⟨S4x262144, .f32⟩
  | 126 => ⟨S4x262144, .i1⟩
  | 127 => ⟨S4x262144, .i1⟩
  | _ => ⟨S4x1x512x512, .f32⟩

abbrev hbmTy0_2 (i : Nat) : BufTy := match i % 128 with
  | 0 => ⟨S4x262144, .f32⟩
  | 1 => ⟨S_, .i32⟩
  | 2 => ⟨S4x262144, .i32⟩
  | 3 => ⟨S4x262144, .i1⟩
  | 4 => ⟨S_, .i32⟩
  | 5 => ⟨S4x262144, .i32⟩
  | 6 => ⟨S4x262144, .i32⟩
  | 7 => ⟨S4x262144, .i32⟩
  | 8 => ⟨S_, .i32⟩
  | 9 => ⟨S4x262144, .i32⟩
  | 10 => ⟨S4x262144, .i1⟩
  | 11 => ⟨S_, .i32⟩
  | 12 => ⟨S4x262144, .i32⟩
  | 13 => ⟨S4x262144, .i32⟩
  | 14 => ⟨S4x262144, .i32⟩
  | 15 => ⟨S4x262144x1, .i32⟩
  | 16 => ⟨S4x262144x1, .i32⟩
  | 17 => ⟨S4x262144x2, .i32⟩
  | 18 => ⟨S4x1x262144, .f32⟩
  | 19 => ⟨S4x1x262144, .f32⟩
  | 20 => ⟨S4x1x262144, .f32⟩
  | 21 => ⟨S4x1x262144, .f32⟩
  | 22 => ⟨S4x1x262144, .f32⟩
  | 23 => ⟨S4x1x512x512, .f32⟩
  | 24 => ⟨S_, .f32⟩
  | 25 => ⟨S4x1x512x512, .f32⟩
  | 26 => ⟨S512, .f32⟩
  | 27 => ⟨S512, .f32⟩
  | 28 => ⟨S512x512, .f32⟩
  | 29 => ⟨S512x512, .f32⟩
  | 30 => ⟨S262144, .f32⟩
  | 31 => ⟨S262144, .f32⟩
  | 32 => ⟨S_, .f32⟩
  | 33 => ⟨S262144, .f32⟩
  | 34 => ⟨S1x262144, .f32⟩
  | 35 => ⟨S1x262144, .f32⟩
  | 36 => ⟨S1x262144, .f32⟩
  | 37 => ⟨S3x262144, .f32⟩
  | 38 => ⟨S4x3x262144, .f32⟩
  | 39 => ⟨S4x1x262144, .f32⟩
  | 40 => ⟨S4x262144, .f32⟩
  | 41 => ⟨S4x1x262144, .f32⟩
  | 42 => ⟨S4x262144, .f32⟩
  | 43 => ⟨S_, .f32⟩
  | 44 => ⟨S4x262144, .f32⟩
  | 45 => ⟨S4x262144, .f32⟩
  | 46 => ⟨S4x262144, .f32⟩
  | 47 => ⟨S4x1x262144, .f32⟩
  | 48 => ⟨S4x262144, .f32⟩
  | 49 => ⟨S4x1x262144, .f32⟩
  | 50 => ⟨S4x262144, .f32⟩
  | 51 => ⟨S_, .f32⟩
  | 52 => ⟨S4x262144, .f32⟩
  | 53 => ⟨S4x262144, .f32⟩
  | 54 => ⟨S4x262144, .f32⟩
  | 55 => ⟨S4x262144, .f32⟩
  | 56 => ⟨S4x262144, .f32⟩
  | 57 => ⟨S_, .f32⟩
  | 58 => ⟨S4x262144, .f32⟩
  | 59 => ⟨S4x262144, .f32⟩
  | 60 => ⟨S_, .f32⟩
  | 61 => ⟨S4x262144, .f32⟩
  | 62 => ⟨S4x262144, .f32⟩
  | 63 => ⟨S4x262144, .f32⟩
  | 64 => ⟨S4x262144, .f32⟩
  | 65 => ⟨S4x262144, .f32⟩
  | 66 => ⟨S4x262144, .f32⟩
  | 67 => ⟨S4x262144, .f32⟩
  | 68 => ⟨S4x262144, .f32⟩
  | 69 => ⟨S4x262144, .f32⟩
  | 70 => ⟨S4x262144, .f32⟩
  | 71 => ⟨S4x262144, .f32⟩
  | 72 => ⟨S4x262144, .f32⟩
  | 73 => ⟨S4x262144, .f32⟩
  | 74 => ⟨S4x262144, .f32⟩
  | 75 => ⟨S4x1x262144, .f32⟩
  | 76 => ⟨S_, .f32⟩
  | 77 => ⟨S_, .f32⟩
  | 78 => ⟨S_, .f32⟩
  | 79 => ⟨S4x262144, .f32⟩
  | 80 => ⟨S4x262144, .f32⟩
  | 81 => ⟨S_, .f32⟩
  | 82 => ⟨S4x262144, .f32⟩
  | 83 => ⟨S4x262144, .f32⟩
  | 84 => ⟨S4x262144, .i32⟩
  | 85 => ⟨S_, .f32⟩
  | 86 => ⟨S_, .f32⟩
  | 87 => ⟨S_, .f32⟩
  | 88 => ⟨S4x262144, .f32⟩
  | 89 => ⟨S4x262144, .f32⟩
  | 90 => ⟨S_, .f32⟩
  | 91 => ⟨S4x262144, .f32⟩
  | 92 => ⟨S4x262144, .f32⟩
  | 93 => ⟨S4x262144, .i32⟩
  | 94 => ⟨S_, .f32⟩
  | 95 => ⟨S4x262144, .f32⟩
  | 96 => ⟨S4x262144, .i1⟩
  | 97 => ⟨S_, .f32⟩
  | 98 => ⟨S4x262144, .f32⟩
  | 99 => ⟨S4x262144, .i1⟩
  | 100 => ⟨S4x262144, .i1⟩
  | 101 => ⟨S_, .f32⟩
  | 102 => ⟨S4x262144, .f32⟩
  | 103 => ⟨S4x262144, .i1⟩
  | 104 => ⟨S4x262144, .i1⟩
  | 105 => ⟨S_, .f32⟩
  | 106 => ⟨S4x262144, .f32⟩
  | 107 => ⟨S4x262144, .i1⟩
  | 108 => ⟨S4x262144, .i1⟩
  | 109 => ⟨S4x262144, .f32⟩
  | 110 => ⟨S_, .i32⟩
  | 111 => ⟨S4x262144, .i32⟩
  | 112 => ⟨S4x262144, .i1⟩
  | 113 => ⟨S_, .i32⟩
  | 114 => ⟨S4x262144, .i32⟩
  | 115 => ⟨S4x262144, .i32⟩
  | 116 => ⟨S4x262144, .i32⟩
  | 117 => ⟨S_, .i32⟩
  | 118 => ⟨S4x262144, .i32⟩
  | 119 => ⟨S4x262144, .i1⟩
  | 120 => ⟨S_, .i32⟩
  | 121 => ⟨S4x262144, .i32⟩
  | 122 => ⟨S4x262144, .i32⟩
  | 123 => ⟨S4x262144, .i32⟩
  | 124 => ⟨S4x262144x1, .i32⟩
  | 125 => ⟨S4x262144x1, .i32⟩
  | 126 => ⟨S4x262144x2, .i32⟩
  | 127 => ⟨S4x1x262144, .f32⟩
  | _ => ⟨S4x1x512x512, .f32⟩

abbrev hbmTy0_3 (i : Nat) : BufTy := match i % 128 with
  | 0 => ⟨S4x1x262144, .f32⟩
  | 1 => ⟨S4x1x262144, .f32⟩
  | 2 => ⟨S4x1x262144, .f32⟩
  | 3 => ⟨S4x1x262144, .f32⟩
  | 4 => ⟨S_, .f32⟩
  | 5 => ⟨S_, .f32⟩
  | 6 => ⟨S_, .f32⟩
  | 7 => ⟨S4x262144, .f32⟩
  | 8 => ⟨S4x262144, .f32⟩
  | 9 => ⟨S_, .f32⟩
  | 10 => ⟨S4x262144, .f32⟩
  | 11 => ⟨S4x262144, .f32⟩
  | 12 => ⟨S4x262144, .i32⟩
  | 13 => ⟨S_, .f32⟩
  | 14 => ⟨S_, .f32⟩
  | 15 => ⟨S_, .f32⟩
  | 16 => ⟨S4x262144, .f32⟩
  | 17 => ⟨S4x262144, .f32⟩
  | 18 => ⟨S_, .f32⟩
  | 19 => ⟨S4x262144, .f32⟩
  | 20 => ⟨S4x262144, .f32⟩
  | 21 => ⟨S4x262144, .i32⟩
  | 22 => ⟨S_, .f32⟩
  | 23 => ⟨S4x262144, .f32⟩
  | 24 => ⟨S4x262144, .i1⟩
  | 25 => ⟨S_, .f32⟩
  | 26 => ⟨S4x262144, .f32⟩
  | 27 => ⟨S4x262144, .i1⟩
  | 28 => ⟨S4x262144, .i1⟩
  | 29 => ⟨S_, .f32⟩
  | 30 => ⟨S4x262144, .f32⟩
  | 31 => ⟨S4x262144, .i1⟩
  | 32 => ⟨S4x262144, .i1⟩
  | 33 => ⟨S_, .f32⟩
  | 34 => ⟨S4x262144, .f32⟩
  | 35 => ⟨S4x262144, .i1⟩
  | 36 => ⟨S4x262144, .i1⟩
  | 37 => ⟨S4x262144, .f32⟩
  | 38 => ⟨S_, .i32⟩
  | 39 => ⟨S4x262144, .i32⟩
  | 40 => ⟨S4x262144, .i1⟩
  | 41 => ⟨S_, .i32⟩
  | 42 => ⟨S4x262144, .i32⟩
  | 43 => ⟨S4x262144, .i32⟩
  | 44 => ⟨S4x262144, .i32⟩
  | 45 => ⟨S_, .i32⟩
  | 46 => ⟨S4x262144, .i32⟩
  | 47 => ⟨S4x262144, .i1⟩
  | 48 => ⟨S_, .i32⟩
  | 49 => ⟨S4x262144, .i32⟩
  | 50 => ⟨S4x262144, .i32⟩
  | 51 => ⟨S4x262144, .i32⟩
  | 52 => ⟨S4x262144x1, .i32⟩
  | 53 => ⟨S4x262144x1, .i32⟩
  | 54 => ⟨S4x262144x2, .i32⟩
  | 55 => ⟨S4x1x262144, .f32⟩
  | 56 => ⟨S4x1x262144, .f32⟩
  | 57 => ⟨S4x1x262144, .f32⟩
  | 58 => ⟨S4x1x262144, .f32⟩
  | 59 => ⟨S4x1x262144, .f32⟩
  | 60 => ⟨S4x1x262144, .f32⟩
  | 61 => ⟨S_, .f32⟩
  | 62 => ⟨S_, .f32⟩
  | 63 => ⟨S_, .f32⟩
  | 64 => ⟨S4x262144, .f32⟩
  | 65 => ⟨S4x262144, .f32⟩
  | 66 => ⟨S_, .f32⟩
  | 67 => ⟨S4x262144, .f32⟩
  | 68 => ⟨S4x262144, .f32⟩
  | 69 => ⟨S4x262144, .i32⟩
  | 70 => ⟨S_, .f32⟩
  | 71 => ⟨S_, .f32⟩
  | 72 => ⟨S_, .f32⟩
  | 73 => ⟨S4x262144, .f32⟩
  | 74 => ⟨S4x262144, .f32⟩
  | 75 => ⟨S_, .f32⟩
  | 76 => ⟨S4x262144, .f32⟩
  | 77 => ⟨S4x262144, .f32⟩
  | 78 => ⟨S4x262144, .i32⟩
  | 79 => ⟨S_, .f32⟩
  | 80 => ⟨S4x262144, .f32⟩
  | 81 => ⟨S4x262144, .i1⟩
  | 82 => ⟨S_, .f32⟩
  | 83 => ⟨S4x262144, .f32⟩
  | 84 => ⟨S4x262144, .i1⟩
  | 85 => ⟨S4x262144, .i1⟩
  | 86 => ⟨S_, .f32⟩
  | 87 => ⟨S4x262144, .f32⟩
  | 88 => ⟨S4x262144, .i1⟩
  | 89 => ⟨S4x262144, .i1⟩
  | 90 => ⟨S_, .f32⟩
  | 91 => ⟨S4x262144, .f32⟩
  | 92 => ⟨S4x262144, .i1⟩
  | 93 => ⟨S4x262144, .i1⟩
  | 94 => ⟨S4x262144, .f32⟩
  | 95 => ⟨S_, .i32⟩
  | 96 => ⟨S4x262144, .i32⟩
  | 97 => ⟨S4x262144, .i1⟩
  | 98 => ⟨S_, .i32⟩
  | 99 => ⟨S4x262144, .i32⟩
  | 100 => ⟨S4x262144, .i32⟩
  | 101 => ⟨S4x262144, .i32⟩
  | 102 => ⟨S_, .i32⟩
  | 103 => ⟨S4x262144, .i32⟩
  | 104 => ⟨S4x262144, .i1⟩
  | 105 => ⟨S_, .i32⟩
  | 106 => ⟨S4x262144, .i32⟩
  | 107 => ⟨S4x262144, .i32⟩
  | 108 => ⟨S4x262144, .i32⟩
  | 109 => ⟨S4x262144x1, .i32⟩
  | 110 => ⟨S4x262144x1, .i32⟩
  | 111 => ⟨S4x262144x2, .i32⟩
  | 112 => ⟨S4x1x262144, .f32⟩
  | 113 => ⟨S4x1x262144, .f32⟩
  | 114 => ⟨S4x1x262144, .f32⟩
  | 115 => ⟨S4x1x262144, .f32⟩
  | 116 => ⟨S4x1x262144, .f32⟩
  | 117 => ⟨S4x1x262144, .f32⟩
  | 118 => ⟨S_, .f32⟩
  | 119 => ⟨S_, .f32⟩
  | 120 => ⟨S_, .f32⟩
  | 121 => ⟨S4x262144, .f32⟩
  | 122 => ⟨S4x262144, .f32⟩
  | 123 => ⟨S_, .f32⟩
  | 124 => ⟨S4x262144, .f32⟩
  | 125 => ⟨S4x262144, .f32⟩
  | 126 => ⟨S4x262144, .i32⟩
  | 127 => ⟨S_, .f32⟩
  | _ => ⟨S4x1x512x512, .f32⟩

abbrev hbmTy0_4 (i : Nat) : BufTy := match i % 128 with
  | 0 => ⟨S_, .f32⟩
  | 1 => ⟨S_, .f32⟩
  | 2 => ⟨S4x262144, .f32⟩
  | 3 => ⟨S4x262144, .f32⟩
  | 4 => ⟨S_, .f32⟩
  | 5 => ⟨S4x262144, .f32⟩
  | 6 => ⟨S4x262144, .f32⟩
  | 7 => ⟨S4x262144, .i32⟩
  | 8 => ⟨S_, .f32⟩
  | 9 => ⟨S4x262144, .f32⟩
  | 10 => ⟨S4x262144, .i1⟩
  | 11 => ⟨S_, .f32⟩
  | 12 => ⟨S4x262144, .f32⟩
  | 13 => ⟨S4x262144, .i1⟩
  | 14 => ⟨S4x262144, .i1⟩
  | 15 => ⟨S_, .f32⟩
  | 16 => ⟨S4x262144, .f32⟩
  | 17 => ⟨S4x262144, .i1⟩
  | 18 => ⟨S4x262144, .i1⟩
  | 19 => ⟨S_, .f32⟩
  | 20 => ⟨S4x262144, .f32⟩
  | 21 => ⟨S4x262144, .i1⟩
  | 22 => ⟨S4x262144, .i1⟩
  | 23 => ⟨S4x262144, .f32⟩
  | 24 => ⟨S_, .i32⟩
  | 25 => ⟨S4x262144, .i32⟩
  | 26 => ⟨S4x262144, .i1⟩
  | 27 => ⟨S_, .i32⟩
  | 28 => ⟨S4x262144, .i32⟩
  | 29 => ⟨S4x262144, .i32⟩
  | 30 => ⟨S4x262144, .i32⟩
  | 31 => ⟨S_, .i32⟩
  | 32 => ⟨S4x262144, .i32⟩
  | 33 => ⟨S4x262144, .i1⟩
  | 34 => ⟨S_, .i32⟩
  | 35 => ⟨S4x262144, .i32⟩
  | 36 => ⟨S4x262144, .i32⟩
  | 37 => ⟨S4x262144, .i32⟩
  | 38 => ⟨S4x262144x1, .i32⟩
  | 39 => ⟨S4x262144x1, .i32⟩
  | 40 => ⟨S4x262144x2, .i32⟩
  | 41 => ⟨S4x1x262144, .f32⟩
  | 42 => ⟨S4x1x262144, .f32⟩
  | 43 => ⟨S4x1x262144, .f32⟩
  | 44 => ⟨S4x1x262144, .f32⟩
  | 45 => ⟨S4x1x262144, .f32⟩
  | 46 => ⟨S4x1x512x512, .f32⟩
  | 47 => ⟨S_, .f32⟩
  | 48 => ⟨S4x1x512x512, .f32⟩
  | 49 => ⟨S4x1x512x512, .i1⟩
  | 50 => ⟨S4x1x512x512, .f32⟩
  | 51 => ⟨S4x512x512, .f32⟩
  | 52 => ⟨S4x512x512, .f32⟩
  | 53 => ⟨S4x512x512, .f32⟩
  | 54 => ⟨S4x512x512, .f32⟩
  | 55 => ⟨S4x262144, .f32⟩
  | 56 => ⟨S4x512, .f32⟩
  | 57 => ⟨S4x512, .i32⟩
  | 58 => ⟨S_, .i32⟩
  | 59 => ⟨S_, .i32⟩
  | 60 => ⟨S4x512, .i32⟩
  | 61 => ⟨S4x512, .i32⟩
  | 62 => ⟨S4x512, .i32⟩
  | 63 => ⟨S_, .i32⟩
  | 64 => ⟨S4x512, .i32⟩
  | 65 => ⟨S4x512, .i1⟩
  | 66 => ⟨S4x512, .i32⟩
  | 67 => ⟨S4x512, .i32⟩
  | 68 => ⟨S_, .i32⟩
  | 69 => ⟨S4x512, .i32⟩
  | 70 => ⟨S4x512, .i1⟩
  | 71 => ⟨S4x512, .i1⟩
  | 72 => ⟨S_, .i32⟩
  | 73 => ⟨S4x512, .i32⟩
  | 74 => ⟨S4x512, .i32⟩
  | 75 => ⟨S4x512, .i32⟩
  | 76 => ⟨S_, .i32⟩
  | 77 => ⟨S_, .i32⟩
  | 78 => ⟨S_, .i32⟩
  | 79 => ⟨S_, .i1⟩
  | 80 => ⟨S_, .i32⟩
  | 81 => ⟨S_, .i32⟩
  | 82 => ⟨S4x512, .i32⟩
  | 83 => ⟨S4x512, .i32⟩
  | 84 => ⟨S_, .i32⟩
  | 85 => ⟨S4x512, .i32⟩
  | 86 => ⟨S4x512, .i1⟩
  | 87 => ⟨S_, .i32⟩
  | 88 => ⟨S4x512, .i32⟩
  | 89 => ⟨S4x512, .i1⟩
  | 90 => ⟨S_, .i32⟩
  | 91 => ⟨S_, .i1⟩
  | 92 => ⟨S4x512, .i1⟩
  | 93 => ⟨S4x512, .i1⟩
  | 94 => ⟨S4x512, .i1⟩
  | 95 => ⟨S4x512, .i32⟩
  | 96 => ⟨S4x512, .i32⟩
  | 97 => ⟨S4x512, .i32⟩
  | 98 => ⟨S4x512x1, .i32⟩
  | 99 => ⟨S4x512x1, .i32⟩
  | 100 => ⟨S4x512x2, .i32⟩
  | 101 => ⟨S4x1x512x2, .i32⟩
  | 102 => ⟨S4x262144, .f32⟩
  | 103 => ⟨S4x512, .f32⟩
  | 104 => ⟨S4x512, .i32⟩
  | 105 => ⟨S4, .i32⟩
  | 106 => ⟨S4x512, .i32⟩
  | 107 => ⟨S2048, .i32⟩
  | 108 => ⟨S_, .f32⟩
  | 109 => ⟨S4x262144, .f32⟩
  | 110 => ⟨S2048, .i32⟩
  | 111 => ⟨S_, .i32⟩
  | 112 => ⟨S2048, .i32⟩
  | 113 => ⟨S2048, .i1⟩
  | 114 => ⟨S_, .i32⟩
  | 115 => ⟨S2048, .i32⟩
  | 116 => ⟨S2048, .i32⟩
  | 117 => ⟨S2048, .i32⟩
  | 118 => ⟨S_, .i32⟩
  | 119 => ⟨S2048, .i32⟩
  | 120 => ⟨S2048, .i1⟩
  | 121 => ⟨S_, .i32⟩
  | 122 => ⟨S2048, .i32⟩
  | 123 => ⟨S2048, .i32⟩
  | 124 => ⟨S2048, .i32⟩
  | 125 => ⟨S2048x1, .i32⟩
  | 126 => ⟨S2048x1, .i32⟩
  | 127 => ⟨S2048x2, .i32⟩
  | _ => ⟨S4x1x512x512, .f32⟩

abbrev hbmTy0_5 (i : Nat) : BufTy := match i % 128 with
  | 0 => ⟨S_, .f32⟩
  | 1 => ⟨S2048, .f32⟩
  | 2 => ⟨S4x262144, .f32⟩
  | 3 => ⟨S4x512x512, .f32⟩
  | 4 => ⟨S4x512x512, .f32⟩
  | 5 => ⟨S4x1, .f32⟩
  | 6 => ⟨S4x1, .f32⟩
  | 7 => ⟨S_, .f32⟩
  | 8 => ⟨S_, .f32⟩
  | 9 => ⟨S_, .f32⟩
  | 10 => ⟨S_, .f32⟩
  | 11 => ⟨S_, .f32⟩
  | 12 => ⟨S_, .f32⟩
  | 13 => ⟨S_, .f32⟩
  | _ => ⟨S4x1x512x512, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | _ => ⟨S4x1x512x512, .f32⟩

abbrev bufTy : (tb : Table) → Fin (tcTables nBuf tb) → BufTy
  | .hbm, ⟨i, _⟩ => hbmTy i
  | .local _ .vmem, ⟨0, _⟩ => ⟨S1x512x512, .f32⟩
  | .local _ .vmem, ⟨1, _⟩ => ⟨S1x512x512, .f32⟩
  | .local _ .vmem, ⟨2, _⟩ => ⟨S1x512x512, .f32⟩
  | .local _ .vmem, ⟨3, _⟩ => ⟨S1x512x512, .f32⟩
  | .local _ .vmem, ⟨4, _⟩ => ⟨S1x512x512, .f32⟩
  | .local _ .vmem, ⟨5, _⟩ => ⟨S1x512x512, .f32⟩
  | .local _ .vmem, ⟨6, _⟩ => ⟨S1x512x512, .f32⟩
  | .local _ .vmem, ⟨7, _⟩ => ⟨S1x512x512, .f32⟩
  | .local _ .vmem, ⟨8, _⟩ => ⟨S1x512x512, .f32⟩
  | .local _ .vmem, ⟨9, _⟩ => ⟨S1x512x512, .f32⟩
  | .local _ .vmem, ⟨10, _⟩ => ⟨S1x512x512, .f32⟩
  | .local _ .vmem, ⟨11, _⟩ => ⟨S1x512x512, .f32⟩
  | .local _ .vmem, ⟨12, _⟩ => ⟨S1x512x512, .f32⟩
  | .local _ .vmem, ⟨13, _⟩ => ⟨S1x512x512, .f32⟩
  | .local _ .vmem, ⟨14, _⟩ => ⟨S1x512x512, .f32⟩
  | .local _ .vmem, ⟨15, _⟩ => ⟨S1x512x512, .f32⟩
  | .local _ .vmem, ⟨16, _⟩ => ⟨S4x1, .f32⟩
  | .local _ .vmem, ⟨17, _⟩ => ⟨S4x1, .f32⟩
  | _, _ => ⟨S4x1x512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_cst_0 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_cst_1 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_cst_2 : Ref sig .tc := ⟨.hbm, 34, rfl⟩
abbrev main_v28 : Ref sig .tc := ⟨.hbm, 35, rfl⟩
abbrev main_v29 : Ref sig .tc := ⟨.hbm, 36, rfl⟩
abbrev main_cst_3 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_cst_4 : Ref sig .tc := ⟨.hbm, 53, rfl⟩
abbrev main_cst_5 : Ref sig .tc := ⟨.hbm, 54, rfl⟩
abbrev main_call0_v0 : Ref sig .tc := ⟨.hbm, 55, rfl⟩
abbrev main_call0_v1 : Ref sig .tc := ⟨.hbm, 56, rfl⟩
abbrev main_call0_v2 : Ref sig .tc := ⟨.hbm, 57, rfl⟩
abbrev main_call0_v3 : Ref sig .tc := ⟨.hbm, 58, rfl⟩
abbrev main_call0_v4 : Ref sig .tc := ⟨.hbm, 59, rfl⟩
abbrev main_v45 : Ref sig .tc := ⟨.hbm, 60, rfl⟩
abbrev main_v46 : Ref sig .tc := ⟨.hbm, 61, rfl⟩
abbrev main_cst_6 : Ref sig .tc := ⟨.hbm, 62, rfl⟩
abbrev main_cst_7 : Ref sig .tc := ⟨.hbm, 63, rfl⟩
abbrev main_call1_v0 : Ref sig .tc := ⟨.hbm, 64, rfl⟩
abbrev main_call1_v1 : Ref sig .tc := ⟨.hbm, 65, rfl⟩
abbrev main_call1_v2 : Ref sig .tc := ⟨.hbm, 66, rfl⟩
abbrev main_call1_v3 : Ref sig .tc := ⟨.hbm, 67, rfl⟩
abbrev main_call1_v4 : Ref sig .tc := ⟨.hbm, 68, rfl⟩
abbrev main_v47 : Ref sig .tc := ⟨.hbm, 69, rfl⟩
abbrev main_v48 : Ref sig .tc := ⟨.hbm, 70, rfl⟩
abbrev main_cst_8 : Ref sig .tc := ⟨.hbm, 71, rfl⟩
abbrev main_v49 : Ref sig .tc := ⟨.hbm, 72, rfl⟩
abbrev main_v50 : Ref sig .tc := ⟨.hbm, 73, rfl⟩
abbrev main_cst_9 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_cst_10 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_cst_11 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_c : Ref sig .tc := ⟨.hbm, 87, rfl⟩
abbrev main_v61 : Ref sig .tc := ⟨.hbm, 88, rfl⟩
abbrev main_v62 : Ref sig .tc := ⟨.hbm, 89, rfl⟩
abbrev main_c_12 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_c_13 : Ref sig .tc := ⟨.hbm, 94, rfl⟩
abbrev main_v66 : Ref sig .tc := ⟨.hbm, 95, rfl⟩
abbrev main_v67 : Ref sig .tc := ⟨.hbm, 96, rfl⟩
abbrev main_c_14 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_cst_15 : Ref sig .tc := ⟨.hbm, 109, rfl⟩
abbrev main_cst_16 : Ref sig .tc := ⟨.hbm, 110, rfl⟩
abbrev main_call2_v0 : Ref sig .tc := ⟨.hbm, 111, rfl⟩
abbrev main_call2_v1 : Ref sig .tc := ⟨.hbm, 112, rfl⟩
abbrev main_call2_v2 : Ref sig .tc := ⟨.hbm, 113, rfl⟩
abbrev main_call2_v3 : Ref sig .tc := ⟨.hbm, 114, rfl⟩
abbrev main_call2_v4 : Ref sig .tc := ⟨.hbm, 115, rfl⟩
abbrev main_v79 : Ref sig .tc := ⟨.hbm, 116, rfl⟩
abbrev main_v80 : Ref sig .tc := ⟨.hbm, 117, rfl⟩
abbrev main_cst_17 : Ref sig .tc := ⟨.hbm, 118, rfl⟩
abbrev main_cst_18 : Ref sig .tc := ⟨.hbm, 119, rfl⟩
abbrev main_call3_v0 : Ref sig .tc := ⟨.hbm, 120, rfl⟩
abbrev main_call3_v1 : Ref sig .tc := ⟨.hbm, 121, rfl⟩
abbrev main_call3_v2 : Ref sig .tc := ⟨.hbm, 122, rfl⟩
abbrev main_call3_v3 : Ref sig .tc := ⟨.hbm, 123, rfl⟩
abbrev main_call3_v4 : Ref sig .tc := ⟨.hbm, 124, rfl⟩
abbrev main_v81 : Ref sig .tc := ⟨.hbm, 125, rfl⟩
abbrev main_v82 : Ref sig .tc := ⟨.hbm, 126, rfl⟩
abbrev main_cst_19 : Ref sig .tc := ⟨.hbm, 127, rfl⟩
abbrev main_v83 : Ref sig .tc := ⟨.hbm, 128, rfl⟩
abbrev main_v84 : Ref sig .tc := ⟨.hbm, 129, rfl⟩
abbrev main_cst_20 : Ref sig .tc := ⟨.hbm, 130, rfl⟩
abbrev main_v85 : Ref sig .tc := ⟨.hbm, 131, rfl⟩
abbrev main_v86 : Ref sig .tc := ⟨.hbm, 132, rfl⟩
abbrev main_v87 : Ref sig .tc := ⟨.hbm, 133, rfl⟩
abbrev main_cst_21 : Ref sig .tc := ⟨.hbm, 134, rfl⟩
abbrev main_v88 : Ref sig .tc := ⟨.hbm, 135, rfl⟩
abbrev main_v89 : Ref sig .tc := ⟨.hbm, 136, rfl⟩
abbrev main_v90 : Ref sig .tc := ⟨.hbm, 137, rfl⟩
abbrev main_cst_22 : Ref sig .tc := ⟨.hbm, 138, rfl⟩
abbrev main_v91 : Ref sig .tc := ⟨.hbm, 139, rfl⟩
abbrev main_v92 : Ref sig .tc := ⟨.hbm, 140, rfl⟩
abbrev main_v93 : Ref sig .tc := ⟨.hbm, 141, rfl⟩
abbrev main_v94 : Ref sig .tc := ⟨.hbm, 142, rfl⟩
abbrev main_c_23 : Ref sig .tc := ⟨.hbm, 143, rfl⟩
abbrev main_v95 : Ref sig .tc := ⟨.hbm, 144, rfl⟩
abbrev main_v96 : Ref sig .tc := ⟨.hbm, 145, rfl⟩
abbrev main_c_24 : Ref sig .tc := ⟨.hbm, 146, rfl⟩
abbrev main_v97 : Ref sig .tc := ⟨.hbm, 147, rfl⟩
abbrev main_v98 : Ref sig .tc := ⟨.hbm, 148, rfl⟩
abbrev main_v99 : Ref sig .tc := ⟨.hbm, 149, rfl⟩
abbrev main_c_25 : Ref sig .tc := ⟨.hbm, 150, rfl⟩
abbrev main_v100 : Ref sig .tc := ⟨.hbm, 151, rfl⟩
abbrev main_v101 : Ref sig .tc := ⟨.hbm, 152, rfl⟩
abbrev main_c_26 : Ref sig .tc := ⟨.hbm, 153, rfl⟩
abbrev main_v102 : Ref sig .tc := ⟨.hbm, 154, rfl⟩
abbrev main_v103 : Ref sig .tc := ⟨.hbm, 155, rfl⟩
abbrev main_v104 : Ref sig .tc := ⟨.hbm, 156, rfl⟩
abbrev main_v105 : Ref sig .tc := ⟨.hbm, 157, rfl⟩
abbrev main_v106 : Ref sig .tc := ⟨.hbm, 158, rfl⟩
abbrev main_v107 : Ref sig .tc := ⟨.hbm, 159, rfl⟩
abbrev main_v108 : Ref sig .tc := ⟨.hbm, 160, rfl⟩
abbrev main_v109 : Ref sig .tc := ⟨.hbm, 161, rfl⟩
abbrev main_v110 : Ref sig .tc := ⟨.hbm, 162, rfl⟩
abbrev main_v111 : Ref sig .tc := ⟨.hbm, 163, rfl⟩
abbrev main_v112 : Ref sig .tc := ⟨.hbm, 164, rfl⟩
abbrev main_v113 : Ref sig .tc := ⟨.hbm, 165, rfl⟩
abbrev main_cst_27 : Ref sig .tc := ⟨.hbm, 166, rfl⟩
abbrev main_cst_28 : Ref sig .tc := ⟨.hbm, 167, rfl⟩
abbrev main_call4_v0 : Ref sig .tc := ⟨.hbm, 168, rfl⟩
abbrev main_call4_v1 : Ref sig .tc := ⟨.hbm, 169, rfl⟩
abbrev main_call4_v2 : Ref sig .tc := ⟨.hbm, 170, rfl⟩
abbrev main_call4_v3 : Ref sig .tc := ⟨.hbm, 171, rfl⟩
abbrev main_call4_v4 : Ref sig .tc := ⟨.hbm, 172, rfl⟩
abbrev main_v114 : Ref sig .tc := ⟨.hbm, 173, rfl⟩
abbrev main_v115 : Ref sig .tc := ⟨.hbm, 174, rfl⟩
abbrev main_cst_29 : Ref sig .tc := ⟨.hbm, 175, rfl⟩
abbrev main_cst_30 : Ref sig .tc := ⟨.hbm, 176, rfl⟩
abbrev main_call5_v0 : Ref sig .tc := ⟨.hbm, 177, rfl⟩
abbrev main_call5_v1 : Ref sig .tc := ⟨.hbm, 178, rfl⟩
abbrev main_call5_v2 : Ref sig .tc := ⟨.hbm, 179, rfl⟩
abbrev main_call5_v3 : Ref sig .tc := ⟨.hbm, 180, rfl⟩
abbrev main_call5_v4 : Ref sig .tc := ⟨.hbm, 181, rfl⟩
abbrev main_v116 : Ref sig .tc := ⟨.hbm, 182, rfl⟩
abbrev main_v117 : Ref sig .tc := ⟨.hbm, 183, rfl⟩
abbrev main_cst_31 : Ref sig .tc := ⟨.hbm, 184, rfl⟩
abbrev main_v118 : Ref sig .tc := ⟨.hbm, 185, rfl⟩
abbrev main_v119 : Ref sig .tc := ⟨.hbm, 186, rfl⟩
abbrev main_cst_32 : Ref sig .tc := ⟨.hbm, 187, rfl⟩
abbrev main_v120 : Ref sig .tc := ⟨.hbm, 188, rfl⟩
abbrev main_v121 : Ref sig .tc := ⟨.hbm, 189, rfl⟩
abbrev main_v122 : Ref sig .tc := ⟨.hbm, 190, rfl⟩
abbrev main_cst_33 : Ref sig .tc := ⟨.hbm, 191, rfl⟩
abbrev main_v123 : Ref sig .tc := ⟨.hbm, 192, rfl⟩
abbrev main_v124 : Ref sig .tc := ⟨.hbm, 193, rfl⟩
abbrev main_v125 : Ref sig .tc := ⟨.hbm, 194, rfl⟩
abbrev main_cst_34 : Ref sig .tc := ⟨.hbm, 195, rfl⟩
abbrev main_v126 : Ref sig .tc := ⟨.hbm, 196, rfl⟩
abbrev main_v127 : Ref sig .tc := ⟨.hbm, 197, rfl⟩
abbrev main_v128 : Ref sig .tc := ⟨.hbm, 198, rfl⟩
abbrev main_v129 : Ref sig .tc := ⟨.hbm, 199, rfl⟩
abbrev main_c_35 : Ref sig .tc := ⟨.hbm, 200, rfl⟩
abbrev main_v130 : Ref sig .tc := ⟨.hbm, 201, rfl⟩
abbrev main_v131 : Ref sig .tc := ⟨.hbm, 202, rfl⟩
abbrev main_c_36 : Ref sig .tc := ⟨.hbm, 203, rfl⟩
abbrev main_v132 : Ref sig .tc := ⟨.hbm, 204, rfl⟩
abbrev main_v133 : Ref sig .tc := ⟨.hbm, 205, rfl⟩
abbrev main_v134 : Ref sig .tc := ⟨.hbm, 206, rfl⟩
abbrev main_c_37 : Ref sig .tc := ⟨.hbm, 207, rfl⟩
abbrev main_v135 : Ref sig .tc := ⟨.hbm, 208, rfl⟩
abbrev main_v136 : Ref sig .tc := ⟨.hbm, 209, rfl⟩
abbrev main_c_38 : Ref sig .tc := ⟨.hbm, 210, rfl⟩
abbrev main_v137 : Ref sig .tc := ⟨.hbm, 211, rfl⟩
abbrev main_v138 : Ref sig .tc := ⟨.hbm, 212, rfl⟩
abbrev main_v139 : Ref sig .tc := ⟨.hbm, 213, rfl⟩
abbrev main_v140 : Ref sig .tc := ⟨.hbm, 214, rfl⟩
abbrev main_v141 : Ref sig .tc := ⟨.hbm, 215, rfl⟩
abbrev main_v142 : Ref sig .tc := ⟨.hbm, 216, rfl⟩
abbrev main_v143 : Ref sig .tc := ⟨.hbm, 217, rfl⟩
abbrev main_v144 : Ref sig .tc := ⟨.hbm, 218, rfl⟩
abbrev main_v145 : Ref sig .tc := ⟨.hbm, 219, rfl⟩
abbrev main_v146 : Ref sig .tc := ⟨.hbm, 220, rfl⟩
abbrev main_v147 : Ref sig .tc := ⟨.hbm, 221, rfl⟩
abbrev main_v148 : Ref sig .tc := ⟨.hbm, 222, rfl⟩
abbrev main_cst_39 : Ref sig .tc := ⟨.hbm, 223, rfl⟩
abbrev main_cst_40 : Ref sig .tc := ⟨.hbm, 224, rfl⟩
abbrev main_call6_v0 : Ref sig .tc := ⟨.hbm, 225, rfl⟩
abbrev main_call6_v1 : Ref sig .tc := ⟨.hbm, 226, rfl⟩
abbrev main_call6_v2 : Ref sig .tc := ⟨.hbm, 227, rfl⟩
abbrev main_call6_v3 : Ref sig .tc := ⟨.hbm, 228, rfl⟩
abbrev main_call6_v4 : Ref sig .tc := ⟨.hbm, 229, rfl⟩
abbrev main_v149 : Ref sig .tc := ⟨.hbm, 230, rfl⟩
abbrev main_v150 : Ref sig .tc := ⟨.hbm, 231, rfl⟩
abbrev main_cst_41 : Ref sig .tc := ⟨.hbm, 232, rfl⟩
abbrev main_cst_42 : Ref sig .tc := ⟨.hbm, 233, rfl⟩
abbrev main_call7_v0 : Ref sig .tc := ⟨.hbm, 234, rfl⟩
abbrev main_call7_v1 : Ref sig .tc := ⟨.hbm, 235, rfl⟩
abbrev main_call7_v2 : Ref sig .tc := ⟨.hbm, 236, rfl⟩
abbrev main_call7_v3 : Ref sig .tc := ⟨.hbm, 237, rfl⟩
abbrev main_call7_v4 : Ref sig .tc := ⟨.hbm, 238, rfl⟩
abbrev main_v151 : Ref sig .tc := ⟨.hbm, 239, rfl⟩
abbrev main_v152 : Ref sig .tc := ⟨.hbm, 240, rfl⟩
abbrev main_cst_43 : Ref sig .tc := ⟨.hbm, 241, rfl⟩
abbrev main_v153 : Ref sig .tc := ⟨.hbm, 242, rfl⟩
abbrev main_v154 : Ref sig .tc := ⟨.hbm, 243, rfl⟩
abbrev main_cst_44 : Ref sig .tc := ⟨.hbm, 244, rfl⟩
abbrev main_v155 : Ref sig .tc := ⟨.hbm, 245, rfl⟩
abbrev main_v156 : Ref sig .tc := ⟨.hbm, 246, rfl⟩
abbrev main_v157 : Ref sig .tc := ⟨.hbm, 247, rfl⟩
abbrev main_cst_45 : Ref sig .tc := ⟨.hbm, 248, rfl⟩
abbrev main_v158 : Ref sig .tc := ⟨.hbm, 249, rfl⟩
abbrev main_v159 : Ref sig .tc := ⟨.hbm, 250, rfl⟩
abbrev main_v160 : Ref sig .tc := ⟨.hbm, 251, rfl⟩
abbrev main_cst_46 : Ref sig .tc := ⟨.hbm, 252, rfl⟩
abbrev main_v161 : Ref sig .tc := ⟨.hbm, 253, rfl⟩
abbrev main_v162 : Ref sig .tc := ⟨.hbm, 254, rfl⟩
abbrev main_v163 : Ref sig .tc := ⟨.hbm, 255, rfl⟩
abbrev main_v164 : Ref sig .tc := ⟨.hbm, 256, rfl⟩
abbrev main_c_47 : Ref sig .tc := ⟨.hbm, 257, rfl⟩
abbrev main_v165 : Ref sig .tc := ⟨.hbm, 258, rfl⟩
abbrev main_v166 : Ref sig .tc := ⟨.hbm, 259, rfl⟩
abbrev main_c_48 : Ref sig .tc := ⟨.hbm, 260, rfl⟩
abbrev main_v167 : Ref sig .tc := ⟨.hbm, 261, rfl⟩
abbrev main_v168 : Ref sig .tc := ⟨.hbm, 262, rfl⟩
abbrev main_v169 : Ref sig .tc := ⟨.hbm, 263, rfl⟩
abbrev main_c_49 : Ref sig .tc := ⟨.hbm, 264, rfl⟩
abbrev main_v170 : Ref sig .tc := ⟨.hbm, 265, rfl⟩
abbrev main_v171 : Ref sig .tc := ⟨.hbm, 266, rfl⟩
abbrev main_c_50 : Ref sig .tc := ⟨.hbm, 267, rfl⟩
abbrev main_v172 : Ref sig .tc := ⟨.hbm, 268, rfl⟩
abbrev main_v173 : Ref sig .tc := ⟨.hbm, 269, rfl⟩
abbrev main_v174 : Ref sig .tc := ⟨.hbm, 270, rfl⟩
abbrev main_v175 : Ref sig .tc := ⟨.hbm, 271, rfl⟩
abbrev main_v176 : Ref sig .tc := ⟨.hbm, 272, rfl⟩
abbrev main_v177 : Ref sig .tc := ⟨.hbm, 273, rfl⟩
abbrev main_v178 : Ref sig .tc := ⟨.hbm, 274, rfl⟩
abbrev main_v179 : Ref sig .tc := ⟨.hbm, 275, rfl⟩
abbrev main_v180 : Ref sig .tc := ⟨.hbm, 276, rfl⟩
abbrev main_v181 : Ref sig .tc := ⟨.hbm, 277, rfl⟩
abbrev main_v182 : Ref sig .tc := ⟨.hbm, 278, rfl⟩
abbrev main_v183 : Ref sig .tc := ⟨.hbm, 279, rfl⟩
abbrev main_cst_51 : Ref sig .tc := ⟨.hbm, 280, rfl⟩
abbrev main_v184 : Ref sig .tc := ⟨.hbm, 281, rfl⟩
abbrev main_v185 : Ref sig .tc := ⟨.hbm, 282, rfl⟩
abbrev main_v186 : Ref sig .tc := ⟨.hbm, 283, rfl⟩
abbrev main_v187 : Ref sig .tc := ⟨.hbm, 284, rfl⟩
abbrev main_v188 : Ref sig .tc := ⟨.hbm, 285, rfl⟩
abbrev main_v189 : Ref sig .tc := ⟨.hbm, 286, rfl⟩
abbrev main_v190 : Ref sig .tc := ⟨.hbm, 287, rfl⟩
abbrev main_cst_52 : Ref sig .tc := ⟨.hbm, 288, rfl⟩
abbrev main_v191 : Ref sig .tc := ⟨.hbm, 289, rfl⟩
abbrev main_v192 : Ref sig .tc := ⟨.hbm, 290, rfl⟩
abbrev main_v193 : Ref sig .tc := ⟨.hbm, 291, rfl⟩
abbrev main_v194 : Ref sig .tc := ⟨.hbm, 292, rfl⟩
abbrev main_v195 : Ref sig .tc := ⟨.hbm, 293, rfl⟩
abbrev main_v196 : Ref sig .tc := ⟨.hbm, 294, rfl⟩
abbrev main_v197 : Ref sig .tc := ⟨.hbm, 295, rfl⟩
abbrev main_v198 : Ref sig .tc := ⟨.hbm, 296, rfl⟩
abbrev main_v199 : Ref sig .tc := ⟨.hbm, 297, rfl⟩
abbrev main_v200 : Ref sig .tc := ⟨.hbm, 298, rfl⟩
abbrev main_cst_53 : Ref sig .tc := ⟨.hbm, 299, rfl⟩
abbrev main_v201 : Ref sig .tc := ⟨.hbm, 300, rfl⟩
abbrev main_v202 : Ref sig .tc := ⟨.hbm, 301, rfl⟩
abbrev main_v203 : Ref sig .tc := ⟨.hbm, 302, rfl⟩
abbrev main_v204 : Ref sig .tc := ⟨.hbm, 303, rfl⟩
abbrev main_v205 : Ref sig .tc := ⟨.hbm, 304, rfl⟩
abbrev main_v206 : Ref sig .tc := ⟨.hbm, 305, rfl⟩
abbrev main_v207 : Ref sig .tc := ⟨.hbm, 306, rfl⟩
abbrev main_cst_54 : Ref sig .tc := ⟨.hbm, 307, rfl⟩
abbrev main_v208 : Ref sig .tc := ⟨.hbm, 308, rfl⟩
abbrev main_v209 : Ref sig .tc := ⟨.hbm, 309, rfl⟩
abbrev main_v210 : Ref sig .tc := ⟨.hbm, 310, rfl⟩
abbrev main_v211 : Ref sig .tc := ⟨.hbm, 311, rfl⟩
abbrev main_v212 : Ref sig .tc := ⟨.hbm, 312, rfl⟩
abbrev main_cst_55 : Ref sig .tc := ⟨.hbm, 313, rfl⟩
abbrev main_v213 : Ref sig .tc := ⟨.hbm, 314, rfl⟩
abbrev main_v214 : Ref sig .tc := ⟨.hbm, 315, rfl⟩
abbrev main_cst_56 : Ref sig .tc := ⟨.hbm, 316, rfl⟩
abbrev main_v215 : Ref sig .tc := ⟨.hbm, 317, rfl⟩
abbrev main_v216 : Ref sig .tc := ⟨.hbm, 318, rfl⟩
abbrev main_v217 : Ref sig .tc := ⟨.hbm, 319, rfl⟩
abbrev main_v218 : Ref sig .tc := ⟨.hbm, 320, rfl⟩
abbrev main_v219 : Ref sig .tc := ⟨.hbm, 321, rfl⟩
abbrev main_v220 : Ref sig .tc := ⟨.hbm, 322, rfl⟩
abbrev main_v221 : Ref sig .tc := ⟨.hbm, 323, rfl⟩
abbrev main_v222 : Ref sig .tc := ⟨.hbm, 324, rfl⟩
abbrev main_v223 : Ref sig .tc := ⟨.hbm, 325, rfl⟩
abbrev main_v224 : Ref sig .tc := ⟨.hbm, 326, rfl⟩
abbrev main_v225 : Ref sig .tc := ⟨.hbm, 327, rfl⟩
abbrev main_v226 : Ref sig .tc := ⟨.hbm, 328, rfl⟩
abbrev main_v227 : Ref sig .tc := ⟨.hbm, 329, rfl⟩
abbrev main_v228 : Ref sig .tc := ⟨.hbm, 330, rfl⟩
abbrev main_v229 : Ref sig .tc := ⟨.hbm, 331, rfl⟩
abbrev main_cst_57 : Ref sig .tc := ⟨.hbm, 332, rfl⟩
abbrev main_cst_58 : Ref sig .tc := ⟨.hbm, 333, rfl⟩
abbrev main_call8_v0 : Ref sig .tc := ⟨.hbm, 334, rfl⟩
abbrev main_call8_v1 : Ref sig .tc := ⟨.hbm, 335, rfl⟩
abbrev main_call8_v2 : Ref sig .tc := ⟨.hbm, 336, rfl⟩
abbrev main_call8_v3 : Ref sig .tc := ⟨.hbm, 337, rfl⟩
abbrev main_call8_v4 : Ref sig .tc := ⟨.hbm, 338, rfl⟩
abbrev main_v230 : Ref sig .tc := ⟨.hbm, 339, rfl⟩
abbrev main_v231 : Ref sig .tc := ⟨.hbm, 340, rfl⟩
abbrev main_cst_59 : Ref sig .tc := ⟨.hbm, 341, rfl⟩
abbrev main_cst_60 : Ref sig .tc := ⟨.hbm, 342, rfl⟩
abbrev main_call9_v0 : Ref sig .tc := ⟨.hbm, 343, rfl⟩
abbrev main_call9_v1 : Ref sig .tc := ⟨.hbm, 344, rfl⟩
abbrev main_call9_v2 : Ref sig .tc := ⟨.hbm, 345, rfl⟩
abbrev main_call9_v3 : Ref sig .tc := ⟨.hbm, 346, rfl⟩
abbrev main_call9_v4 : Ref sig .tc := ⟨.hbm, 347, rfl⟩
abbrev main_v232 : Ref sig .tc := ⟨.hbm, 348, rfl⟩
abbrev main_v233 : Ref sig .tc := ⟨.hbm, 349, rfl⟩
abbrev main_cst_61 : Ref sig .tc := ⟨.hbm, 350, rfl⟩
abbrev main_v234 : Ref sig .tc := ⟨.hbm, 351, rfl⟩
abbrev main_v235 : Ref sig .tc := ⟨.hbm, 352, rfl⟩
abbrev main_cst_62 : Ref sig .tc := ⟨.hbm, 353, rfl⟩
abbrev main_v236 : Ref sig .tc := ⟨.hbm, 354, rfl⟩
abbrev main_v237 : Ref sig .tc := ⟨.hbm, 355, rfl⟩
abbrev main_v238 : Ref sig .tc := ⟨.hbm, 356, rfl⟩
abbrev main_cst_63 : Ref sig .tc := ⟨.hbm, 357, rfl⟩
abbrev main_v239 : Ref sig .tc := ⟨.hbm, 358, rfl⟩
abbrev main_v240 : Ref sig .tc := ⟨.hbm, 359, rfl⟩
abbrev main_v241 : Ref sig .tc := ⟨.hbm, 360, rfl⟩
abbrev main_cst_64 : Ref sig .tc := ⟨.hbm, 361, rfl⟩
abbrev main_v242 : Ref sig .tc := ⟨.hbm, 362, rfl⟩
abbrev main_v243 : Ref sig .tc := ⟨.hbm, 363, rfl⟩
abbrev main_v244 : Ref sig .tc := ⟨.hbm, 364, rfl⟩
abbrev main_v245 : Ref sig .tc := ⟨.hbm, 365, rfl⟩
abbrev main_c_65 : Ref sig .tc := ⟨.hbm, 366, rfl⟩
abbrev main_v246 : Ref sig .tc := ⟨.hbm, 367, rfl⟩
abbrev main_v247 : Ref sig .tc := ⟨.hbm, 368, rfl⟩
abbrev main_c_66 : Ref sig .tc := ⟨.hbm, 369, rfl⟩
abbrev main_v248 : Ref sig .tc := ⟨.hbm, 370, rfl⟩
abbrev main_v249 : Ref sig .tc := ⟨.hbm, 371, rfl⟩
abbrev main_v250 : Ref sig .tc := ⟨.hbm, 372, rfl⟩
abbrev main_c_67 : Ref sig .tc := ⟨.hbm, 373, rfl⟩
abbrev main_v251 : Ref sig .tc := ⟨.hbm, 374, rfl⟩
abbrev main_v252 : Ref sig .tc := ⟨.hbm, 375, rfl⟩
abbrev main_c_68 : Ref sig .tc := ⟨.hbm, 376, rfl⟩
abbrev main_v253 : Ref sig .tc := ⟨.hbm, 377, rfl⟩
abbrev main_v254 : Ref sig .tc := ⟨.hbm, 378, rfl⟩
abbrev main_v255 : Ref sig .tc := ⟨.hbm, 379, rfl⟩
abbrev main_v256 : Ref sig .tc := ⟨.hbm, 380, rfl⟩
abbrev main_v257 : Ref sig .tc := ⟨.hbm, 381, rfl⟩
abbrev main_v258 : Ref sig .tc := ⟨.hbm, 382, rfl⟩
abbrev main_v259 : Ref sig .tc := ⟨.hbm, 383, rfl⟩
abbrev main_v260 : Ref sig .tc := ⟨.hbm, 384, rfl⟩
abbrev main_v261 : Ref sig .tc := ⟨.hbm, 385, rfl⟩
abbrev main_v262 : Ref sig .tc := ⟨.hbm, 386, rfl⟩
abbrev main_v263 : Ref sig .tc := ⟨.hbm, 387, rfl⟩
abbrev main_cst_69 : Ref sig .tc := ⟨.hbm, 388, rfl⟩
abbrev main_cst_70 : Ref sig .tc := ⟨.hbm, 389, rfl⟩
abbrev main_call10_v0 : Ref sig .tc := ⟨.hbm, 390, rfl⟩
abbrev main_call10_v1 : Ref sig .tc := ⟨.hbm, 391, rfl⟩
abbrev main_call10_v2 : Ref sig .tc := ⟨.hbm, 392, rfl⟩
abbrev main_call10_v3 : Ref sig .tc := ⟨.hbm, 393, rfl⟩
abbrev main_call10_v4 : Ref sig .tc := ⟨.hbm, 394, rfl⟩
abbrev main_v264 : Ref sig .tc := ⟨.hbm, 395, rfl⟩
abbrev main_v265 : Ref sig .tc := ⟨.hbm, 396, rfl⟩
abbrev main_cst_71 : Ref sig .tc := ⟨.hbm, 397, rfl⟩
abbrev main_cst_72 : Ref sig .tc := ⟨.hbm, 398, rfl⟩
abbrev main_call11_v0 : Ref sig .tc := ⟨.hbm, 399, rfl⟩
abbrev main_call11_v1 : Ref sig .tc := ⟨.hbm, 400, rfl⟩
abbrev main_call11_v2 : Ref sig .tc := ⟨.hbm, 401, rfl⟩
abbrev main_call11_v3 : Ref sig .tc := ⟨.hbm, 402, rfl⟩
abbrev main_call11_v4 : Ref sig .tc := ⟨.hbm, 403, rfl⟩
abbrev main_v266 : Ref sig .tc := ⟨.hbm, 404, rfl⟩
abbrev main_v267 : Ref sig .tc := ⟨.hbm, 405, rfl⟩
abbrev main_cst_73 : Ref sig .tc := ⟨.hbm, 406, rfl⟩
abbrev main_v268 : Ref sig .tc := ⟨.hbm, 407, rfl⟩
abbrev main_v269 : Ref sig .tc := ⟨.hbm, 408, rfl⟩
abbrev main_cst_74 : Ref sig .tc := ⟨.hbm, 409, rfl⟩
abbrev main_v270 : Ref sig .tc := ⟨.hbm, 410, rfl⟩
abbrev main_v271 : Ref sig .tc := ⟨.hbm, 411, rfl⟩
abbrev main_v272 : Ref sig .tc := ⟨.hbm, 412, rfl⟩
abbrev main_cst_75 : Ref sig .tc := ⟨.hbm, 413, rfl⟩
abbrev main_v273 : Ref sig .tc := ⟨.hbm, 414, rfl⟩
abbrev main_v274 : Ref sig .tc := ⟨.hbm, 415, rfl⟩
abbrev main_v275 : Ref sig .tc := ⟨.hbm, 416, rfl⟩
abbrev main_cst_76 : Ref sig .tc := ⟨.hbm, 417, rfl⟩
abbrev main_v276 : Ref sig .tc := ⟨.hbm, 418, rfl⟩
abbrev main_v277 : Ref sig .tc := ⟨.hbm, 419, rfl⟩
abbrev main_v278 : Ref sig .tc := ⟨.hbm, 420, rfl⟩
abbrev main_v279 : Ref sig .tc := ⟨.hbm, 421, rfl⟩
abbrev main_c_77 : Ref sig .tc := ⟨.hbm, 422, rfl⟩
abbrev main_v280 : Ref sig .tc := ⟨.hbm, 423, rfl⟩
abbrev main_v281 : Ref sig .tc := ⟨.hbm, 424, rfl⟩
abbrev main_c_78 : Ref sig .tc := ⟨.hbm, 425, rfl⟩
abbrev main_v282 : Ref sig .tc := ⟨.hbm, 426, rfl⟩
abbrev main_v283 : Ref sig .tc := ⟨.hbm, 427, rfl⟩
abbrev main_v284 : Ref sig .tc := ⟨.hbm, 428, rfl⟩
abbrev main_c_79 : Ref sig .tc := ⟨.hbm, 429, rfl⟩
abbrev main_v285 : Ref sig .tc := ⟨.hbm, 430, rfl⟩
abbrev main_v286 : Ref sig .tc := ⟨.hbm, 431, rfl⟩
abbrev main_c_80 : Ref sig .tc := ⟨.hbm, 432, rfl⟩
abbrev main_v287 : Ref sig .tc := ⟨.hbm, 433, rfl⟩
abbrev main_v288 : Ref sig .tc := ⟨.hbm, 434, rfl⟩
abbrev main_v289 : Ref sig .tc := ⟨.hbm, 435, rfl⟩
abbrev main_v290 : Ref sig .tc := ⟨.hbm, 436, rfl⟩
abbrev main_v291 : Ref sig .tc := ⟨.hbm, 437, rfl⟩
abbrev main_v292 : Ref sig .tc := ⟨.hbm, 438, rfl⟩
abbrev main_v293 : Ref sig .tc := ⟨.hbm, 439, rfl⟩
abbrev main_v294 : Ref sig .tc := ⟨.hbm, 440, rfl⟩
abbrev main_v295 : Ref sig .tc := ⟨.hbm, 441, rfl⟩
abbrev main_v296 : Ref sig .tc := ⟨.hbm, 442, rfl⟩
abbrev main_v297 : Ref sig .tc := ⟨.hbm, 443, rfl⟩
abbrev main_v298 : Ref sig .tc := ⟨.hbm, 444, rfl⟩
abbrev main_cst_81 : Ref sig .tc := ⟨.hbm, 445, rfl⟩
abbrev main_cst_82 : Ref sig .tc := ⟨.hbm, 446, rfl⟩
abbrev main_call12_v0 : Ref sig .tc := ⟨.hbm, 447, rfl⟩
abbrev main_call12_v1 : Ref sig .tc := ⟨.hbm, 448, rfl⟩
abbrev main_call12_v2 : Ref sig .tc := ⟨.hbm, 449, rfl⟩
abbrev main_call12_v3 : Ref sig .tc := ⟨.hbm, 450, rfl⟩
abbrev main_call12_v4 : Ref sig .tc := ⟨.hbm, 451, rfl⟩
abbrev main_v299 : Ref sig .tc := ⟨.hbm, 452, rfl⟩
abbrev main_v300 : Ref sig .tc := ⟨.hbm, 453, rfl⟩
abbrev main_cst_83 : Ref sig .tc := ⟨.hbm, 454, rfl⟩
abbrev main_cst_84 : Ref sig .tc := ⟨.hbm, 455, rfl⟩
abbrev main_call13_v0 : Ref sig .tc := ⟨.hbm, 456, rfl⟩
abbrev main_call13_v1 : Ref sig .tc := ⟨.hbm, 457, rfl⟩
abbrev main_call13_v2 : Ref sig .tc := ⟨.hbm, 458, rfl⟩
abbrev main_call13_v3 : Ref sig .tc := ⟨.hbm, 459, rfl⟩
abbrev main_call13_v4 : Ref sig .tc := ⟨.hbm, 460, rfl⟩
abbrev main_v301 : Ref sig .tc := ⟨.hbm, 461, rfl⟩
abbrev main_v302 : Ref sig .tc := ⟨.hbm, 462, rfl⟩
abbrev main_cst_85 : Ref sig .tc := ⟨.hbm, 463, rfl⟩
abbrev main_v303 : Ref sig .tc := ⟨.hbm, 464, rfl⟩
abbrev main_v304 : Ref sig .tc := ⟨.hbm, 465, rfl⟩
abbrev main_cst_86 : Ref sig .tc := ⟨.hbm, 466, rfl⟩
abbrev main_v305 : Ref sig .tc := ⟨.hbm, 467, rfl⟩
abbrev main_v306 : Ref sig .tc := ⟨.hbm, 468, rfl⟩
abbrev main_v307 : Ref sig .tc := ⟨.hbm, 469, rfl⟩
abbrev main_cst_87 : Ref sig .tc := ⟨.hbm, 470, rfl⟩
abbrev main_v308 : Ref sig .tc := ⟨.hbm, 471, rfl⟩
abbrev main_v309 : Ref sig .tc := ⟨.hbm, 472, rfl⟩
abbrev main_v310 : Ref sig .tc := ⟨.hbm, 473, rfl⟩
abbrev main_cst_88 : Ref sig .tc := ⟨.hbm, 474, rfl⟩
abbrev main_v311 : Ref sig .tc := ⟨.hbm, 475, rfl⟩
abbrev main_v312 : Ref sig .tc := ⟨.hbm, 476, rfl⟩
abbrev main_v313 : Ref sig .tc := ⟨.hbm, 477, rfl⟩
abbrev main_v314 : Ref sig .tc := ⟨.hbm, 478, rfl⟩
abbrev main_c_89 : Ref sig .tc := ⟨.hbm, 479, rfl⟩
abbrev main_v315 : Ref sig .tc := ⟨.hbm, 480, rfl⟩
abbrev main_v316 : Ref sig .tc := ⟨.hbm, 481, rfl⟩
abbrev main_c_90 : Ref sig .tc := ⟨.hbm, 482, rfl⟩
abbrev main_v317 : Ref sig .tc := ⟨.hbm, 483, rfl⟩
abbrev main_v318 : Ref sig .tc := ⟨.hbm, 484, rfl⟩
abbrev main_v319 : Ref sig .tc := ⟨.hbm, 485, rfl⟩
abbrev main_c_91 : Ref sig .tc := ⟨.hbm, 486, rfl⟩
abbrev main_v320 : Ref sig .tc := ⟨.hbm, 487, rfl⟩
abbrev main_v321 : Ref sig .tc := ⟨.hbm, 488, rfl⟩
abbrev main_c_92 : Ref sig .tc := ⟨.hbm, 489, rfl⟩
abbrev main_v322 : Ref sig .tc := ⟨.hbm, 490, rfl⟩
abbrev main_v323 : Ref sig .tc := ⟨.hbm, 491, rfl⟩
abbrev main_v324 : Ref sig .tc := ⟨.hbm, 492, rfl⟩
abbrev main_v325 : Ref sig .tc := ⟨.hbm, 493, rfl⟩
abbrev main_v326 : Ref sig .tc := ⟨.hbm, 494, rfl⟩
abbrev main_v327 : Ref sig .tc := ⟨.hbm, 495, rfl⟩
abbrev main_v328 : Ref sig .tc := ⟨.hbm, 496, rfl⟩
abbrev main_v329 : Ref sig .tc := ⟨.hbm, 497, rfl⟩
abbrev main_v330 : Ref sig .tc := ⟨.hbm, 498, rfl⟩
abbrev main_v331 : Ref sig .tc := ⟨.hbm, 499, rfl⟩
abbrev main_v332 : Ref sig .tc := ⟨.hbm, 500, rfl⟩
abbrev main_v333 : Ref sig .tc := ⟨.hbm, 501, rfl⟩
abbrev main_cst_93 : Ref sig .tc := ⟨.hbm, 502, rfl⟩
abbrev main_cst_94 : Ref sig .tc := ⟨.hbm, 503, rfl⟩
abbrev main_call14_v0 : Ref sig .tc := ⟨.hbm, 504, rfl⟩
abbrev main_call14_v1 : Ref sig .tc := ⟨.hbm, 505, rfl⟩
abbrev main_call14_v2 : Ref sig .tc := ⟨.hbm, 506, rfl⟩
abbrev main_call14_v3 : Ref sig .tc := ⟨.hbm, 507, rfl⟩
abbrev main_call14_v4 : Ref sig .tc := ⟨.hbm, 508, rfl⟩
abbrev main_v334 : Ref sig .tc := ⟨.hbm, 509, rfl⟩
abbrev main_v335 : Ref sig .tc := ⟨.hbm, 510, rfl⟩
abbrev main_cst_95 : Ref sig .tc := ⟨.hbm, 511, rfl⟩
abbrev main_cst_96 : Ref sig .tc := ⟨.hbm, 512, rfl⟩
abbrev main_call15_v0 : Ref sig .tc := ⟨.hbm, 513, rfl⟩
abbrev main_call15_v1 : Ref sig .tc := ⟨.hbm, 514, rfl⟩
abbrev main_call15_v2 : Ref sig .tc := ⟨.hbm, 515, rfl⟩
abbrev main_call15_v3 : Ref sig .tc := ⟨.hbm, 516, rfl⟩
abbrev main_call15_v4 : Ref sig .tc := ⟨.hbm, 517, rfl⟩
abbrev main_v336 : Ref sig .tc := ⟨.hbm, 518, rfl⟩
abbrev main_v337 : Ref sig .tc := ⟨.hbm, 519, rfl⟩
abbrev main_cst_97 : Ref sig .tc := ⟨.hbm, 520, rfl⟩
abbrev main_v338 : Ref sig .tc := ⟨.hbm, 521, rfl⟩
abbrev main_v339 : Ref sig .tc := ⟨.hbm, 522, rfl⟩
abbrev main_cst_98 : Ref sig .tc := ⟨.hbm, 523, rfl⟩
abbrev main_v340 : Ref sig .tc := ⟨.hbm, 524, rfl⟩
abbrev main_v341 : Ref sig .tc := ⟨.hbm, 525, rfl⟩
abbrev main_v342 : Ref sig .tc := ⟨.hbm, 526, rfl⟩
abbrev main_cst_99 : Ref sig .tc := ⟨.hbm, 527, rfl⟩
abbrev main_v343 : Ref sig .tc := ⟨.hbm, 528, rfl⟩
abbrev main_v344 : Ref sig .tc := ⟨.hbm, 529, rfl⟩
abbrev main_v345 : Ref sig .tc := ⟨.hbm, 530, rfl⟩
abbrev main_cst_100 : Ref sig .tc := ⟨.hbm, 531, rfl⟩
abbrev main_v346 : Ref sig .tc := ⟨.hbm, 532, rfl⟩
abbrev main_v347 : Ref sig .tc := ⟨.hbm, 533, rfl⟩
abbrev main_v348 : Ref sig .tc := ⟨.hbm, 534, rfl⟩
abbrev main_v349 : Ref sig .tc := ⟨.hbm, 535, rfl⟩
abbrev main_c_101 : Ref sig .tc := ⟨.hbm, 536, rfl⟩
abbrev main_v350 : Ref sig .tc := ⟨.hbm, 537, rfl⟩
abbrev main_v351 : Ref sig .tc := ⟨.hbm, 538, rfl⟩
abbrev main_c_102 : Ref sig .tc := ⟨.hbm, 539, rfl⟩
abbrev main_v352 : Ref sig .tc := ⟨.hbm, 540, rfl⟩
abbrev main_v353 : Ref sig .tc := ⟨.hbm, 541, rfl⟩
abbrev main_v354 : Ref sig .tc := ⟨.hbm, 542, rfl⟩
abbrev main_c_103 : Ref sig .tc := ⟨.hbm, 543, rfl⟩
abbrev main_v355 : Ref sig .tc := ⟨.hbm, 544, rfl⟩
abbrev main_v356 : Ref sig .tc := ⟨.hbm, 545, rfl⟩
abbrev main_c_104 : Ref sig .tc := ⟨.hbm, 546, rfl⟩
abbrev main_v357 : Ref sig .tc := ⟨.hbm, 547, rfl⟩
abbrev main_v358 : Ref sig .tc := ⟨.hbm, 548, rfl⟩
abbrev main_v359 : Ref sig .tc := ⟨.hbm, 549, rfl⟩
abbrev main_v360 : Ref sig .tc := ⟨.hbm, 550, rfl⟩
abbrev main_v361 : Ref sig .tc := ⟨.hbm, 551, rfl⟩
abbrev main_v362 : Ref sig .tc := ⟨.hbm, 552, rfl⟩
abbrev main_v363 : Ref sig .tc := ⟨.hbm, 553, rfl⟩
abbrev main_v364 : Ref sig .tc := ⟨.hbm, 554, rfl⟩
abbrev main_v365 : Ref sig .tc := ⟨.hbm, 555, rfl⟩
abbrev main_v366 : Ref sig .tc := ⟨.hbm, 556, rfl⟩
abbrev main_v367 : Ref sig .tc := ⟨.hbm, 557, rfl⟩
abbrev main_v368 : Ref sig .tc := ⟨.hbm, 558, rfl⟩
abbrev main_cst_105 : Ref sig .tc := ⟨.hbm, 559, rfl⟩
abbrev main_v369 : Ref sig .tc := ⟨.hbm, 560, rfl⟩
abbrev main_v370 : Ref sig .tc := ⟨.hbm, 561, rfl⟩
abbrev main_v371 : Ref sig .tc := ⟨.hbm, 562, rfl⟩
abbrev main_v372 : Ref sig .tc := ⟨.hbm, 563, rfl⟩
abbrev main_v373 : Ref sig .tc := ⟨.hbm, 564, rfl⟩
abbrev main_v374_0 : Ref sig .tc := ⟨.hbm, 565, rfl⟩
abbrev main_v374_1 : Ref sig .tc := ⟨.hbm, 566, rfl⟩
abbrev main_v375 : Ref sig .tc := ⟨.hbm, 567, rfl⟩
abbrev main_values : Ref sig .tc := ⟨.hbm, 568, rfl⟩
abbrev main_indices : Ref sig .tc := ⟨.hbm, 569, rfl⟩
abbrev main_c_106 : Ref sig .tc := ⟨.hbm, 570, rfl⟩
abbrev main_call16_v0 : Ref sig .tc := ⟨.hbm, 571, rfl⟩
abbrev main_call16_v1 : Ref sig .tc := ⟨.hbm, 572, rfl⟩
abbrev main_call16_v2 : Ref sig .tc := ⟨.hbm, 573, rfl⟩
abbrev main_call16_v3 : Ref sig .tc := ⟨.hbm, 574, rfl⟩
abbrev main_call16_v4 : Ref sig .tc := ⟨.hbm, 575, rfl⟩
abbrev main_call16_v5 : Ref sig .tc := ⟨.hbm, 576, rfl⟩
abbrev main_call16_v6 : Ref sig .tc := ⟨.hbm, 577, rfl⟩
abbrev main_call16_v7 : Ref sig .tc := ⟨.hbm, 578, rfl⟩
abbrev main_call16_v8 : Ref sig .tc := ⟨.hbm, 579, rfl⟩
abbrev main_call16_c : Ref sig .tc := ⟨.hbm, 580, rfl⟩
abbrev main_call16_v9 : Ref sig .tc := ⟨.hbm, 581, rfl⟩
abbrev main_call16_v10 : Ref sig .tc := ⟨.hbm, 582, rfl⟩
abbrev main_call16_v11 : Ref sig .tc := ⟨.hbm, 583, rfl⟩
abbrev main_call16_c_0 : Ref sig .tc := ⟨.hbm, 584, rfl⟩
abbrev main_call16_v12 : Ref sig .tc := ⟨.hbm, 585, rfl⟩
abbrev main_call16_v13 : Ref sig .tc := ⟨.hbm, 586, rfl⟩
abbrev main_v376 : Ref sig .tc := ⟨.hbm, 587, rfl⟩
abbrev main_c_107 : Ref sig .tc := ⟨.hbm, 588, rfl⟩
abbrev main_call17_v0 : Ref sig .tc := ⟨.hbm, 589, rfl⟩
abbrev main_call17_c : Ref sig .tc := ⟨.hbm, 590, rfl⟩
abbrev main_call17_v1 : Ref sig .tc := ⟨.hbm, 591, rfl⟩
abbrev main_call17_c_0 : Ref sig .tc := ⟨.hbm, 592, rfl⟩
abbrev main_call17_v2 : Ref sig .tc := ⟨.hbm, 593, rfl⟩
abbrev main_call17_v3 : Ref sig .tc := ⟨.hbm, 594, rfl⟩
abbrev main_call17_v4 : Ref sig .tc := ⟨.hbm, 595, rfl⟩
abbrev main_call17_c_1 : Ref sig .tc := ⟨.hbm, 596, rfl⟩
abbrev main_call17_v5 : Ref sig .tc := ⟨.hbm, 597, rfl⟩
abbrev main_call17_v6 : Ref sig .tc := ⟨.hbm, 598, rfl⟩
abbrev main_call17_c_2 : Ref sig .tc := ⟨.hbm, 599, rfl⟩
abbrev main_call17_v7 : Ref sig .tc := ⟨.hbm, 600, rfl⟩
abbrev main_call17_v8 : Ref sig .tc := ⟨.hbm, 601, rfl⟩
abbrev main_call17_c_3 : Ref sig .tc := ⟨.hbm, 602, rfl⟩
abbrev main_call17_v9 : Ref sig .tc := ⟨.hbm, 603, rfl⟩
abbrev main_call17_v10 : Ref sig .tc := ⟨.hbm, 604, rfl⟩
abbrev main_call17_v11 : Ref sig .tc := ⟨.hbm, 605, rfl⟩
abbrev main_call17_v12 : Ref sig .tc := ⟨.hbm, 606, rfl⟩
abbrev main_call17_v13 : Ref sig .tc := ⟨.hbm, 607, rfl⟩
abbrev main_call17_v14 : Ref sig .tc := ⟨.hbm, 608, rfl⟩
abbrev main_v377 : Ref sig .tc := ⟨.hbm, 609, rfl⟩
abbrev main_v378 : Ref sig .tc := ⟨.hbm, 610, rfl⟩
abbrev main_v379 : Ref sig .tc := ⟨.hbm, 611, rfl⟩
abbrev main_v380 : Ref sig .tc := ⟨.hbm, 612, rfl⟩
abbrev main_v381 : Ref sig .tc := ⟨.hbm, 613, rfl⟩
abbrev main_v382 : Ref sig .tc := ⟨.hbm, 614, rfl⟩
abbrev main_values_108 : Ref sig .tc := ⟨.hbm, 615, rfl⟩
abbrev main_indices_109 : Ref sig .tc := ⟨.hbm, 616, rfl⟩
abbrev main_v383 : Ref sig .tc := ⟨.hbm, 617, rfl⟩
abbrev main_v384 : Ref sig .tc := ⟨.hbm, 618, rfl⟩
abbrev main_v385 : Ref sig .tc := ⟨.hbm, 619, rfl⟩
abbrev main_cst_110 : Ref sig .tc := ⟨.hbm, 620, rfl⟩
abbrev main_v386 : Ref sig .tc := ⟨.hbm, 621, rfl⟩
abbrev main_v387 : Ref sig .tc := ⟨.hbm, 622, rfl⟩
abbrev main_c_111 : Ref sig .tc := ⟨.hbm, 623, rfl⟩
abbrev main_v388 : Ref sig .tc := ⟨.hbm, 624, rfl⟩
abbrev main_v389 : Ref sig .tc := ⟨.hbm, 625, rfl⟩
abbrev main_c_112 : Ref sig .tc := ⟨.hbm, 626, rfl⟩
abbrev main_v390 : Ref sig .tc := ⟨.hbm, 627, rfl⟩
abbrev main_v391 : Ref sig .tc := ⟨.hbm, 628, rfl⟩
abbrev main_v392 : Ref sig .tc := ⟨.hbm, 629, rfl⟩
abbrev main_c_113 : Ref sig .tc := ⟨.hbm, 630, rfl⟩
abbrev main_v393 : Ref sig .tc := ⟨.hbm, 631, rfl⟩
abbrev main_v394 : Ref sig .tc := ⟨.hbm, 632, rfl⟩
abbrev main_c_114 : Ref sig .tc := ⟨.hbm, 633, rfl⟩
abbrev main_v395 : Ref sig .tc := ⟨.hbm, 634, rfl⟩
abbrev main_v396 : Ref sig .tc := ⟨.hbm, 635, rfl⟩
abbrev main_v397 : Ref sig .tc := ⟨.hbm, 636, rfl⟩
abbrev main_v398 : Ref sig .tc := ⟨.hbm, 637, rfl⟩
abbrev main_v399 : Ref sig .tc := ⟨.hbm, 638, rfl⟩
abbrev main_v400 : Ref sig .tc := ⟨.hbm, 639, rfl⟩
abbrev main_cst_115 : Ref sig .tc := ⟨.hbm, 640, rfl⟩
abbrev main_v401 : Ref sig .tc := ⟨.hbm, 641, rfl⟩
abbrev main_v402 : Ref sig .tc := ⟨.hbm, 642, rfl⟩
abbrev main_v403 : Ref sig .tc := ⟨.hbm, 643, rfl⟩
abbrev main_v404 : Ref sig .tc := ⟨.hbm, 644, rfl⟩
abbrev main_v405_0 : Ref sig .tc := ⟨.hbm, 645, rfl⟩
abbrev main_v405_1 : Ref sig .tc := ⟨.hbm, 646, rfl⟩
abbrev main_cst_116 : Ref sig .tc := ⟨.hbm, 647, rfl⟩
abbrev main_v406 : Ref sig .tc := ⟨.hbm, 648, rfl⟩
abbrev main_cst_117 : Ref sig .tc := ⟨.hbm, 649, rfl⟩
abbrev main_v407 : Ref sig .tc := ⟨.hbm, 650, rfl⟩
abbrev main_v408 : Ref sig .tc := ⟨.hbm, 651, rfl⟩
abbrev main_cst_118 : Ref sig .tc := ⟨.hbm, 652, rfl⟩
abbrev main_v409 : Ref sig .tc := ⟨.hbm, 653, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc1_stg3_0 : Ref sig .tc := ⟨.vmem, 14, rfl⟩
abbrev cc1_stg3_1 : Ref sig .tc := ⟨.vmem, 15, rfl⟩
abbrev cc1_stg4_0 : Ref sig .tc := ⟨.vmem, 16, rfl⟩
abbrev cc1_stg5_0 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc1_sem3_0 : DmaSem sig := 14
abbrev cc1_sem3_1 : DmaSem sig := 15
abbrev cc1_sem4_0 : DmaSem sig := 16
abbrev cc1_sem5_0 : DmaSem sig := 17

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![4], ![false]⟩

def k1_off1 (i : grid1.Coords) : Fin 2 → Nat :=
  let arg0 : BitVec 32 := BitVec.ofNat 32 (i 0).val
  let v205 : Index := Scalar.indexCast arg0
  let c0_71 : Index := 0#32
  ![v205.toNat, 0]
def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S1x512x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1x512x512 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1x512x512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S1x512x512 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 1 → Memref sig .tc .vmem S4x1 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S4x1 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]
-- ==== ReferenceIdeal.lean ====
abbrev S4x1x512x512 : Shape := ⟨4, ![4, 1, 512, 512]⟩
abbrev S4x3x3 : Shape := ⟨3, ![4, 3, 3]⟩
abbrev S512 : Shape := ⟨1, ![512]⟩
abbrev S512x512 : Shape := ⟨2, ![512, 512]⟩
abbrev S262144 : Shape := ⟨1, ![262144]⟩
abbrev S_ : Shape := ⟨0, ![]⟩
abbrev S1x262144 : Shape := ⟨2, ![1, 262144]⟩
abbrev S3x262144 : Shape := ⟨2, ![3, 262144]⟩
abbrev S4x3x262144 : Shape := ⟨3, ![4, 3, 262144]⟩
abbrev S4x1x262144 : Shape := ⟨3, ![4, 1, 262144]⟩
abbrev S4x262144 : Shape := ⟨2, ![4, 262144]⟩
abbrev S4x262144x1 : Shape := ⟨3, ![4, 262144, 1]⟩
abbrev S4x262144x2 : Shape := ⟨3, ![4, 262144, 2]⟩
abbrev S1 : Shape := ⟨1, ![1]⟩
abbrev S2 : Shape := ⟨1, ![2]⟩
abbrev S496x496 : Shape := ⟨2, ![496, 496]⟩
abbrev S1x1x512x512 : Shape := ⟨4, ![1, 1, 512, 512]⟩
abbrev S4x512 : Shape := ⟨2, ![4, 512]⟩
abbrev S4 : Shape := ⟨1, ![4]⟩
abbrev S2048 : Shape := ⟨1, ![2048]⟩
abbrev S2048x1 : Shape := ⟨2, ![2048, 1]⟩
abbrev S2048x2 : Shape := ⟨2, ![2048, 2]⟩
abbrev S4x512x1 : Shape := ⟨3, ![4, 512, 1]⟩
abbrev S4x512x2 : Shape := ⟨3, ![4, 512, 2]⟩
abbrev S4x1x512x2 : Shape := ⟨4, ![4, 1, 512, 2]⟩
abbrev S15 : Shape := ⟨1, ![15]⟩
abbrev S15x1 : Shape := ⟨2, ![15, 1]⟩
abbrev S1x15 : Shape := ⟨2, ![1, 15]⟩
abbrev S15x15 : Shape := ⟨2, ![15, 15]⟩
abbrev S4x512x512 : Shape := ⟨3, ![4, 512, 512]⟩
abbrev S4x526x526 : Shape := ⟨3, ![4, 526, 526]⟩
abbrev S4x512x526 : Shape := ⟨3, ![4, 512, 526]⟩
abbrev S1x4x512x526 : Shape := ⟨4, ![1, 4, 512, 526]⟩
abbrev S15x4x512x526 : Shape := ⟨4, ![15, 4, 512, 526]⟩
abbrev S15x4x512x512 : Shape := ⟨4, ![15, 4, 512, 512]⟩
abbrev S15x1x4x512x512 : Shape := ⟨5, ![15, 1, 4, 512, 512]⟩
abbrev S15x15x4x512x512 : Shape := ⟨5, ![15, 15, 4, 512, 512]⟩
abbrev S15x15x1x1x1 : Shape := ⟨5, ![15, 15, 1, 1, 1]⟩

abbrev nBuf : Space → Nat
  | .hbm => 892
  | .vmem => 0
  | .smem => 0
  | _ => 0

abbrev hbmTy0_0 (i : Nat) : BufTy := match i % 128 with
  | 0 => ⟨S4x1x512x512, .f32⟩
  | 1 => ⟨S4x1x512x512, .f32⟩
  | 2 => ⟨S4x3x3, .f32⟩
  | 3 => ⟨S512, .f32⟩
  | 4 => ⟨S512, .f32⟩
  | 5 => ⟨S512x512, .f32⟩
  | 6 => ⟨S512x512, .f32⟩
  | 7 => ⟨S262144, .f32⟩
  | 8 => ⟨S262144, .f32⟩
  | 9 => ⟨S_, .f32⟩
  | 10 => ⟨S262144, .f32⟩
  | 11 => ⟨S1x262144, .f32⟩
  | 12 => ⟨S1x262144, .f32⟩
  | 13 => ⟨S1x262144, .f32⟩
  | 14 => ⟨S3x262144, .f32⟩
  | 15 => ⟨S4x3x262144, .f32⟩
  | 16 => ⟨S4x1x262144, .f32⟩
  | 17 => ⟨S4x262144, .f32⟩
  | 18 => ⟨S4x1x262144, .f32⟩
  | 19 => ⟨S4x262144, .f32⟩
  | 20 => ⟨S_, .f32⟩
  | 21 => ⟨S4x262144, .f32⟩
  | 22 => ⟨S4x262144, .f32⟩
  | 23 => ⟨S4x262144, .f32⟩
  | 24 => ⟨S4x1x262144, .f32⟩
  | 25 => ⟨S4x262144, .f32⟩
  | 26 => ⟨S4x1x262144, .f32⟩
  | 27 => ⟨S4x262144, .f32⟩
  | 28 => ⟨S_, .f32⟩
  | 29 => ⟨S4x262144, .f32⟩
  | 30 => ⟨S4x262144, .f32⟩
  | 31 => ⟨S4x262144, .f32⟩
  | 32 => ⟨S4x262144, .f32⟩
  | 33 => ⟨S4x262144, .f32⟩
  | 34 => ⟨S_, .f32⟩
  | 35 => ⟨S4x262144, .f32⟩
  | 36 => ⟨S4x262144, .f32⟩
  | 37 => ⟨S_, .f32⟩
  | 38 => ⟨S4x262144, .f32⟩
  | 39 => ⟨S4x262144, .f32⟩
  | 40 => ⟨S4x262144, .f32⟩
  | 41 => ⟨S4x262144, .f32⟩
  | 42 => ⟨S4x262144, .f32⟩
  | 43 => ⟨S4x262144, .f32⟩
  | 44 => ⟨S4x262144, .f32⟩
  | 45 => ⟨S4x262144, .f32⟩
  | 46 => ⟨S4x262144, .f32⟩
  | 47 => ⟨S4x262144, .f32⟩
  | 48 => ⟨S4x262144, .f32⟩
  | 49 => ⟨S4x262144, .f32⟩
  | 50 => ⟨S4x262144, .f32⟩
  | 51 => ⟨S4x262144, .f32⟩
  | 52 => ⟨S_, .f32⟩
  | 53 => ⟨S_, .f32⟩
  | 54 => ⟨S_, .f32⟩
  | 55 => ⟨S4x262144, .f32⟩
  | 56 => ⟨S4x262144, .f32⟩
  | 57 => ⟨S_, .f32⟩
  | 58 => ⟨S4x262144, .f32⟩
  | 59 => ⟨S4x262144, .f32⟩
  | 60 => ⟨S4x262144, .i32⟩
  | 61 => ⟨S_, .f32⟩
  | 62 => ⟨S_, .f32⟩
  | 63 => ⟨S_, .f32⟩
  | 64 => ⟨S4x262144, .f32⟩
  | 65 => ⟨S4x262144, .f32⟩
  | 66 => ⟨S_, .f32⟩
  | 67 => ⟨S4x262144, .f32⟩
  | 68 => ⟨S4x262144, .f32⟩
  | 69 => ⟨S4x262144, .i32⟩
  | 70 => ⟨S_, .f32⟩
  | 71 => ⟨S4x262144, .f32⟩
  | 72 => ⟨S4x262144, .i1⟩
  | 73 => ⟨S_, .f32⟩
  | 74 => ⟨S4x262144, .f32⟩
  | 75 => ⟨S4x262144, .i1⟩
  | 76 => ⟨S4x262144, .i1⟩
  | 77 => ⟨S_, .f32⟩
  | 78 => ⟨S4x262144, .f32⟩
  | 79 => ⟨S4x262144, .i1⟩
  | 80 => ⟨S4x262144, .i1⟩
  | 81 => ⟨S_, .f32⟩
  | 82 => ⟨S4x262144, .f32⟩
  | 83 => ⟨S4x262144, .i1⟩
  | 84 => ⟨S4x262144, .i1⟩
  | 85 => ⟨S4x262144, .f32⟩
  | 86 => ⟨S_, .i32⟩
  | 87 => ⟨S4x262144, .i32⟩
  | 88 => ⟨S4x262144, .i1⟩
  | 89 => ⟨S_, .i32⟩
  | 90 => ⟨S4x262144, .i32⟩
  | 91 => ⟨S4x262144, .i32⟩
  | 92 => ⟨S4x262144, .i32⟩
  | 93 => ⟨S_, .i32⟩
  | 94 => ⟨S4x262144, .i32⟩
  | 95 => ⟨S4x262144, .i1⟩
  | 96 => ⟨S_, .i32⟩
  | 97 => ⟨S4x262144, .i32⟩
  | 98 => ⟨S4x262144, .i32⟩
  | 99 => ⟨S4x262144, .i32⟩
  | 100 => ⟨S4x262144x1, .i32⟩
  | 101 => ⟨S4x262144x1, .i32⟩
  | 102 => ⟨S4x262144x2, .i32⟩
  | 103 => ⟨S4x1x262144, .f32⟩
  | 104 => ⟨S4x1x262144, .f32⟩
  | 105 => ⟨S4x1x262144, .f32⟩
  | 106 => ⟨S_, .f32⟩
  | 107 => ⟨S_, .f32⟩
  | 108 => ⟨S_, .f32⟩
  | 109 => ⟨S4x262144, .f32⟩
  | 110 => ⟨S4x262144, .f32⟩
  | 111 => ⟨S_, .f32⟩
  | 112 => ⟨S4x262144, .f32⟩
  | 113 => ⟨S4x262144, .f32⟩
  | 114 => ⟨S4x262144, .i32⟩
  | 115 => ⟨S_, .f32⟩
  | 116 => ⟨S_, .f32⟩
  | 117 => ⟨S_, .f32⟩
  | 118 => ⟨S4x262144, .f32⟩
  | 119 => ⟨S4x262144, .f32⟩
  | 120 => ⟨S_, .f32⟩
  | 121 => ⟨S4x262144, .f32⟩
  | 122 => ⟨S4x262144, .f32⟩
  | 123 => ⟨S4x262144, .i32⟩
  | 124 => ⟨S_, .f32⟩
  | 125 => ⟨S4x262144, .f32⟩
  | 126 => ⟨S4x262144, .i1⟩
  | 127 => ⟨S_, .f32⟩
  | _ => ⟨S4x1x512x512, .f32⟩

abbrev hbmTy0_1 (i : Nat) : BufTy := match i % 128 with
  | 0 => ⟨S4x262144, .f32⟩
  | 1 => ⟨S4x262144, .i1⟩
  | 2 => ⟨S4x262144, .i1⟩
  | 3 => ⟨S_, .f32⟩
  | 4 => ⟨S4x262144, .f32⟩
  | 5 => ⟨S4x262144, .i1⟩
  | 6 => ⟨S4x262144, .i1⟩
  | 7 => ⟨S_, .f32⟩
  | 8 => ⟨S4x262144, .f32⟩
  | 9 => ⟨S4x262144, .i1⟩
  | 10 => ⟨S4x262144, .i1⟩
  | 11 => ⟨S4x262144, .f32⟩
  | 12 => ⟨S_, .i32⟩
  | 13 => ⟨S4x262144, .i32⟩
  | 14 => ⟨S4x262144, .i1⟩
  | 15 => ⟨S_, .i32⟩
  | 16 => ⟨S4x262144, .i32⟩
  | 17 => ⟨S4x262144, .i32⟩
  | 18 => ⟨S4x262144, .i32⟩
  | 19 => ⟨S_, .i32⟩
  | 20 => ⟨S4x262144, .i32⟩
  | 21 => ⟨S4x262144, .i1⟩
  | 22 => ⟨S_, .i32⟩
  | 23 => ⟨S4x262144, .i32⟩
  | 24 => ⟨S4x262144, .i32⟩
  | 25 => ⟨S4x262144, .i32⟩
  | 26 => ⟨S4x262144x1, .i32⟩
  | 27 => ⟨S4x262144x1, .i32⟩
  | 28 => ⟨S4x262144x2, .i32⟩
  | 29 => ⟨S4x1x262144, .f32⟩
  | 30 => ⟨S4x1x262144, .f32⟩
  | 31 => ⟨S4x1x262144, .f32⟩
  | 32 => ⟨S_, .f32⟩
  | 33 => ⟨S_, .f32⟩
  | 34 => ⟨S_, .f32⟩
  | 35 => ⟨S4x262144, .f32⟩
  | 36 => ⟨S4x262144, .f32⟩
  | 37 => ⟨S_, .f32⟩
  | 38 => ⟨S4x262144, .f32⟩
  | 39 => ⟨S4x262144, .f32⟩
  | 40 => ⟨S4x262144, .i32⟩
  | 41 => ⟨S_, .f32⟩
  | 42 => ⟨S_, .f32⟩
  | 43 => ⟨S_, .f32⟩
  | 44 => ⟨S4x262144, .f32⟩
  | 45 => ⟨S4x262144, .f32⟩
  | 46 => ⟨S_, .f32⟩
  | 47 => ⟨S4x262144, .f32⟩
  | 48 => ⟨S4x262144, .f32⟩
  | 49 => ⟨S4x262144, .i32⟩
  | 50 => ⟨S_, .f32⟩
  | 51 => ⟨S4x262144, .f32⟩
  | 52 => ⟨S4x262144, .i1⟩
  | 53 => ⟨S_, .f32⟩
  | 54 => ⟨S4x262144, .f32⟩
  | 55 => ⟨S4x262144, .i1⟩
  | 56 => ⟨S4x262144, .i1⟩
  | 57 => ⟨S_, .f32⟩
  | 58 => ⟨S4x262144, .f32⟩
  | 59 => ⟨S4x262144, .i1⟩
  | 60 => ⟨S4x262144, .i1⟩
  | 61 => ⟨S_, .f32⟩
  | 62 => ⟨S4x262144, .f32⟩
  | 63 => ⟨S4x262144, .i1⟩
  | 64 => ⟨S4x262144, .i1⟩
  | 65 => ⟨S4x262144, .f32⟩
  | 66 => ⟨S_, .i32⟩
  | 67 => ⟨S4x262144, .i32⟩
  | 68 => ⟨S4x262144, .i1⟩
  | 69 => ⟨S_, .i32⟩
  | 70 => ⟨S4x262144, .i32⟩
  | 71 => ⟨S4x262144, .i32⟩
  | 72 => ⟨S4x262144, .i32⟩
  | 73 => ⟨S_, .i32⟩
  | 74 => ⟨S4x262144, .i32⟩
  | 75 => ⟨S4x262144, .i1⟩
  | 76 => ⟨S_, .i32⟩
  | 77 => ⟨S4x262144, .i32⟩
  | 78 => ⟨S4x262144, .i32⟩
  | 79 => ⟨S4x262144, .i32⟩
  | 80 => ⟨S4x262144x1, .i32⟩
  | 81 => ⟨S4x262144x1, .i32⟩
  | 82 => ⟨S4x262144x2, .i32⟩
  | 83 => ⟨S4x1x262144, .f32⟩
  | 84 => ⟨S4x1x262144, .f32⟩
  | 85 => ⟨S4x1x262144, .f32⟩
  | 86 => ⟨S_, .f32⟩
  | 87 => ⟨S_, .f32⟩
  | 88 => ⟨S_, .f32⟩
  | 89 => ⟨S4x262144, .f32⟩
  | 90 => ⟨S4x262144, .f32⟩
  | 91 => ⟨S_, .f32⟩
  | 92 => ⟨S4x262144, .f32⟩
  | 93 => ⟨S4x262144, .f32⟩
  | 94 => ⟨S4x262144, .i32⟩
  | 95 => ⟨S_, .f32⟩
  | 96 => ⟨S_, .f32⟩
  | 97 => ⟨S_, .f32⟩
  | 98 => ⟨S4x262144, .f32⟩
  | 99 => ⟨S4x262144, .f32⟩
  | 100 => ⟨S_, .f32⟩
  | 101 => ⟨S4x262144, .f32⟩
  | 102 => ⟨S4x262144, .f32⟩
  | 103 => ⟨S4x262144, .i32⟩
  | 104 => ⟨S_, .f32⟩
  | 105 => ⟨S4x262144, .f32⟩
  | 106 => ⟨S4x262144, .i1⟩
  | 107 => ⟨S_, .f32⟩
  | 108 => ⟨S4x262144, .f32⟩
  | 109 => ⟨S4x262144, .i1⟩
  | 110 => ⟨S4x262144, .i1⟩
  | 111 => ⟨S_, .f32⟩
  | 112 => ⟨S4x262144, .f32⟩
  | 113 => ⟨S4x262144, .i1⟩
  | 114 => ⟨S4x262144, .i1⟩
  | 115 => ⟨S_, .f32⟩
  | 116 => ⟨S4x262144, .f32⟩
  | 117 => ⟨S4x262144, .i1⟩
  | 118 => ⟨S4x262144, .i1⟩
  | 119 => ⟨S4x262144, .f32⟩
  | 120 => ⟨S_, .i32⟩
  | 121 => ⟨S4x262144, .i32⟩
  | 122 => ⟨S4x262144, .i1⟩
  | 123 => ⟨S_, .i32⟩
  | 124 => ⟨S4x262144, .i32⟩
  | 125 => ⟨S4x262144, .i32⟩
  | 126 => ⟨S4x262144, .i32⟩
  | 127 => ⟨S_, .i32⟩
  | _ => ⟨S4x1x512x512, .f32⟩

abbrev hbmTy0_2 (i : Nat) : BufTy := match i % 128 with
  | 0 => ⟨S4x262144, .i32⟩
  | 1 => ⟨S4x262144, .i1⟩
  | 2 => ⟨S_, .i32⟩
  | 3 => ⟨S4x262144, .i32⟩
  | 4 => ⟨S4x262144, .i32⟩
  | 5 => ⟨S4x262144, .i32⟩
  | 6 => ⟨S4x262144x1, .i32⟩
  | 7 => ⟨S4x262144x1, .i32⟩
  | 8 => ⟨S4x262144x2, .i32⟩
  | 9 => ⟨S4x1x262144, .f32⟩
  | 10 => ⟨S4x1x262144, .f32⟩
  | 11 => ⟨S4x1x262144, .f32⟩
  | 12 => ⟨S4x1x262144, .f32⟩
  | 13 => ⟨S4x1x262144, .f32⟩
  | 14 => ⟨S4x1x262144, .f32⟩
  | 15 => ⟨S4x1x262144, .f32⟩
  | 16 => ⟨S4x1x262144, .f32⟩
  | 17 => ⟨S4x1x262144, .f32⟩
  | 18 => ⟨S4x1x262144, .f32⟩
  | 19 => ⟨S4x1x262144, .f32⟩
  | 20 => ⟨S4x1x262144, .f32⟩
  | 21 => ⟨S4x1x262144, .f32⟩
  | 22 => ⟨S4x1x262144, .f32⟩
  | 23 => ⟨S4x1x512x512, .f32⟩
  | 24 => ⟨S_, .f32⟩
  | 25 => ⟨S512x512, .f32⟩
  | 26 => ⟨S_, .i32⟩
  | 27 => ⟨S1, .i32⟩
  | 28 => ⟨S_, .i32⟩
  | 29 => ⟨S1, .i32⟩
  | 30 => ⟨S2, .i32⟩
  | 31 => ⟨S_, .f32⟩
  | 32 => ⟨S496x496, .f32⟩
  | 33 => ⟨S512x512, .f32⟩
  | 34 => ⟨S1x1x512x512, .f32⟩
  | 35 => ⟨S4x1x512x512, .f32⟩
  | 36 => ⟨S4x1x512x512, .f32⟩
  | 37 => ⟨S_, .f32⟩
  | 38 => ⟨S512x512, .f32⟩
  | 39 => ⟨S_, .i32⟩
  | 40 => ⟨S1, .i32⟩
  | 41 => ⟨S_, .i32⟩
  | 42 => ⟨S1, .i32⟩
  | 43 => ⟨S2, .i32⟩
  | 44 => ⟨S_, .f32⟩
  | 45 => ⟨S496x496, .f32⟩
  | 46 => ⟨S512x512, .f32⟩
  | 47 => ⟨S1x1x512x512, .f32⟩
  | 48 => ⟨S4x1x512x512, .f32⟩
  | 49 => ⟨S4x1x512x512, .f32⟩
  | 50 => ⟨S_, .f32⟩
  | 51 => ⟨S4x1x512x512, .f32⟩
  | 52 => ⟨S512, .f32⟩
  | 53 => ⟨S512, .f32⟩
  | 54 => ⟨S512x512, .f32⟩
  | 55 => ⟨S512x512, .f32⟩
  | 56 => ⟨S262144, .f32⟩
  | 57 => ⟨S262144, .f32⟩
  | 58 => ⟨S_, .f32⟩
  | 59 => ⟨S262144, .f32⟩
  | 60 => ⟨S1x262144, .f32⟩
  | 61 => ⟨S1x262144, .f32⟩
  | 62 => ⟨S1x262144, .f32⟩
  | 63 => ⟨S3x262144, .f32⟩
  | 64 => ⟨S4x3x262144, .f32⟩
  | 65 => ⟨S4x1x262144, .f32⟩
  | 66 => ⟨S4x262144, .f32⟩
  | 67 => ⟨S4x1x262144, .f32⟩
  | 68 => ⟨S4x262144, .f32⟩
  | 69 => ⟨S_, .f32⟩
  | 70 => ⟨S4x262144, .f32⟩
  | 71 => ⟨S4x262144, .f32⟩
  | 72 => ⟨S4x262144, .f32⟩
  | 73 => ⟨S4x1x262144, .f32⟩
  | 74 => ⟨S4x262144, .f32⟩
  | 75 => ⟨S4x1x262144, .f32⟩
  | 76 => ⟨S4x262144, .f32⟩
  | 77 => ⟨S_, .f32⟩
  | 78 => ⟨S4x262144, .f32⟩
  | 79 => ⟨S4x262144, .f32⟩
  | 80 => ⟨S4x262144, .f32⟩
  | 81 => ⟨S4x262144, .f32⟩
  | 82 => ⟨S4x262144, .f32⟩
  | 83 => ⟨S_, .f32⟩
  | 84 => ⟨S4x262144, .f32⟩
  | 85 => ⟨S4x262144, .f32⟩
  | 86 => ⟨S_, .f32⟩
  | 87 => ⟨S4x262144, .f32⟩
  | 88 => ⟨S4x262144, .f32⟩
  | 89 => ⟨S4x262144, .f32⟩
  | 90 => ⟨S4x262144, .f32⟩
  | 91 => ⟨S4x262144, .f32⟩
  | 92 => ⟨S4x262144, .f32⟩
  | 93 => ⟨S4x262144, .f32⟩
  | 94 => ⟨S4x262144, .f32⟩
  | 95 => ⟨S4x262144, .f32⟩
  | 96 => ⟨S4x262144, .f32⟩
  | 97 => ⟨S4x262144, .f32⟩
  | 98 => ⟨S4x262144, .f32⟩
  | 99 => ⟨S4x262144, .f32⟩
  | 100 => ⟨S4x262144, .f32⟩
  | 101 => ⟨S_, .f32⟩
  | 102 => ⟨S_, .f32⟩
  | 103 => ⟨S_, .f32⟩
  | 104 => ⟨S4x262144, .f32⟩
  | 105 => ⟨S4x262144, .f32⟩
  | 106 => ⟨S_, .f32⟩
  | 107 => ⟨S4x262144, .f32⟩
  | 108 => ⟨S4x262144, .f32⟩
  | 109 => ⟨S4x262144, .i32⟩
  | 110 => ⟨S_, .f32⟩
  | 111 => ⟨S_, .f32⟩
  | 112 => ⟨S_, .f32⟩
  | 113 => ⟨S4x262144, .f32⟩
  | 114 => ⟨S4x262144, .f32⟩
  | 115 => ⟨S_, .f32⟩
  | 116 => ⟨S4x262144, .f32⟩
  | 117 => ⟨S4x262144, .f32⟩
  | 118 => ⟨S4x262144, .i32⟩
  | 119 => ⟨S_, .f32⟩
  | 120 => ⟨S4x262144, .f32⟩
  | 121 => ⟨S4x262144, .i1⟩
  | 122 => ⟨S_, .f32⟩
  | 123 => ⟨S4x262144, .f32⟩
  | 124 => ⟨S4x262144, .i1⟩
  | 125 => ⟨S4x262144, .i1⟩
  | 126 => ⟨S_, .f32⟩
  | 127 => ⟨S4x262144, .f32⟩
  | _ => ⟨S4x1x512x512, .f32⟩

abbrev hbmTy0_3 (i : Nat) : BufTy := match i % 128 with
  | 0 => ⟨S4x262144, .i1⟩
  | 1 => ⟨S4x262144, .i1⟩
  | 2 => ⟨S_, .f32⟩
  | 3 => ⟨S4x262144, .f32⟩
  | 4 => ⟨S4x262144, .i1⟩
  | 5 => ⟨S4x262144, .i1⟩
  | 6 => ⟨S4x262144, .f32⟩
  | 7 => ⟨S_, .i32⟩
  | 8 => ⟨S4x262144, .i32⟩
  | 9 => ⟨S4x262144, .i1⟩
  | 10 => ⟨S_, .i32⟩
  | 11 => ⟨S4x262144, .i32⟩
  | 12 => ⟨S4x262144, .i32⟩
  | 13 => ⟨S4x262144, .i32⟩
  | 14 => ⟨S_, .i32⟩
  | 15 => ⟨S4x262144, .i32⟩
  | 16 => ⟨S4x262144, .i1⟩
  | 17 => ⟨S_, .i32⟩
  | 18 => ⟨S4x262144, .i32⟩
  | 19 => ⟨S4x262144, .i32⟩
  | 20 => ⟨S4x262144, .i32⟩
  | 21 => ⟨S4x262144x1, .i32⟩
  | 22 => ⟨S4x262144x1, .i32⟩
  | 23 => ⟨S4x262144x2, .i32⟩
  | 24 => ⟨S4x1x262144, .f32⟩
  | 25 => ⟨S4x1x262144, .f32⟩
  | 26 => ⟨S4x1x262144, .f32⟩
  | 27 => ⟨S_, .f32⟩
  | 28 => ⟨S_, .f32⟩
  | 29 => ⟨S_, .f32⟩
  | 30 => ⟨S4x262144, .f32⟩
  | 31 => ⟨S4x262144, .f32⟩
  | 32 => ⟨S_, .f32⟩
  | 33 => ⟨S4x262144, .f32⟩
  | 34 => ⟨S4x262144, .f32⟩
  | 35 => ⟨S4x262144, .i32⟩
  | 36 => ⟨S_, .f32⟩
  | 37 => ⟨S_, .f32⟩
  | 38 => ⟨S_, .f32⟩
  | 39 => ⟨S4x262144, .f32⟩
  | 40 => ⟨S4x262144, .f32⟩
  | 41 => ⟨S_, .f32⟩
  | 42 => ⟨S4x262144, .f32⟩
  | 43 => ⟨S4x262144, .f32⟩
  | 44 => ⟨S4x262144, .i32⟩
  | 45 => ⟨S_, .f32⟩
  | 46 => ⟨S4x262144, .f32⟩
  | 47 => ⟨S4x262144, .i1⟩
  | 48 => ⟨S_, .f32⟩
  | 49 => ⟨S4x262144, .f32⟩
  | 50 => ⟨S4x262144, .i1⟩
  | 51 => ⟨S4x262144, .i1⟩
  | 52 => ⟨S_, .f32⟩
  | 53 => ⟨S4x262144, .f32⟩
  | 54 => ⟨S4x262144, .i1⟩
  | 55 => ⟨S4x262144, .i1⟩
  | 56 => ⟨S_, .f32⟩
  | 57 => ⟨S4x262144, .f32⟩
  | 58 => ⟨S4x262144, .i1⟩
  | 59 => ⟨S4x262144, .i1⟩
  | 60 => ⟨S4x262144, .f32⟩
  | 61 => ⟨S_, .i32⟩
  | 62 => ⟨S4x262144, .i32⟩
  | 63 => ⟨S4x262144, .i1⟩
  | 64 => ⟨S_, .i32⟩
  | 65 => ⟨S4x262144, .i32⟩
  | 66 => ⟨S4x262144, .i32⟩
  | 67 => ⟨S4x262144, .i32⟩
  | 68 => ⟨S_, .i32⟩
  | 69 => ⟨S4x262144, .i32⟩
  | 70 => ⟨S4x262144, .i1⟩
  | 71 => ⟨S_, .i32⟩
  | 72 => ⟨S4x262144, .i32⟩
  | 73 => ⟨S4x262144, .i32⟩
  | 74 => ⟨S4x262144, .i32⟩
  | 75 => ⟨S4x262144x1, .i32⟩
  | 76 => ⟨S4x262144x1, .i32⟩
  | 77 => ⟨S4x262144x2, .i32⟩
  | 78 => ⟨S4x1x262144, .f32⟩
  | 79 => ⟨S4x1x262144, .f32⟩
  | 80 => ⟨S4x1x262144, .f32⟩
  | 81 => ⟨S_, .f32⟩
  | 82 => ⟨S_, .f32⟩
  | 83 => ⟨S_, .f32⟩
  | 84 => ⟨S4x262144, .f32⟩
  | 85 => ⟨S4x262144, .f32⟩
  | 86 => ⟨S_, .f32⟩
  | 87 => ⟨S4x262144, .f32⟩
  | 88 => ⟨S4x262144, .f32⟩
  | 89 => ⟨S4x262144, .i32⟩
  | 90 => ⟨S_, .f32⟩
  | 91 => ⟨S_, .f32⟩
  | 92 => ⟨S_, .f32⟩
  | 93 => ⟨S4x262144, .f32⟩
  | 94 => ⟨S4x262144, .f32⟩
  | 95 => ⟨S_, .f32⟩
  | 96 => ⟨S4x262144, .f32⟩
  | 97 => ⟨S4x262144, .f32⟩
  | 98 => ⟨S4x262144, .i32⟩
  | 99 => ⟨S_, .f32⟩
  | 100 => ⟨S4x262144, .f32⟩
  | 101 => ⟨S4x262144, .i1⟩
  | 102 => ⟨S_, .f32⟩
  | 103 => ⟨S4x262144, .f32⟩
  | 104 => ⟨S4x262144, .i1⟩
  | 105 => ⟨S4x262144, .i1⟩
  | 106 => ⟨S_, .f32⟩
  | 107 => ⟨S4x262144, .f32⟩
  | 108 => ⟨S4x262144, .i1⟩
  | 109 => ⟨S4x262144, .i1⟩
  | 110 => ⟨S_, .f32⟩
  | 111 => ⟨S4x262144, .f32⟩
  | 112 => ⟨S4x262144, .i1⟩
  | 113 => ⟨S4x262144, .i1⟩
  | 114 => ⟨S4x262144, .f32⟩
  | 115 => ⟨S_, .i32⟩
  | 116 => ⟨S4x262144, .i32⟩
  | 117 => ⟨S4x262144, .i1⟩
  | 118 => ⟨S_, .i32⟩
  | 119 => ⟨S4x262144, .i32⟩
  | 120 => ⟨S4x262144, .i32⟩
  | 121 => ⟨S4x262144, .i32⟩
  | 122 => ⟨S_, .i32⟩
  | 123 => ⟨S4x262144, .i32⟩
  | 124 => ⟨S4x262144, .i1⟩
  | 125 => ⟨S_, .i32⟩
  | 126 => ⟨S4x262144, .i32⟩
  | 127 => ⟨S4x262144, .i32⟩
  | _ => ⟨S4x1x512x512, .f32⟩

abbrev hbmTy0_4 (i : Nat) : BufTy := match i % 128 with
  | 0 => ⟨S4x262144, .i32⟩
  | 1 => ⟨S4x262144x1, .i32⟩
  | 2 => ⟨S4x262144x1, .i32⟩
  | 3 => ⟨S4x262144x2, .i32⟩
  | 4 => ⟨S4x1x262144, .f32⟩
  | 5 => ⟨S4x1x262144, .f32⟩
  | 6 => ⟨S4x1x262144, .f32⟩
  | 7 => ⟨S_, .f32⟩
  | 8 => ⟨S_, .f32⟩
  | 9 => ⟨S_, .f32⟩
  | 10 => ⟨S4x262144, .f32⟩
  | 11 => ⟨S4x262144, .f32⟩
  | 12 => ⟨S_, .f32⟩
  | 13 => ⟨S4x262144, .f32⟩
  | 14 => ⟨S4x262144, .f32⟩
  | 15 => ⟨S4x262144, .i32⟩
  | 16 => ⟨S_, .f32⟩
  | 17 => ⟨S_, .f32⟩
  | 18 => ⟨S_, .f32⟩
  | 19 => ⟨S4x262144, .f32⟩
  | 20 => ⟨S4x262144, .f32⟩
  | 21 => ⟨S_, .f32⟩
  | 22 => ⟨S4x262144, .f32⟩
  | 23 => ⟨S4x262144, .f32⟩
  | 24 => ⟨S4x262144, .i32⟩
  | 25 => ⟨S_, .f32⟩
  | 26 => ⟨S4x262144, .f32⟩
  | 27 => ⟨S4x262144, .i1⟩
  | 28 => ⟨S_, .f32⟩
  | 29 => ⟨S4x262144, .f32⟩
  | 30 => ⟨S4x262144, .i1⟩
  | 31 => ⟨S4x262144, .i1⟩
  | 32 => ⟨S_, .f32⟩
  | 33 => ⟨S4x262144, .f32⟩
  | 34 => ⟨S4x262144, .i1⟩
  | 35 => ⟨S4x262144, .i1⟩
  | 36 => ⟨S_, .f32⟩
  | 37 => ⟨S4x262144, .f32⟩
  | 38 => ⟨S4x262144, .i1⟩
  | 39 => ⟨S4x262144, .i1⟩
  | 40 => ⟨S4x262144, .f32⟩
  | 41 => ⟨S_, .i32⟩
  | 42 => ⟨S4x262144, .i32⟩
  | 43 => ⟨S4x262144, .i1⟩
  | 44 => ⟨S_, .i32⟩
  | 45 => ⟨S4x262144, .i32⟩
  | 46 => ⟨S4x262144, .i32⟩
  | 47 => ⟨S4x262144, .i32⟩
  | 48 => ⟨S_, .i32⟩
  | 49 => ⟨S4x262144, .i32⟩
  | 50 => ⟨S4x262144, .i1⟩
  | 51 => ⟨S_, .i32⟩
  | 52 => ⟨S4x262144, .i32⟩
  | 53 => ⟨S4x262144, .i32⟩
  | 54 => ⟨S4x262144, .i32⟩
  | 55 => ⟨S4x262144x1, .i32⟩
  | 56 => ⟨S4x262144x1, .i32⟩
  | 57 => ⟨S4x262144x2, .i32⟩
  | 58 => ⟨S4x1x262144, .f32⟩
  | 59 => ⟨S4x1x262144, .f32⟩
  | 60 => ⟨S4x1x262144, .f32⟩
  | 61 => ⟨S4x1x262144, .f32⟩
  | 62 => ⟨S4x1x262144, .f32⟩
  | 63 => ⟨S4x1x262144, .f32⟩
  | 64 => ⟨S4x1x262144, .f32⟩
  | 65 => ⟨S4x1x262144, .f32⟩
  | 66 => ⟨S4x1x262144, .f32⟩
  | 67 => ⟨S4x1x262144, .f32⟩
  | 68 => ⟨S4x1x262144, .f32⟩
  | 69 => ⟨S4x1x262144, .f32⟩
  | 70 => ⟨S4x1x262144, .f32⟩
  | 71 => ⟨S4x1x262144, .f32⟩
  | 72 => ⟨S4x1x512x512, .f32⟩
  | 73 => ⟨S_, .f32⟩
  | 74 => ⟨S4x1x512x512, .f32⟩
  | 75 => ⟨S4x1x512x512, .i1⟩
  | 76 => ⟨S4x1x512x512, .f32⟩
  | 77 => ⟨S_, .f32⟩
  | 78 => ⟨S4x1x512x512, .f32⟩
  | 79 => ⟨S4x1x512x512, .i1⟩
  | 80 => ⟨S_, .f32⟩
  | 81 => ⟨S_, .f32⟩
  | 82 => ⟨S4x1x512x512, .f32⟩
  | 83 => ⟨S4x1x512x512, .f32⟩
  | 84 => ⟨S_, .f32⟩
  | 85 => ⟨S_, .f32⟩
  | 86 => ⟨S4x1x512x512, .f32⟩
  | 87 => ⟨S4x1x512x512, .i1⟩
  | 88 => ⟨S_, .f32⟩
  | 89 => ⟨S4x1x512x512, .f32⟩
  | 90 => ⟨S4x1x512x512, .i1⟩
  | 91 => ⟨S4x1x512x512, .i1⟩
  | 92 => ⟨S4x1x512x512, .f32⟩
  | 93 => ⟨S4x1x512x512, .f32⟩
  | 94 => ⟨S4x262144, .f32⟩
  | 95 => ⟨S4x512, .f32⟩
  | 96 => ⟨S4x512, .i32⟩
  | 97 => ⟨S4, .i32⟩
  | 98 => ⟨S4x512, .i32⟩
  | 99 => ⟨S2048, .i32⟩
  | 100 => ⟨S_, .f32⟩
  | 101 => ⟨S4x262144, .f32⟩
  | 102 => ⟨S2048, .i32⟩
  | 103 => ⟨S_, .i32⟩
  | 104 => ⟨S2048, .i32⟩
  | 105 => ⟨S2048, .i1⟩
  | 106 => ⟨S_, .i32⟩
  | 107 => ⟨S2048, .i32⟩
  | 108 => ⟨S2048, .i32⟩
  | 109 => ⟨S2048, .i32⟩
  | 110 => ⟨S_, .i32⟩
  | 111 => ⟨S2048, .i32⟩
  | 112 => ⟨S2048, .i1⟩
  | 113 => ⟨S_, .i32⟩
  | 114 => ⟨S2048, .i32⟩
  | 115 => ⟨S2048, .i32⟩
  | 116 => ⟨S2048, .i32⟩
  | 117 => ⟨S2048x1, .i32⟩
  | 118 => ⟨S2048x1, .i32⟩
  | 119 => ⟨S2048x2, .i32⟩
  | 120 => ⟨S_, .f32⟩
  | 121 => ⟨S2048, .f32⟩
  | 122 => ⟨S4x262144, .f32⟩
  | 123 => ⟨S4x1x512x512, .f32⟩
  | 124 => ⟨S_, .i32⟩
  | 125 => ⟨S_, .i32⟩
  | 126 => ⟨S4x512, .i32⟩
  | 127 => ⟨S4x512, .i32⟩
  | _ => ⟨S4x1x512x512, .f32⟩

abbrev hbmTy0_5 (i : Nat) : BufTy := match i % 128 with
  | 0 => ⟨S4x512, .i32⟩
  | 1 => ⟨S_, .i32⟩
  | 2 => ⟨S4x512, .i32⟩
  | 3 => ⟨S4x512, .i1⟩
  | 4 => ⟨S4x512, .i32⟩
  | 5 => ⟨S4x512, .i32⟩
  | 6 => ⟨S_, .i32⟩
  | 7 => ⟨S4x512, .i32⟩
  | 8 => ⟨S4x512, .i1⟩
  | 9 => ⟨S4x512, .i1⟩
  | 10 => ⟨S_, .i32⟩
  | 11 => ⟨S4x512, .i32⟩
  | 12 => ⟨S4x512, .i32⟩
  | 13 => ⟨S4x512, .i32⟩
  | 14 => ⟨S_, .i32⟩
  | 15 => ⟨S_, .i32⟩
  | 16 => ⟨S_, .i32⟩
  | 17 => ⟨S_, .i1⟩
  | 18 => ⟨S_, .i32⟩
  | 19 => ⟨S_, .i32⟩
  | 20 => ⟨S4x512, .i32⟩
  | 21 => ⟨S4x512, .i32⟩
  | 22 => ⟨S_, .i32⟩
  | 23 => ⟨S4x512, .i32⟩
  | 24 => ⟨S4x512, .i1⟩
  | 25 => ⟨S_, .i32⟩
  | 26 => ⟨S4x512, .i32⟩
  | 27 => ⟨S4x512, .i1⟩
  | 28 => ⟨S_, .i32⟩
  | 29 => ⟨S_, .i1⟩
  | 30 => ⟨S4x512, .i1⟩
  | 31 => ⟨S4x512, .i1⟩
  | 32 => ⟨S4x512, .i1⟩
  | 33 => ⟨S4x512, .i32⟩
  | 34 => ⟨S4x512, .i32⟩
  | 35 => ⟨S4x512, .i32⟩
  | 36 => ⟨S4x512x1, .i32⟩
  | 37 => ⟨S4x512x1, .i32⟩
  | 38 => ⟨S4x512x2, .i32⟩
  | 39 => ⟨S4x1x512x2, .i32⟩
  | 40 => ⟨S4x1x512x512, .f32⟩
  | 41 => ⟨S_, .f32⟩
  | 42 => ⟨S4x1x512x512, .f32⟩
  | 43 => ⟨S4x1x512x512, .i1⟩
  | 44 => ⟨S_, .f32⟩
  | 45 => ⟨S_, .f32⟩
  | 46 => ⟨S4x1x512x512, .f32⟩
  | 47 => ⟨S4x1x512x512, .f32⟩
  | 48 => ⟨S_, .f32⟩
  | 49 => ⟨S_, .f32⟩
  | 50 => ⟨S4x1x512x512, .f32⟩
  | 51 => ⟨S4x1x512x512, .i1⟩
  | 52 => ⟨S_, .f32⟩
  | 53 => ⟨S4x1x512x512, .f32⟩
  | 54 => ⟨S4x1x512x512, .i1⟩
  | 55 => ⟨S4x1x512x512, .i1⟩
  | 56 => ⟨S4x1x512x512, .f32⟩
  | 57 => ⟨S4x1x512x512, .f32⟩
  | 58 => ⟨S4x262144, .f32⟩
  | 59 => ⟨S4x512, .f32⟩
  | 60 => ⟨S4x512, .i32⟩
  | 61 => ⟨S4, .i32⟩
  | 62 => ⟨S4x512, .i32⟩
  | 63 => ⟨S2048, .i32⟩
  | 64 => ⟨S_, .f32⟩
  | 65 => ⟨S4x262144, .f32⟩
  | 66 => ⟨S2048, .i32⟩
  | 67 => ⟨S_, .i32⟩
  | 68 => ⟨S2048, .i32⟩
  | 69 => ⟨S2048, .i1⟩
  | 70 => ⟨S_, .i32⟩
  | 71 => ⟨S2048, .i32⟩
  | 72 => ⟨S2048, .i32⟩
  | 73 => ⟨S2048, .i32⟩
  | 74 => ⟨S_, .i32⟩
  | 75 => ⟨S2048, .i32⟩
  | 76 => ⟨S2048, .i1⟩
  | 77 => ⟨S_, .i32⟩
  | 78 => ⟨S2048, .i32⟩
  | 79 => ⟨S2048, .i32⟩
  | 80 => ⟨S2048, .i32⟩
  | 81 => ⟨S2048x1, .i32⟩
  | 82 => ⟨S2048x1, .i32⟩
  | 83 => ⟨S2048x2, .i32⟩
  | 84 => ⟨S_, .f32⟩
  | 85 => ⟨S2048, .f32⟩
  | 86 => ⟨S4x262144, .f32⟩
  | 87 => ⟨S4x1x512x512, .f32⟩
  | 88 => ⟨S_, .i32⟩
  | 89 => ⟨S_, .i32⟩
  | 90 => ⟨S4x512, .i32⟩
  | 91 => ⟨S4x512, .i32⟩
  | 92 => ⟨S4x512, .i32⟩
  | 93 => ⟨S_, .i32⟩
  | 94 => ⟨S4x512, .i32⟩
  | 95 => ⟨S4x512, .i1⟩
  | 96 => ⟨S4x512, .i32⟩
  | 97 => ⟨S4x512, .i32⟩
  | 98 => ⟨S_, .i32⟩
  | 99 => ⟨S4x512, .i32⟩
  | 100 => ⟨S4x512, .i1⟩
  | 101 => ⟨S4x512, .i1⟩
  | 102 => ⟨S_, .i32⟩
  | 103 => ⟨S4x512, .i32⟩
  | 104 => ⟨S4x512, .i32⟩
  | 105 => ⟨S4x512, .i32⟩
  | 106 => ⟨S_, .i32⟩
  | 107 => ⟨S_, .i32⟩
  | 108 => ⟨S_, .i32⟩
  | 109 => ⟨S_, .i1⟩
  | 110 => ⟨S_, .i32⟩
  | 111 => ⟨S_, .i32⟩
  | 112 => ⟨S4x512, .i32⟩
  | 113 => ⟨S4x512, .i32⟩
  | 114 => ⟨S_, .i32⟩
  | 115 => ⟨S4x512, .i32⟩
  | 116 => ⟨S4x512, .i1⟩
  | 117 => ⟨S_, .i32⟩
  | 118 => ⟨S4x512, .i32⟩
  | 119 => ⟨S4x512, .i1⟩
  | 120 => ⟨S_, .i32⟩
  | 121 => ⟨S_, .i1⟩
  | 122 => ⟨S4x512, .i1⟩
  | 123 => ⟨S4x512, .i1⟩
  | 124 => ⟨S4x512, .i1⟩
  | 125 => ⟨S4x512, .i32⟩
  | 126 => ⟨S4x512, .i32⟩
  | 127 => ⟨S4x512, .i32⟩
  | _ => ⟨S4x1x512x512, .f32⟩

abbrev hbmTy0_6 (i : Nat) : BufTy := match i % 128 with
  | 0 => ⟨S4x512x1, .i32⟩
  | 1 => ⟨S4x512x1, .i32⟩
  | 2 => ⟨S4x512x2, .i32⟩
  | 3 => ⟨S4x1x512x2, .i32⟩
  | 4 => ⟨S4x1x512x512, .f32⟩
  | 5 => ⟨S_, .f32⟩
  | 6 => ⟨S_, .f32⟩
  | 7 => ⟨S_, .f32⟩
  | 8 => ⟨S_, .f32⟩
  | 9 => ⟨S_, .f32⟩
  | 10 => ⟨S_, .f32⟩
  | 11 => ⟨S_, .f32⟩
  | 12 => ⟨S_, .f32⟩
  | 13 => ⟨S_, .f32⟩
  | 14 => ⟨S_, .f32⟩
  | 15 => ⟨S_, .f32⟩
  | 16 => ⟨S_, .f32⟩
  | 17 => ⟨S_, .f32⟩
  | 18 => ⟨S_, .f32⟩
  | 19 => ⟨S_, .f32⟩
  | 20 => ⟨S1, .f32⟩
  | 21 => ⟨S1, .f32⟩
  | 22 => ⟨S1, .f32⟩
  | 23 => ⟨S1, .f32⟩
  | 24 => ⟨S1, .f32⟩
  | 25 => ⟨S1, .f32⟩
  | 26 => ⟨S1, .f32⟩
  | 27 => ⟨S1, .f32⟩
  | 28 => ⟨S1, .f32⟩
  | 29 => ⟨S1, .f32⟩
  | 30 => ⟨S1, .f32⟩
  | 31 => ⟨S1, .f32⟩
  | 32 => ⟨S1, .f32⟩
  | 33 => ⟨S1, .f32⟩
  | 34 => ⟨S1, .f32⟩
  | 35 => ⟨S15, .f32⟩
  | 36 => ⟨S15x1, .f32⟩
  | 37 => ⟨S1x15, .f32⟩
  | 38 => ⟨S15x15, .f32⟩
  | 39 => ⟨S15x15, .f32⟩
  | 40 => ⟨S15x15, .f32⟩
  | 41 => ⟨S4x512x512, .f32⟩
  | 42 => ⟨S_, .i32⟩
  | 43 => ⟨S_, .f32⟩
  | 44 => ⟨S4x526x526, .f32⟩
  | 45 => ⟨S4x512x526, .f32⟩
  | 46 => ⟨S4x512x526, .f32⟩
  | 47 => ⟨S4x512x526, .f32⟩
  | 48 => ⟨S4x512x526, .f32⟩
  | 49 => ⟨S4x512x526, .f32⟩
  | 50 => ⟨S4x512x526, .f32⟩
  | 51 => ⟨S4x512x526, .f32⟩
  | 52 => ⟨S4x512x526, .f32⟩
  | 53 => ⟨S4x512x526, .f32⟩
  | 54 => ⟨S4x512x526, .f32⟩
  | 55 => ⟨S4x512x526, .f32⟩
  | 56 => ⟨S4x512x526, .f32⟩
  | 57 => ⟨S4x512x526, .f32⟩
  | 58 => ⟨S4x512x526, .f32⟩
  | 59 => ⟨S4x512x526, .f32⟩
  | 60 => ⟨S1x4x512x526, .f32⟩
  | 61 => ⟨S1x4x512x526, .f32⟩
  | 62 => ⟨S1x4x512x526, .f32⟩
  | 63 => ⟨S1x4x512x526, .f32⟩
  | 64 => ⟨S1x4x512x526, .f32⟩
  | 65 => ⟨S1x4x512x526, .f32⟩
  | 66 => ⟨S1x4x512x526, .f32⟩
  | 67 => ⟨S1x4x512x526, .f32⟩
  | 68 => ⟨S1x4x512x526, .f32⟩
  | 69 => ⟨S1x4x512x526, .f32⟩
  | 70 => ⟨S1x4x512x526, .f32⟩
  | 71 => ⟨S1x4x512x526, .f32⟩
  | 72 => ⟨S1x4x512x526, .f32⟩
  | 73 => ⟨S1x4x512x526, .f32⟩
  | 74 => ⟨S1x4x512x526, .f32⟩
  | 75 => ⟨S15x4x512x526, .f32⟩
  | 76 => ⟨S15x4x512x512, .f32⟩
  | 77 => ⟨S15x4x512x512, .f32⟩
  | 78 => ⟨S15x4x512x512, .f32⟩
  | 79 => ⟨S15x4x512x512, .f32⟩
  | 80 => ⟨S15x4x512x512, .f32⟩
  | 81 => ⟨S15x4x512x512, .f32⟩
  | 82 => ⟨S15x4x512x512, .f32⟩
  | 83 => ⟨S15x4x512x512, .f32⟩
  | 84 => ⟨S15x4x512x512, .f32⟩
  | 85 => ⟨S15x4x512x512, .f32⟩
  | 86 => ⟨S15x4x512x512, .f32⟩
  | 87 => ⟨S15x4x512x512, .f32⟩
  | 88 => ⟨S15x4x512x512, .f32⟩
  | 89 => ⟨S15x4x512x512, .f32⟩
  | 90 => ⟨S15x4x512x512, .f32⟩
  | 91 => ⟨S15x1x4x512x512, .f32⟩
  | 92 => ⟨S15x1x4x512x512, .f32⟩
  | 93 => ⟨S15x1x4x512x512, .f32⟩
  | 94 => ⟨S15x1x4x512x512, .f32⟩
  | 95 => ⟨S15x1x4x512x512, .f32⟩
  | 96 => ⟨S15x1x4x512x512, .f32⟩
  | 97 => ⟨S15x1x4x512x512, .f32⟩
  | 98 => ⟨S15x1x4x512x512, .f32⟩
  | 99 => ⟨S15x1x4x512x512, .f32⟩
  | 100 => ⟨S15x1x4x512x512, .f32⟩
  | 101 => ⟨S15x1x4x512x512, .f32⟩
  | 102 => ⟨S15x1x4x512x512, .f32⟩
  | 103 => ⟨S15x1x4x512x512, .f32⟩
  | 104 => ⟨S15x1x4x512x512, .f32⟩
  | 105 => ⟨S15x1x4x512x512, .f32⟩
  | 106 => ⟨S15x15x4x512x512, .f32⟩
  | 107 => ⟨S15x15x1x1x1, .f32⟩
  | 108 => ⟨S15x15x4x512x512, .f32⟩
  | 109 => ⟨S15x15x4x512x512, .f32⟩
  | 110 => ⟨S_, .f32⟩
  | 111 => ⟨S4x512x512, .f32⟩
  | 112 => ⟨S4x1x512x512, .f32⟩
  | 113 => ⟨S_, .f32⟩
  | 114 => ⟨S_, .f32⟩
  | 115 => ⟨S4x1x512x512, .f32⟩
  | 116 => ⟨S4x1x512x512, .f32⟩
  | 117 => ⟨S4x1x512x512, .f32⟩
  | 118 => ⟨S4x1x512x512, .f32⟩
  | 119 => ⟨S4x1x512x512, .f32⟩
  | 120 => ⟨S_, .f32⟩
  | 121 => ⟨S_, .f32⟩
  | 122 => ⟨S_, .f32⟩
  | 123 => ⟨S_, .f32⟩
  | _ => ⟨S4x1x512x512, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | 6 => hbmTy0_6 i
  | _ => ⟨S4x1x512x512, .f32⟩

abbrev bufTy : (tb : Table) → Fin (tcTables nBuf tb) → BufTy
  | .hbm, ⟨i, _⟩ => hbmTy i
  | _, _ => ⟨S4x1x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_cst_0 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_cst_1 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_cst_2 : Ref sig .tc := ⟨.hbm, 34, rfl⟩
abbrev main_v28 : Ref sig .tc := ⟨.hbm, 35, rfl⟩
abbrev main_v29 : Ref sig .tc := ⟨.hbm, 36, rfl⟩
abbrev main_cst_3 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_cst_4 : Ref sig .tc := ⟨.hbm, 52, rfl⟩
abbrev main_cst_5 : Ref sig .tc := ⟨.hbm, 53, rfl⟩
abbrev main_call0_v0 : Ref sig .tc := ⟨.hbm, 54, rfl⟩
abbrev main_call0_v1 : Ref sig .tc := ⟨.hbm, 55, rfl⟩
abbrev main_call0_v2 : Ref sig .tc := ⟨.hbm, 56, rfl⟩
abbrev main_call0_v3 : Ref sig .tc := ⟨.hbm, 57, rfl⟩
abbrev main_call0_v4 : Ref sig .tc := ⟨.hbm, 58, rfl⟩
abbrev main_v44 : Ref sig .tc := ⟨.hbm, 59, rfl⟩
abbrev main_v45 : Ref sig .tc := ⟨.hbm, 60, rfl⟩
abbrev main_cst_6 : Ref sig .tc := ⟨.hbm, 61, rfl⟩
abbrev main_cst_7 : Ref sig .tc := ⟨.hbm, 62, rfl⟩
abbrev main_call1_v0 : Ref sig .tc := ⟨.hbm, 63, rfl⟩
abbrev main_call1_v1 : Ref sig .tc := ⟨.hbm, 64, rfl⟩
abbrev main_call1_v2 : Ref sig .tc := ⟨.hbm, 65, rfl⟩
abbrev main_call1_v3 : Ref sig .tc := ⟨.hbm, 66, rfl⟩
abbrev main_call1_v4 : Ref sig .tc := ⟨.hbm, 67, rfl⟩
abbrev main_v46 : Ref sig .tc := ⟨.hbm, 68, rfl⟩
abbrev main_v47 : Ref sig .tc := ⟨.hbm, 69, rfl⟩
abbrev main_cst_8 : Ref sig .tc := ⟨.hbm, 70, rfl⟩
abbrev main_v48 : Ref sig .tc := ⟨.hbm, 71, rfl⟩
abbrev main_v49 : Ref sig .tc := ⟨.hbm, 72, rfl⟩
abbrev main_cst_9 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_cst_10 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_cst_11 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_c : Ref sig .tc := ⟨.hbm, 86, rfl⟩
abbrev main_v60 : Ref sig .tc := ⟨.hbm, 87, rfl⟩
abbrev main_v61 : Ref sig .tc := ⟨.hbm, 88, rfl⟩
abbrev main_c_12 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_c_13 : Ref sig .tc := ⟨.hbm, 93, rfl⟩
abbrev main_v65 : Ref sig .tc := ⟨.hbm, 94, rfl⟩
abbrev main_v66 : Ref sig .tc := ⟨.hbm, 95, rfl⟩
abbrev main_c_14 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_cst_15 : Ref sig .tc := ⟨.hbm, 106, rfl⟩
abbrev main_cst_16 : Ref sig .tc := ⟨.hbm, 107, rfl⟩
abbrev main_call2_v0 : Ref sig .tc := ⟨.hbm, 108, rfl⟩
abbrev main_call2_v1 : Ref sig .tc := ⟨.hbm, 109, rfl⟩
abbrev main_call2_v2 : Ref sig .tc := ⟨.hbm, 110, rfl⟩
abbrev main_call2_v3 : Ref sig .tc := ⟨.hbm, 111, rfl⟩
abbrev main_call2_v4 : Ref sig .tc := ⟨.hbm, 112, rfl⟩
abbrev main_v76 : Ref sig .tc := ⟨.hbm, 113, rfl⟩
abbrev main_v77 : Ref sig .tc := ⟨.hbm, 114, rfl⟩
abbrev main_cst_17 : Ref sig .tc := ⟨.hbm, 115, rfl⟩
abbrev main_cst_18 : Ref sig .tc := ⟨.hbm, 116, rfl⟩
abbrev main_call3_v0 : Ref sig .tc := ⟨.hbm, 117, rfl⟩
abbrev main_call3_v1 : Ref sig .tc := ⟨.hbm, 118, rfl⟩
abbrev main_call3_v2 : Ref sig .tc := ⟨.hbm, 119, rfl⟩
abbrev main_call3_v3 : Ref sig .tc := ⟨.hbm, 120, rfl⟩
abbrev main_call3_v4 : Ref sig .tc := ⟨.hbm, 121, rfl⟩
abbrev main_v78 : Ref sig .tc := ⟨.hbm, 122, rfl⟩
abbrev main_v79 : Ref sig .tc := ⟨.hbm, 123, rfl⟩
abbrev main_cst_19 : Ref sig .tc := ⟨.hbm, 124, rfl⟩
abbrev main_v80 : Ref sig .tc := ⟨.hbm, 125, rfl⟩
abbrev main_v81 : Ref sig .tc := ⟨.hbm, 126, rfl⟩
abbrev main_cst_20 : Ref sig .tc := ⟨.hbm, 127, rfl⟩
abbrev main_v82 : Ref sig .tc := ⟨.hbm, 128, rfl⟩
abbrev main_v83 : Ref sig .tc := ⟨.hbm, 129, rfl⟩
abbrev main_v84 : Ref sig .tc := ⟨.hbm, 130, rfl⟩
abbrev main_cst_21 : Ref sig .tc := ⟨.hbm, 131, rfl⟩
abbrev main_v85 : Ref sig .tc := ⟨.hbm, 132, rfl⟩
abbrev main_v86 : Ref sig .tc := ⟨.hbm, 133, rfl⟩
abbrev main_v87 : Ref sig .tc := ⟨.hbm, 134, rfl⟩
abbrev main_cst_22 : Ref sig .tc := ⟨.hbm, 135, rfl⟩
abbrev main_v88 : Ref sig .tc := ⟨.hbm, 136, rfl⟩
abbrev main_v89 : Ref sig .tc := ⟨.hbm, 137, rfl⟩
abbrev main_v90 : Ref sig .tc := ⟨.hbm, 138, rfl⟩
abbrev main_v91 : Ref sig .tc := ⟨.hbm, 139, rfl⟩
abbrev main_c_23 : Ref sig .tc := ⟨.hbm, 140, rfl⟩
abbrev main_v92 : Ref sig .tc := ⟨.hbm, 141, rfl⟩
abbrev main_v93 : Ref sig .tc := ⟨.hbm, 142, rfl⟩
abbrev main_c_24 : Ref sig .tc := ⟨.hbm, 143, rfl⟩
abbrev main_v94 : Ref sig .tc := ⟨.hbm, 144, rfl⟩
abbrev main_v95 : Ref sig .tc := ⟨.hbm, 145, rfl⟩
abbrev main_v96 : Ref sig .tc := ⟨.hbm, 146, rfl⟩
abbrev main_c_25 : Ref sig .tc := ⟨.hbm, 147, rfl⟩
abbrev main_v97 : Ref sig .tc := ⟨.hbm, 148, rfl⟩
abbrev main_v98 : Ref sig .tc := ⟨.hbm, 149, rfl⟩
abbrev main_c_26 : Ref sig .tc := ⟨.hbm, 150, rfl⟩
abbrev main_v99 : Ref sig .tc := ⟨.hbm, 151, rfl⟩
abbrev main_v100 : Ref sig .tc := ⟨.hbm, 152, rfl⟩
abbrev main_v101 : Ref sig .tc := ⟨.hbm, 153, rfl⟩
abbrev main_v102 : Ref sig .tc := ⟨.hbm, 154, rfl⟩
abbrev main_v103 : Ref sig .tc := ⟨.hbm, 155, rfl⟩
abbrev main_v104 : Ref sig .tc := ⟨.hbm, 156, rfl⟩
abbrev main_v105 : Ref sig .tc := ⟨.hbm, 157, rfl⟩
abbrev main_v106 : Ref sig .tc := ⟨.hbm, 158, rfl⟩
abbrev main_v107 : Ref sig .tc := ⟨.hbm, 159, rfl⟩
abbrev main_cst_27 : Ref sig .tc := ⟨.hbm, 160, rfl⟩
abbrev main_cst_28 : Ref sig .tc := ⟨.hbm, 161, rfl⟩
abbrev main_call4_v0 : Ref sig .tc := ⟨.hbm, 162, rfl⟩
abbrev main_call4_v1 : Ref sig .tc := ⟨.hbm, 163, rfl⟩
abbrev main_call4_v2 : Ref sig .tc := ⟨.hbm, 164, rfl⟩
abbrev main_call4_v3 : Ref sig .tc := ⟨.hbm, 165, rfl⟩
abbrev main_call4_v4 : Ref sig .tc := ⟨.hbm, 166, rfl⟩
abbrev main_v108 : Ref sig .tc := ⟨.hbm, 167, rfl⟩
abbrev main_v109 : Ref sig .tc := ⟨.hbm, 168, rfl⟩
abbrev main_cst_29 : Ref sig .tc := ⟨.hbm, 169, rfl⟩
abbrev main_cst_30 : Ref sig .tc := ⟨.hbm, 170, rfl⟩
abbrev main_call5_v0 : Ref sig .tc := ⟨.hbm, 171, rfl⟩
abbrev main_call5_v1 : Ref sig .tc := ⟨.hbm, 172, rfl⟩
abbrev main_call5_v2 : Ref sig .tc := ⟨.hbm, 173, rfl⟩
abbrev main_call5_v3 : Ref sig .tc := ⟨.hbm, 174, rfl⟩
abbrev main_call5_v4 : Ref sig .tc := ⟨.hbm, 175, rfl⟩
abbrev main_v110 : Ref sig .tc := ⟨.hbm, 176, rfl⟩
abbrev main_v111 : Ref sig .tc := ⟨.hbm, 177, rfl⟩
abbrev main_cst_31 : Ref sig .tc := ⟨.hbm, 178, rfl⟩
abbrev main_v112 : Ref sig .tc := ⟨.hbm, 179, rfl⟩
abbrev main_v113 : Ref sig .tc := ⟨.hbm, 180, rfl⟩
abbrev main_cst_32 : Ref sig .tc := ⟨.hbm, 181, rfl⟩
abbrev main_v114 : Ref sig .tc := ⟨.hbm, 182, rfl⟩
abbrev main_v115 : Ref sig .tc := ⟨.hbm, 183, rfl⟩
abbrev main_v116 : Ref sig .tc := ⟨.hbm, 184, rfl⟩
abbrev main_cst_33 : Ref sig .tc := ⟨.hbm, 185, rfl⟩
abbrev main_v117 : Ref sig .tc := ⟨.hbm, 186, rfl⟩
abbrev main_v118 : Ref sig .tc := ⟨.hbm, 187, rfl⟩
abbrev main_v119 : Ref sig .tc := ⟨.hbm, 188, rfl⟩
abbrev main_cst_34 : Ref sig .tc := ⟨.hbm, 189, rfl⟩
abbrev main_v120 : Ref sig .tc := ⟨.hbm, 190, rfl⟩
abbrev main_v121 : Ref sig .tc := ⟨.hbm, 191, rfl⟩
abbrev main_v122 : Ref sig .tc := ⟨.hbm, 192, rfl⟩
abbrev main_v123 : Ref sig .tc := ⟨.hbm, 193, rfl⟩
abbrev main_c_35 : Ref sig .tc := ⟨.hbm, 194, rfl⟩
abbrev main_v124 : Ref sig .tc := ⟨.hbm, 195, rfl⟩
abbrev main_v125 : Ref sig .tc := ⟨.hbm, 196, rfl⟩
abbrev main_c_36 : Ref sig .tc := ⟨.hbm, 197, rfl⟩
abbrev main_v126 : Ref sig .tc := ⟨.hbm, 198, rfl⟩
abbrev main_v127 : Ref sig .tc := ⟨.hbm, 199, rfl⟩
abbrev main_v128 : Ref sig .tc := ⟨.hbm, 200, rfl⟩
abbrev main_c_37 : Ref sig .tc := ⟨.hbm, 201, rfl⟩
abbrev main_v129 : Ref sig .tc := ⟨.hbm, 202, rfl⟩
abbrev main_v130 : Ref sig .tc := ⟨.hbm, 203, rfl⟩
abbrev main_c_38 : Ref sig .tc := ⟨.hbm, 204, rfl⟩
abbrev main_v131 : Ref sig .tc := ⟨.hbm, 205, rfl⟩
abbrev main_v132 : Ref sig .tc := ⟨.hbm, 206, rfl⟩
abbrev main_v133 : Ref sig .tc := ⟨.hbm, 207, rfl⟩
abbrev main_v134 : Ref sig .tc := ⟨.hbm, 208, rfl⟩
abbrev main_v135 : Ref sig .tc := ⟨.hbm, 209, rfl⟩
abbrev main_v136 : Ref sig .tc := ⟨.hbm, 210, rfl⟩
abbrev main_v137 : Ref sig .tc := ⟨.hbm, 211, rfl⟩
abbrev main_v138 : Ref sig .tc := ⟨.hbm, 212, rfl⟩
abbrev main_v139 : Ref sig .tc := ⟨.hbm, 213, rfl⟩
abbrev main_cst_39 : Ref sig .tc := ⟨.hbm, 214, rfl⟩
abbrev main_cst_40 : Ref sig .tc := ⟨.hbm, 215, rfl⟩
abbrev main_call6_v0 : Ref sig .tc := ⟨.hbm, 216, rfl⟩
abbrev main_call6_v1 : Ref sig .tc := ⟨.hbm, 217, rfl⟩
abbrev main_call6_v2 : Ref sig .tc := ⟨.hbm, 218, rfl⟩
abbrev main_call6_v3 : Ref sig .tc := ⟨.hbm, 219, rfl⟩
abbrev main_call6_v4 : Ref sig .tc := ⟨.hbm, 220, rfl⟩
abbrev main_v140 : Ref sig .tc := ⟨.hbm, 221, rfl⟩
abbrev main_v141 : Ref sig .tc := ⟨.hbm, 222, rfl⟩
abbrev main_cst_41 : Ref sig .tc := ⟨.hbm, 223, rfl⟩
abbrev main_cst_42 : Ref sig .tc := ⟨.hbm, 224, rfl⟩
abbrev main_call7_v0 : Ref sig .tc := ⟨.hbm, 225, rfl⟩
abbrev main_call7_v1 : Ref sig .tc := ⟨.hbm, 226, rfl⟩
abbrev main_call7_v2 : Ref sig .tc := ⟨.hbm, 227, rfl⟩
abbrev main_call7_v3 : Ref sig .tc := ⟨.hbm, 228, rfl⟩
abbrev main_call7_v4 : Ref sig .tc := ⟨.hbm, 229, rfl⟩
abbrev main_v142 : Ref sig .tc := ⟨.hbm, 230, rfl⟩
abbrev main_v143 : Ref sig .tc := ⟨.hbm, 231, rfl⟩
abbrev main_cst_43 : Ref sig .tc := ⟨.hbm, 232, rfl⟩
abbrev main_v144 : Ref sig .tc := ⟨.hbm, 233, rfl⟩
abbrev main_v145 : Ref sig .tc := ⟨.hbm, 234, rfl⟩
abbrev main_cst_44 : Ref sig .tc := ⟨.hbm, 235, rfl⟩
abbrev main_v146 : Ref sig .tc := ⟨.hbm, 236, rfl⟩
abbrev main_v147 : Ref sig .tc := ⟨.hbm, 237, rfl⟩
abbrev main_v148 : Ref sig .tc := ⟨.hbm, 238, rfl⟩
abbrev main_cst_45 : Ref sig .tc := ⟨.hbm, 239, rfl⟩
abbrev main_v149 : Ref sig .tc := ⟨.hbm, 240, rfl⟩
abbrev main_v150 : Ref sig .tc := ⟨.hbm, 241, rfl⟩
abbrev main_v151 : Ref sig .tc := ⟨.hbm, 242, rfl⟩
abbrev main_cst_46 : Ref sig .tc := ⟨.hbm, 243, rfl⟩
abbrev main_v152 : Ref sig .tc := ⟨.hbm, 244, rfl⟩
abbrev main_v153 : Ref sig .tc := ⟨.hbm, 245, rfl⟩
abbrev main_v154 : Ref sig .tc := ⟨.hbm, 246, rfl⟩
abbrev main_v155 : Ref sig .tc := ⟨.hbm, 247, rfl⟩
abbrev main_c_47 : Ref sig .tc := ⟨.hbm, 248, rfl⟩
abbrev main_v156 : Ref sig .tc := ⟨.hbm, 249, rfl⟩
abbrev main_v157 : Ref sig .tc := ⟨.hbm, 250, rfl⟩
abbrev main_c_48 : Ref sig .tc := ⟨.hbm, 251, rfl⟩
abbrev main_v158 : Ref sig .tc := ⟨.hbm, 252, rfl⟩
abbrev main_v159 : Ref sig .tc := ⟨.hbm, 253, rfl⟩
abbrev main_v160 : Ref sig .tc := ⟨.hbm, 254, rfl⟩
abbrev main_c_49 : Ref sig .tc := ⟨.hbm, 255, rfl⟩
abbrev main_v161 : Ref sig .tc := ⟨.hbm, 256, rfl⟩
abbrev main_v162 : Ref sig .tc := ⟨.hbm, 257, rfl⟩
abbrev main_c_50 : Ref sig .tc := ⟨.hbm, 258, rfl⟩
abbrev main_v163 : Ref sig .tc := ⟨.hbm, 259, rfl⟩
abbrev main_v164 : Ref sig .tc := ⟨.hbm, 260, rfl⟩
abbrev main_v165 : Ref sig .tc := ⟨.hbm, 261, rfl⟩
abbrev main_v166 : Ref sig .tc := ⟨.hbm, 262, rfl⟩
abbrev main_v167 : Ref sig .tc := ⟨.hbm, 263, rfl⟩
abbrev main_v168 : Ref sig .tc := ⟨.hbm, 264, rfl⟩
abbrev main_v169 : Ref sig .tc := ⟨.hbm, 265, rfl⟩
abbrev main_v170 : Ref sig .tc := ⟨.hbm, 266, rfl⟩
abbrev main_v171 : Ref sig .tc := ⟨.hbm, 267, rfl⟩
abbrev main_v172 : Ref sig .tc := ⟨.hbm, 268, rfl⟩
abbrev main_v173 : Ref sig .tc := ⟨.hbm, 269, rfl⟩
abbrev main_v174 : Ref sig .tc := ⟨.hbm, 270, rfl⟩
abbrev main_v175 : Ref sig .tc := ⟨.hbm, 271, rfl⟩
abbrev main_v176 : Ref sig .tc := ⟨.hbm, 272, rfl⟩
abbrev main_v177 : Ref sig .tc := ⟨.hbm, 273, rfl⟩
abbrev main_v178 : Ref sig .tc := ⟨.hbm, 274, rfl⟩
abbrev main_v179 : Ref sig .tc := ⟨.hbm, 275, rfl⟩
abbrev main_v180 : Ref sig .tc := ⟨.hbm, 276, rfl⟩
abbrev main_v181 : Ref sig .tc := ⟨.hbm, 277, rfl⟩
abbrev main_v182 : Ref sig .tc := ⟨.hbm, 278, rfl⟩
abbrev main_v183 : Ref sig .tc := ⟨.hbm, 279, rfl⟩
abbrev main_cst_51 : Ref sig .tc := ⟨.hbm, 280, rfl⟩
abbrev main_v184 : Ref sig .tc := ⟨.hbm, 281, rfl⟩
abbrev main_c_52 : Ref sig .tc := ⟨.hbm, 282, rfl⟩
abbrev main_v185 : Ref sig .tc := ⟨.hbm, 283, rfl⟩
abbrev main_c_53 : Ref sig .tc := ⟨.hbm, 284, rfl⟩
abbrev main_v186 : Ref sig .tc := ⟨.hbm, 285, rfl⟩
abbrev main_v187 : Ref sig .tc := ⟨.hbm, 286, rfl⟩
abbrev main_cst_54 : Ref sig .tc := ⟨.hbm, 287, rfl⟩
abbrev main_v188 : Ref sig .tc := ⟨.hbm, 288, rfl⟩
abbrev main_v189 : Ref sig .tc := ⟨.hbm, 289, rfl⟩
abbrev main_v190 : Ref sig .tc := ⟨.hbm, 290, rfl⟩
abbrev main_v191 : Ref sig .tc := ⟨.hbm, 291, rfl⟩
abbrev main_v192 : Ref sig .tc := ⟨.hbm, 292, rfl⟩
abbrev main_cst_55 : Ref sig .tc := ⟨.hbm, 293, rfl⟩
abbrev main_v193 : Ref sig .tc := ⟨.hbm, 294, rfl⟩
abbrev main_c_56 : Ref sig .tc := ⟨.hbm, 295, rfl⟩
abbrev main_v194 : Ref sig .tc := ⟨.hbm, 296, rfl⟩
abbrev main_c_57 : Ref sig .tc := ⟨.hbm, 297, rfl⟩
abbrev main_v195 : Ref sig .tc := ⟨.hbm, 298, rfl⟩
abbrev main_v196 : Ref sig .tc := ⟨.hbm, 299, rfl⟩
abbrev main_cst_58 : Ref sig .tc := ⟨.hbm, 300, rfl⟩
abbrev main_v197 : Ref sig .tc := ⟨.hbm, 301, rfl⟩
abbrev main_v198 : Ref sig .tc := ⟨.hbm, 302, rfl⟩
abbrev main_v199 : Ref sig .tc := ⟨.hbm, 303, rfl⟩
abbrev main_v200 : Ref sig .tc := ⟨.hbm, 304, rfl⟩
abbrev main_v201 : Ref sig .tc := ⟨.hbm, 305, rfl⟩
abbrev main_cst_59 : Ref sig .tc := ⟨.hbm, 306, rfl⟩
abbrev main_v202 : Ref sig .tc := ⟨.hbm, 307, rfl⟩
abbrev main_v203 : Ref sig .tc := ⟨.hbm, 308, rfl⟩
abbrev main_v204 : Ref sig .tc := ⟨.hbm, 309, rfl⟩
abbrev main_v205 : Ref sig .tc := ⟨.hbm, 310, rfl⟩
abbrev main_v206 : Ref sig .tc := ⟨.hbm, 311, rfl⟩
abbrev main_v207 : Ref sig .tc := ⟨.hbm, 312, rfl⟩
abbrev main_v208 : Ref sig .tc := ⟨.hbm, 313, rfl⟩
abbrev main_cst_60 : Ref sig .tc := ⟨.hbm, 314, rfl⟩
abbrev main_v209 : Ref sig .tc := ⟨.hbm, 315, rfl⟩
abbrev main_v210 : Ref sig .tc := ⟨.hbm, 316, rfl⟩
abbrev main_v211 : Ref sig .tc := ⟨.hbm, 317, rfl⟩
abbrev main_v212 : Ref sig .tc := ⟨.hbm, 318, rfl⟩
abbrev main_v213 : Ref sig .tc := ⟨.hbm, 319, rfl⟩
abbrev main_v214 : Ref sig .tc := ⟨.hbm, 320, rfl⟩
abbrev main_v215 : Ref sig .tc := ⟨.hbm, 321, rfl⟩
abbrev main_v216 : Ref sig .tc := ⟨.hbm, 322, rfl⟩
abbrev main_v217 : Ref sig .tc := ⟨.hbm, 323, rfl⟩
abbrev main_v218 : Ref sig .tc := ⟨.hbm, 324, rfl⟩
abbrev main_cst_61 : Ref sig .tc := ⟨.hbm, 325, rfl⟩
abbrev main_v219 : Ref sig .tc := ⟨.hbm, 326, rfl⟩
abbrev main_v220 : Ref sig .tc := ⟨.hbm, 327, rfl⟩
abbrev main_v221 : Ref sig .tc := ⟨.hbm, 328, rfl⟩
abbrev main_v222 : Ref sig .tc := ⟨.hbm, 329, rfl⟩
abbrev main_v223 : Ref sig .tc := ⟨.hbm, 330, rfl⟩
abbrev main_v224 : Ref sig .tc := ⟨.hbm, 331, rfl⟩
abbrev main_v225 : Ref sig .tc := ⟨.hbm, 332, rfl⟩
abbrev main_cst_62 : Ref sig .tc := ⟨.hbm, 333, rfl⟩
abbrev main_v226 : Ref sig .tc := ⟨.hbm, 334, rfl⟩
abbrev main_v227 : Ref sig .tc := ⟨.hbm, 335, rfl⟩
abbrev main_v228 : Ref sig .tc := ⟨.hbm, 336, rfl⟩
abbrev main_v229 : Ref sig .tc := ⟨.hbm, 337, rfl⟩
abbrev main_v230 : Ref sig .tc := ⟨.hbm, 338, rfl⟩
abbrev main_cst_63 : Ref sig .tc := ⟨.hbm, 339, rfl⟩
abbrev main_v231 : Ref sig .tc := ⟨.hbm, 340, rfl⟩
abbrev main_v232 : Ref sig .tc := ⟨.hbm, 341, rfl⟩
abbrev main_cst_64 : Ref sig .tc := ⟨.hbm, 342, rfl⟩
abbrev main_v233 : Ref sig .tc := ⟨.hbm, 343, rfl⟩
abbrev main_v234 : Ref sig .tc := ⟨.hbm, 344, rfl⟩
abbrev main_v235 : Ref sig .tc := ⟨.hbm, 345, rfl⟩
abbrev main_v236 : Ref sig .tc := ⟨.hbm, 346, rfl⟩
abbrev main_v237 : Ref sig .tc := ⟨.hbm, 347, rfl⟩
abbrev main_v238 : Ref sig .tc := ⟨.hbm, 348, rfl⟩
abbrev main_v239 : Ref sig .tc := ⟨.hbm, 349, rfl⟩
abbrev main_v240 : Ref sig .tc := ⟨.hbm, 350, rfl⟩
abbrev main_v241 : Ref sig .tc := ⟨.hbm, 351, rfl⟩
abbrev main_v242 : Ref sig .tc := ⟨.hbm, 352, rfl⟩
abbrev main_v243 : Ref sig .tc := ⟨.hbm, 353, rfl⟩
abbrev main_v244 : Ref sig .tc := ⟨.hbm, 354, rfl⟩
abbrev main_v245 : Ref sig .tc := ⟨.hbm, 355, rfl⟩
abbrev main_v246 : Ref sig .tc := ⟨.hbm, 356, rfl⟩
abbrev main_cst_65 : Ref sig .tc := ⟨.hbm, 357, rfl⟩
abbrev main_cst_66 : Ref sig .tc := ⟨.hbm, 358, rfl⟩
abbrev main_call8_v0 : Ref sig .tc := ⟨.hbm, 359, rfl⟩
abbrev main_call8_v1 : Ref sig .tc := ⟨.hbm, 360, rfl⟩
abbrev main_call8_v2 : Ref sig .tc := ⟨.hbm, 361, rfl⟩
abbrev main_call8_v3 : Ref sig .tc := ⟨.hbm, 362, rfl⟩
abbrev main_call8_v4 : Ref sig .tc := ⟨.hbm, 363, rfl⟩
abbrev main_v247 : Ref sig .tc := ⟨.hbm, 364, rfl⟩
abbrev main_v248 : Ref sig .tc := ⟨.hbm, 365, rfl⟩
abbrev main_cst_67 : Ref sig .tc := ⟨.hbm, 366, rfl⟩
abbrev main_cst_68 : Ref sig .tc := ⟨.hbm, 367, rfl⟩
abbrev main_call9_v0 : Ref sig .tc := ⟨.hbm, 368, rfl⟩
abbrev main_call9_v1 : Ref sig .tc := ⟨.hbm, 369, rfl⟩
abbrev main_call9_v2 : Ref sig .tc := ⟨.hbm, 370, rfl⟩
abbrev main_call9_v3 : Ref sig .tc := ⟨.hbm, 371, rfl⟩
abbrev main_call9_v4 : Ref sig .tc := ⟨.hbm, 372, rfl⟩
abbrev main_v249 : Ref sig .tc := ⟨.hbm, 373, rfl⟩
abbrev main_v250 : Ref sig .tc := ⟨.hbm, 374, rfl⟩
abbrev main_cst_69 : Ref sig .tc := ⟨.hbm, 375, rfl⟩
abbrev main_v251 : Ref sig .tc := ⟨.hbm, 376, rfl⟩
abbrev main_v252 : Ref sig .tc := ⟨.hbm, 377, rfl⟩
abbrev main_cst_70 : Ref sig .tc := ⟨.hbm, 378, rfl⟩
abbrev main_v253 : Ref sig .tc := ⟨.hbm, 379, rfl⟩
abbrev main_v254 : Ref sig .tc := ⟨.hbm, 380, rfl⟩
abbrev main_v255 : Ref sig .tc := ⟨.hbm, 381, rfl⟩
abbrev main_cst_71 : Ref sig .tc := ⟨.hbm, 382, rfl⟩
abbrev main_v256 : Ref sig .tc := ⟨.hbm, 383, rfl⟩
abbrev main_v257 : Ref sig .tc := ⟨.hbm, 384, rfl⟩
abbrev main_v258 : Ref sig .tc := ⟨.hbm, 385, rfl⟩
abbrev main_cst_72 : Ref sig .tc := ⟨.hbm, 386, rfl⟩
abbrev main_v259 : Ref sig .tc := ⟨.hbm, 387, rfl⟩
abbrev main_v260 : Ref sig .tc := ⟨.hbm, 388, rfl⟩
abbrev main_v261 : Ref sig .tc := ⟨.hbm, 389, rfl⟩
abbrev main_v262 : Ref sig .tc := ⟨.hbm, 390, rfl⟩
abbrev main_c_73 : Ref sig .tc := ⟨.hbm, 391, rfl⟩
abbrev main_v263 : Ref sig .tc := ⟨.hbm, 392, rfl⟩
abbrev main_v264 : Ref sig .tc := ⟨.hbm, 393, rfl⟩
abbrev main_c_74 : Ref sig .tc := ⟨.hbm, 394, rfl⟩
abbrev main_v265 : Ref sig .tc := ⟨.hbm, 395, rfl⟩
abbrev main_v266 : Ref sig .tc := ⟨.hbm, 396, rfl⟩
abbrev main_v267 : Ref sig .tc := ⟨.hbm, 397, rfl⟩
abbrev main_c_75 : Ref sig .tc := ⟨.hbm, 398, rfl⟩
abbrev main_v268 : Ref sig .tc := ⟨.hbm, 399, rfl⟩
abbrev main_v269 : Ref sig .tc := ⟨.hbm, 400, rfl⟩
abbrev main_c_76 : Ref sig .tc := ⟨.hbm, 401, rfl⟩
abbrev main_v270 : Ref sig .tc := ⟨.hbm, 402, rfl⟩
abbrev main_v271 : Ref sig .tc := ⟨.hbm, 403, rfl⟩
abbrev main_v272 : Ref sig .tc := ⟨.hbm, 404, rfl⟩
abbrev main_v273 : Ref sig .tc := ⟨.hbm, 405, rfl⟩
abbrev main_v274 : Ref sig .tc := ⟨.hbm, 406, rfl⟩
abbrev main_v275 : Ref sig .tc := ⟨.hbm, 407, rfl⟩
abbrev main_v276 : Ref sig .tc := ⟨.hbm, 408, rfl⟩
abbrev main_v277 : Ref sig .tc := ⟨.hbm, 409, rfl⟩
abbrev main_v278 : Ref sig .tc := ⟨.hbm, 410, rfl⟩
abbrev main_cst_77 : Ref sig .tc := ⟨.hbm, 411, rfl⟩
abbrev main_cst_78 : Ref sig .tc := ⟨.hbm, 412, rfl⟩
abbrev main_call10_v0 : Ref sig .tc := ⟨.hbm, 413, rfl⟩
abbrev main_call10_v1 : Ref sig .tc := ⟨.hbm, 414, rfl⟩
abbrev main_call10_v2 : Ref sig .tc := ⟨.hbm, 415, rfl⟩
abbrev main_call10_v3 : Ref sig .tc := ⟨.hbm, 416, rfl⟩
abbrev main_call10_v4 : Ref sig .tc := ⟨.hbm, 417, rfl⟩
abbrev main_v279 : Ref sig .tc := ⟨.hbm, 418, rfl⟩
abbrev main_v280 : Ref sig .tc := ⟨.hbm, 419, rfl⟩
abbrev main_cst_79 : Ref sig .tc := ⟨.hbm, 420, rfl⟩
abbrev main_cst_80 : Ref sig .tc := ⟨.hbm, 421, rfl⟩
abbrev main_call11_v0 : Ref sig .tc := ⟨.hbm, 422, rfl⟩
abbrev main_call11_v1 : Ref sig .tc := ⟨.hbm, 423, rfl⟩
abbrev main_call11_v2 : Ref sig .tc := ⟨.hbm, 424, rfl⟩
abbrev main_call11_v3 : Ref sig .tc := ⟨.hbm, 425, rfl⟩
abbrev main_call11_v4 : Ref sig .tc := ⟨.hbm, 426, rfl⟩
abbrev main_v281 : Ref sig .tc := ⟨.hbm, 427, rfl⟩
abbrev main_v282 : Ref sig .tc := ⟨.hbm, 428, rfl⟩
abbrev main_cst_81 : Ref sig .tc := ⟨.hbm, 429, rfl⟩
abbrev main_v283 : Ref sig .tc := ⟨.hbm, 430, rfl⟩
abbrev main_v284 : Ref sig .tc := ⟨.hbm, 431, rfl⟩
abbrev main_cst_82 : Ref sig .tc := ⟨.hbm, 432, rfl⟩
abbrev main_v285 : Ref sig .tc := ⟨.hbm, 433, rfl⟩
abbrev main_v286 : Ref sig .tc := ⟨.hbm, 434, rfl⟩
abbrev main_v287 : Ref sig .tc := ⟨.hbm, 435, rfl⟩
abbrev main_cst_83 : Ref sig .tc := ⟨.hbm, 436, rfl⟩
abbrev main_v288 : Ref sig .tc := ⟨.hbm, 437, rfl⟩
abbrev main_v289 : Ref sig .tc := ⟨.hbm, 438, rfl⟩
abbrev main_v290 : Ref sig .tc := ⟨.hbm, 439, rfl⟩
abbrev main_cst_84 : Ref sig .tc := ⟨.hbm, 440, rfl⟩
abbrev main_v291 : Ref sig .tc := ⟨.hbm, 441, rfl⟩
abbrev main_v292 : Ref sig .tc := ⟨.hbm, 442, rfl⟩
abbrev main_v293 : Ref sig .tc := ⟨.hbm, 443, rfl⟩
abbrev main_v294 : Ref sig .tc := ⟨.hbm, 444, rfl⟩
abbrev main_c_85 : Ref sig .tc := ⟨.hbm, 445, rfl⟩
abbrev main_v295 : Ref sig .tc := ⟨.hbm, 446, rfl⟩
abbrev main_v296 : Ref sig .tc := ⟨.hbm, 447, rfl⟩
abbrev main_c_86 : Ref sig .tc := ⟨.hbm, 448, rfl⟩
abbrev main_v297 : Ref sig .tc := ⟨.hbm, 449, rfl⟩
abbrev main_v298 : Ref sig .tc := ⟨.hbm, 450, rfl⟩
abbrev main_v299 : Ref sig .tc := ⟨.hbm, 451, rfl⟩
abbrev main_c_87 : Ref sig .tc := ⟨.hbm, 452, rfl⟩
abbrev main_v300 : Ref sig .tc := ⟨.hbm, 453, rfl⟩
abbrev main_v301 : Ref sig .tc := ⟨.hbm, 454, rfl⟩
abbrev main_c_88 : Ref sig .tc := ⟨.hbm, 455, rfl⟩
abbrev main_v302 : Ref sig .tc := ⟨.hbm, 456, rfl⟩
abbrev main_v303 : Ref sig .tc := ⟨.hbm, 457, rfl⟩
abbrev main_v304 : Ref sig .tc := ⟨.hbm, 458, rfl⟩
abbrev main_v305 : Ref sig .tc := ⟨.hbm, 459, rfl⟩
abbrev main_v306 : Ref sig .tc := ⟨.hbm, 460, rfl⟩
abbrev main_v307 : Ref sig .tc := ⟨.hbm, 461, rfl⟩
abbrev main_v308 : Ref sig .tc := ⟨.hbm, 462, rfl⟩
abbrev main_v309 : Ref sig .tc := ⟨.hbm, 463, rfl⟩
abbrev main_v310 : Ref sig .tc := ⟨.hbm, 464, rfl⟩
abbrev main_cst_89 : Ref sig .tc := ⟨.hbm, 465, rfl⟩
abbrev main_cst_90 : Ref sig .tc := ⟨.hbm, 466, rfl⟩
abbrev main_call12_v0 : Ref sig .tc := ⟨.hbm, 467, rfl⟩
abbrev main_call12_v1 : Ref sig .tc := ⟨.hbm, 468, rfl⟩
abbrev main_call12_v2 : Ref sig .tc := ⟨.hbm, 469, rfl⟩
abbrev main_call12_v3 : Ref sig .tc := ⟨.hbm, 470, rfl⟩
abbrev main_call12_v4 : Ref sig .tc := ⟨.hbm, 471, rfl⟩
abbrev main_v311 : Ref sig .tc := ⟨.hbm, 472, rfl⟩
abbrev main_v312 : Ref sig .tc := ⟨.hbm, 473, rfl⟩
abbrev main_cst_91 : Ref sig .tc := ⟨.hbm, 474, rfl⟩
abbrev main_cst_92 : Ref sig .tc := ⟨.hbm, 475, rfl⟩
abbrev main_call13_v0 : Ref sig .tc := ⟨.hbm, 476, rfl⟩
abbrev main_call13_v1 : Ref sig .tc := ⟨.hbm, 477, rfl⟩
abbrev main_call13_v2 : Ref sig .tc := ⟨.hbm, 478, rfl⟩
abbrev main_call13_v3 : Ref sig .tc := ⟨.hbm, 479, rfl⟩
abbrev main_call13_v4 : Ref sig .tc := ⟨.hbm, 480, rfl⟩
abbrev main_v313 : Ref sig .tc := ⟨.hbm, 481, rfl⟩
abbrev main_v314 : Ref sig .tc := ⟨.hbm, 482, rfl⟩
abbrev main_cst_93 : Ref sig .tc := ⟨.hbm, 483, rfl⟩
abbrev main_v315 : Ref sig .tc := ⟨.hbm, 484, rfl⟩
abbrev main_v316 : Ref sig .tc := ⟨.hbm, 485, rfl⟩
abbrev main_cst_94 : Ref sig .tc := ⟨.hbm, 486, rfl⟩
abbrev main_v317 : Ref sig .tc := ⟨.hbm, 487, rfl⟩
abbrev main_v318 : Ref sig .tc := ⟨.hbm, 488, rfl⟩
abbrev main_v319 : Ref sig .tc := ⟨.hbm, 489, rfl⟩
abbrev main_cst_95 : Ref sig .tc := ⟨.hbm, 490, rfl⟩
abbrev main_v320 : Ref sig .tc := ⟨.hbm, 491, rfl⟩
abbrev main_v321 : Ref sig .tc := ⟨.hbm, 492, rfl⟩
abbrev main_v322 : Ref sig .tc := ⟨.hbm, 493, rfl⟩
abbrev main_cst_96 : Ref sig .tc := ⟨.hbm, 494, rfl⟩
abbrev main_v323 : Ref sig .tc := ⟨.hbm, 495, rfl⟩
abbrev main_v324 : Ref sig .tc := ⟨.hbm, 496, rfl⟩
abbrev main_v325 : Ref sig .tc := ⟨.hbm, 497, rfl⟩
abbrev main_v326 : Ref sig .tc := ⟨.hbm, 498, rfl⟩
abbrev main_c_97 : Ref sig .tc := ⟨.hbm, 499, rfl⟩
abbrev main_v327 : Ref sig .tc := ⟨.hbm, 500, rfl⟩
abbrev main_v328 : Ref sig .tc := ⟨.hbm, 501, rfl⟩
abbrev main_c_98 : Ref sig .tc := ⟨.hbm, 502, rfl⟩
abbrev main_v329 : Ref sig .tc := ⟨.hbm, 503, rfl⟩
abbrev main_v330 : Ref sig .tc := ⟨.hbm, 504, rfl⟩
abbrev main_v331 : Ref sig .tc := ⟨.hbm, 505, rfl⟩
abbrev main_c_99 : Ref sig .tc := ⟨.hbm, 506, rfl⟩
abbrev main_v332 : Ref sig .tc := ⟨.hbm, 507, rfl⟩
abbrev main_v333 : Ref sig .tc := ⟨.hbm, 508, rfl⟩
abbrev main_c_100 : Ref sig .tc := ⟨.hbm, 509, rfl⟩
abbrev main_v334 : Ref sig .tc := ⟨.hbm, 510, rfl⟩
abbrev main_v335 : Ref sig .tc := ⟨.hbm, 511, rfl⟩
abbrev main_v336 : Ref sig .tc := ⟨.hbm, 512, rfl⟩
abbrev main_v337 : Ref sig .tc := ⟨.hbm, 513, rfl⟩
abbrev main_v338 : Ref sig .tc := ⟨.hbm, 514, rfl⟩
abbrev main_v339 : Ref sig .tc := ⟨.hbm, 515, rfl⟩
abbrev main_v340 : Ref sig .tc := ⟨.hbm, 516, rfl⟩
abbrev main_v341 : Ref sig .tc := ⟨.hbm, 517, rfl⟩
abbrev main_v342 : Ref sig .tc := ⟨.hbm, 518, rfl⟩
abbrev main_cst_101 : Ref sig .tc := ⟨.hbm, 519, rfl⟩
abbrev main_cst_102 : Ref sig .tc := ⟨.hbm, 520, rfl⟩
abbrev main_call14_v0 : Ref sig .tc := ⟨.hbm, 521, rfl⟩
abbrev main_call14_v1 : Ref sig .tc := ⟨.hbm, 522, rfl⟩
abbrev main_call14_v2 : Ref sig .tc := ⟨.hbm, 523, rfl⟩
abbrev main_call14_v3 : Ref sig .tc := ⟨.hbm, 524, rfl⟩
abbrev main_call14_v4 : Ref sig .tc := ⟨.hbm, 525, rfl⟩
abbrev main_v343 : Ref sig .tc := ⟨.hbm, 526, rfl⟩
abbrev main_v344 : Ref sig .tc := ⟨.hbm, 527, rfl⟩
abbrev main_cst_103 : Ref sig .tc := ⟨.hbm, 528, rfl⟩
abbrev main_cst_104 : Ref sig .tc := ⟨.hbm, 529, rfl⟩
abbrev main_call15_v0 : Ref sig .tc := ⟨.hbm, 530, rfl⟩
abbrev main_call15_v1 : Ref sig .tc := ⟨.hbm, 531, rfl⟩
abbrev main_call15_v2 : Ref sig .tc := ⟨.hbm, 532, rfl⟩
abbrev main_call15_v3 : Ref sig .tc := ⟨.hbm, 533, rfl⟩
abbrev main_call15_v4 : Ref sig .tc := ⟨.hbm, 534, rfl⟩
abbrev main_v345 : Ref sig .tc := ⟨.hbm, 535, rfl⟩
abbrev main_v346 : Ref sig .tc := ⟨.hbm, 536, rfl⟩
abbrev main_cst_105 : Ref sig .tc := ⟨.hbm, 537, rfl⟩
abbrev main_v347 : Ref sig .tc := ⟨.hbm, 538, rfl⟩
abbrev main_v348 : Ref sig .tc := ⟨.hbm, 539, rfl⟩
abbrev main_cst_106 : Ref sig .tc := ⟨.hbm, 540, rfl⟩
abbrev main_v349 : Ref sig .tc := ⟨.hbm, 541, rfl⟩
abbrev main_v350 : Ref sig .tc := ⟨.hbm, 542, rfl⟩
abbrev main_v351 : Ref sig .tc := ⟨.hbm, 543, rfl⟩
abbrev main_cst_107 : Ref sig .tc := ⟨.hbm, 544, rfl⟩
abbrev main_v352 : Ref sig .tc := ⟨.hbm, 545, rfl⟩
abbrev main_v353 : Ref sig .tc := ⟨.hbm, 546, rfl⟩
abbrev main_v354 : Ref sig .tc := ⟨.hbm, 547, rfl⟩
abbrev main_cst_108 : Ref sig .tc := ⟨.hbm, 548, rfl⟩
abbrev main_v355 : Ref sig .tc := ⟨.hbm, 549, rfl⟩
abbrev main_v356 : Ref sig .tc := ⟨.hbm, 550, rfl⟩
abbrev main_v357 : Ref sig .tc := ⟨.hbm, 551, rfl⟩
abbrev main_v358 : Ref sig .tc := ⟨.hbm, 552, rfl⟩
abbrev main_c_109 : Ref sig .tc := ⟨.hbm, 553, rfl⟩
abbrev main_v359 : Ref sig .tc := ⟨.hbm, 554, rfl⟩
abbrev main_v360 : Ref sig .tc := ⟨.hbm, 555, rfl⟩
abbrev main_c_110 : Ref sig .tc := ⟨.hbm, 556, rfl⟩
abbrev main_v361 : Ref sig .tc := ⟨.hbm, 557, rfl⟩
abbrev main_v362 : Ref sig .tc := ⟨.hbm, 558, rfl⟩
abbrev main_v363 : Ref sig .tc := ⟨.hbm, 559, rfl⟩
abbrev main_c_111 : Ref sig .tc := ⟨.hbm, 560, rfl⟩
abbrev main_v364 : Ref sig .tc := ⟨.hbm, 561, rfl⟩
abbrev main_v365 : Ref sig .tc := ⟨.hbm, 562, rfl⟩
abbrev main_c_112 : Ref sig .tc := ⟨.hbm, 563, rfl⟩
abbrev main_v366 : Ref sig .tc := ⟨.hbm, 564, rfl⟩
abbrev main_v367 : Ref sig .tc := ⟨.hbm, 565, rfl⟩
abbrev main_v368 : Ref sig .tc := ⟨.hbm, 566, rfl⟩
abbrev main_v369 : Ref sig .tc := ⟨.hbm, 567, rfl⟩
abbrev main_v370 : Ref sig .tc := ⟨.hbm, 568, rfl⟩
abbrev main_v371 : Ref sig .tc := ⟨.hbm, 569, rfl⟩
abbrev main_v372 : Ref sig .tc := ⟨.hbm, 570, rfl⟩
abbrev main_v373 : Ref sig .tc := ⟨.hbm, 571, rfl⟩
abbrev main_v374 : Ref sig .tc := ⟨.hbm, 572, rfl⟩
abbrev main_v375 : Ref sig .tc := ⟨.hbm, 573, rfl⟩
abbrev main_v376 : Ref sig .tc := ⟨.hbm, 574, rfl⟩
abbrev main_v377 : Ref sig .tc := ⟨.hbm, 575, rfl⟩
abbrev main_v378 : Ref sig .tc := ⟨.hbm, 576, rfl⟩
abbrev main_v379 : Ref sig .tc := ⟨.hbm, 577, rfl⟩
abbrev main_v380 : Ref sig .tc := ⟨.hbm, 578, rfl⟩
abbrev main_v381 : Ref sig .tc := ⟨.hbm, 579, rfl⟩
abbrev main_v382 : Ref sig .tc := ⟨.hbm, 580, rfl⟩
abbrev main_v383 : Ref sig .tc := ⟨.hbm, 581, rfl⟩
abbrev main_v384 : Ref sig .tc := ⟨.hbm, 582, rfl⟩
abbrev main_v385 : Ref sig .tc := ⟨.hbm, 583, rfl⟩
abbrev main_v386 : Ref sig .tc := ⟨.hbm, 584, rfl⟩
abbrev main_cst_113 : Ref sig .tc := ⟨.hbm, 585, rfl⟩
abbrev main_v387 : Ref sig .tc := ⟨.hbm, 586, rfl⟩
abbrev main_v388 : Ref sig .tc := ⟨.hbm, 587, rfl⟩
abbrev main_v389 : Ref sig .tc := ⟨.hbm, 588, rfl⟩
abbrev main_cst_114 : Ref sig .tc := ⟨.hbm, 589, rfl⟩
abbrev main_v390 : Ref sig .tc := ⟨.hbm, 590, rfl⟩
abbrev main_v391 : Ref sig .tc := ⟨.hbm, 591, rfl⟩
abbrev main_cst_115 : Ref sig .tc := ⟨.hbm, 592, rfl⟩
abbrev main_call16_v0 : Ref sig .tc := ⟨.hbm, 593, rfl⟩
abbrev main_call16_v1 : Ref sig .tc := ⟨.hbm, 594, rfl⟩
abbrev main_v392 : Ref sig .tc := ⟨.hbm, 595, rfl⟩
abbrev main_cst_116 : Ref sig .tc := ⟨.hbm, 596, rfl⟩
abbrev main_v393 : Ref sig .tc := ⟨.hbm, 597, rfl⟩
abbrev main_v394 : Ref sig .tc := ⟨.hbm, 598, rfl⟩
abbrev main_v395 : Ref sig .tc := ⟨.hbm, 599, rfl⟩
abbrev main_cst_117 : Ref sig .tc := ⟨.hbm, 600, rfl⟩
abbrev main_v396 : Ref sig .tc := ⟨.hbm, 601, rfl⟩
abbrev main_v397 : Ref sig .tc := ⟨.hbm, 602, rfl⟩
abbrev main_v398 : Ref sig .tc := ⟨.hbm, 603, rfl⟩
abbrev main_v399 : Ref sig .tc := ⟨.hbm, 604, rfl⟩
abbrev main_v400 : Ref sig .tc := ⟨.hbm, 605, rfl⟩
abbrev main_v401 : Ref sig .tc := ⟨.hbm, 606, rfl⟩
abbrev main_values : Ref sig .tc := ⟨.hbm, 607, rfl⟩
abbrev main_indices : Ref sig .tc := ⟨.hbm, 608, rfl⟩
abbrev main_v402 : Ref sig .tc := ⟨.hbm, 609, rfl⟩
abbrev main_v403 : Ref sig .tc := ⟨.hbm, 610, rfl⟩
abbrev main_v404 : Ref sig .tc := ⟨.hbm, 611, rfl⟩
abbrev main_cst_118 : Ref sig .tc := ⟨.hbm, 612, rfl⟩
abbrev main_v405 : Ref sig .tc := ⟨.hbm, 613, rfl⟩
abbrev main_v406 : Ref sig .tc := ⟨.hbm, 614, rfl⟩
abbrev main_c_119 : Ref sig .tc := ⟨.hbm, 615, rfl⟩
abbrev main_v407 : Ref sig .tc := ⟨.hbm, 616, rfl⟩
abbrev main_v408 : Ref sig .tc := ⟨.hbm, 617, rfl⟩
abbrev main_c_120 : Ref sig .tc := ⟨.hbm, 618, rfl⟩
abbrev main_v409 : Ref sig .tc := ⟨.hbm, 619, rfl⟩
abbrev main_v410 : Ref sig .tc := ⟨.hbm, 620, rfl⟩
abbrev main_v411 : Ref sig .tc := ⟨.hbm, 621, rfl⟩
abbrev main_c_121 : Ref sig .tc := ⟨.hbm, 622, rfl⟩
abbrev main_v412 : Ref sig .tc := ⟨.hbm, 623, rfl⟩
abbrev main_v413 : Ref sig .tc := ⟨.hbm, 624, rfl⟩
abbrev main_c_122 : Ref sig .tc := ⟨.hbm, 625, rfl⟩
abbrev main_v414 : Ref sig .tc := ⟨.hbm, 626, rfl⟩
abbrev main_v415 : Ref sig .tc := ⟨.hbm, 627, rfl⟩
abbrev main_v416 : Ref sig .tc := ⟨.hbm, 628, rfl⟩
abbrev main_v417 : Ref sig .tc := ⟨.hbm, 629, rfl⟩
abbrev main_v418 : Ref sig .tc := ⟨.hbm, 630, rfl⟩
abbrev main_v419 : Ref sig .tc := ⟨.hbm, 631, rfl⟩
abbrev main_cst_123 : Ref sig .tc := ⟨.hbm, 632, rfl⟩
abbrev main_v420 : Ref sig .tc := ⟨.hbm, 633, rfl⟩
abbrev main_v421 : Ref sig .tc := ⟨.hbm, 634, rfl⟩
abbrev main_v422 : Ref sig .tc := ⟨.hbm, 635, rfl⟩
abbrev main_c_124 : Ref sig .tc := ⟨.hbm, 636, rfl⟩
abbrev main_call17_v0 : Ref sig .tc := ⟨.hbm, 637, rfl⟩
abbrev main_call17_v1 : Ref sig .tc := ⟨.hbm, 638, rfl⟩
abbrev main_call17_v2 : Ref sig .tc := ⟨.hbm, 639, rfl⟩
abbrev main_call17_v3 : Ref sig .tc := ⟨.hbm, 640, rfl⟩
abbrev main_call17_v4 : Ref sig .tc := ⟨.hbm, 641, rfl⟩
abbrev main_call17_v5 : Ref sig .tc := ⟨.hbm, 642, rfl⟩
abbrev main_call17_v6 : Ref sig .tc := ⟨.hbm, 643, rfl⟩
abbrev main_call17_v7 : Ref sig .tc := ⟨.hbm, 644, rfl⟩
abbrev main_call17_v8 : Ref sig .tc := ⟨.hbm, 645, rfl⟩
abbrev main_call17_c : Ref sig .tc := ⟨.hbm, 646, rfl⟩
abbrev main_call17_v9 : Ref sig .tc := ⟨.hbm, 647, rfl⟩
abbrev main_call17_v10 : Ref sig .tc := ⟨.hbm, 648, rfl⟩
abbrev main_call17_v11 : Ref sig .tc := ⟨.hbm, 649, rfl⟩
abbrev main_call17_c_0 : Ref sig .tc := ⟨.hbm, 650, rfl⟩
abbrev main_call17_v12 : Ref sig .tc := ⟨.hbm, 651, rfl⟩
abbrev main_call17_v13 : Ref sig .tc := ⟨.hbm, 652, rfl⟩
abbrev main_v423 : Ref sig .tc := ⟨.hbm, 653, rfl⟩
abbrev main_c_125 : Ref sig .tc := ⟨.hbm, 654, rfl⟩
abbrev main_call18_v0 : Ref sig .tc := ⟨.hbm, 655, rfl⟩
abbrev main_call18_c : Ref sig .tc := ⟨.hbm, 656, rfl⟩
abbrev main_call18_v1 : Ref sig .tc := ⟨.hbm, 657, rfl⟩
abbrev main_call18_c_0 : Ref sig .tc := ⟨.hbm, 658, rfl⟩
abbrev main_call18_v2 : Ref sig .tc := ⟨.hbm, 659, rfl⟩
abbrev main_call18_v3 : Ref sig .tc := ⟨.hbm, 660, rfl⟩
abbrev main_call18_v4 : Ref sig .tc := ⟨.hbm, 661, rfl⟩
abbrev main_call18_c_1 : Ref sig .tc := ⟨.hbm, 662, rfl⟩
abbrev main_call18_v5 : Ref sig .tc := ⟨.hbm, 663, rfl⟩
abbrev main_call18_v6 : Ref sig .tc := ⟨.hbm, 664, rfl⟩
abbrev main_call18_c_2 : Ref sig .tc := ⟨.hbm, 665, rfl⟩
abbrev main_call18_v7 : Ref sig .tc := ⟨.hbm, 666, rfl⟩
abbrev main_call18_v8 : Ref sig .tc := ⟨.hbm, 667, rfl⟩
abbrev main_call18_c_3 : Ref sig .tc := ⟨.hbm, 668, rfl⟩
abbrev main_call18_v9 : Ref sig .tc := ⟨.hbm, 669, rfl⟩
abbrev main_call18_v10 : Ref sig .tc := ⟨.hbm, 670, rfl⟩
abbrev main_call18_v11 : Ref sig .tc := ⟨.hbm, 671, rfl⟩
abbrev main_call18_v12 : Ref sig .tc := ⟨.hbm, 672, rfl⟩
abbrev main_call18_v13 : Ref sig .tc := ⟨.hbm, 673, rfl⟩
abbrev main_call18_v14 : Ref sig .tc := ⟨.hbm, 674, rfl⟩
abbrev main_v424 : Ref sig .tc := ⟨.hbm, 675, rfl⟩
abbrev main_v425 : Ref sig .tc := ⟨.hbm, 676, rfl⟩
abbrev main_v426 : Ref sig .tc := ⟨.hbm, 677, rfl⟩
abbrev main_v427 : Ref sig .tc := ⟨.hbm, 678, rfl⟩
abbrev main_v428 : Ref sig .tc := ⟨.hbm, 679, rfl⟩
abbrev main_v429 : Ref sig .tc := ⟨.hbm, 680, rfl⟩
abbrev main_cst_126 : Ref sig .tc := ⟨.hbm, 681, rfl⟩
abbrev main_v430 : Ref sig .tc := ⟨.hbm, 682, rfl⟩
abbrev main_v431 : Ref sig .tc := ⟨.hbm, 683, rfl⟩
abbrev main_cst_127 : Ref sig .tc := ⟨.hbm, 684, rfl⟩
abbrev main_call19_v0 : Ref sig .tc := ⟨.hbm, 685, rfl⟩
abbrev main_call19_v1 : Ref sig .tc := ⟨.hbm, 686, rfl⟩
abbrev main_v432 : Ref sig .tc := ⟨.hbm, 687, rfl⟩
abbrev main_cst_128 : Ref sig .tc := ⟨.hbm, 688, rfl⟩
abbrev main_v433 : Ref sig .tc := ⟨.hbm, 689, rfl⟩
abbrev main_v434 : Ref sig .tc := ⟨.hbm, 690, rfl⟩
abbrev main_v435 : Ref sig .tc := ⟨.hbm, 691, rfl⟩
abbrev main_cst_129 : Ref sig .tc := ⟨.hbm, 692, rfl⟩
abbrev main_v436 : Ref sig .tc := ⟨.hbm, 693, rfl⟩
abbrev main_v437 : Ref sig .tc := ⟨.hbm, 694, rfl⟩
abbrev main_v438 : Ref sig .tc := ⟨.hbm, 695, rfl⟩
abbrev main_v439 : Ref sig .tc := ⟨.hbm, 696, rfl⟩
abbrev main_v440 : Ref sig .tc := ⟨.hbm, 697, rfl⟩
abbrev main_v441 : Ref sig .tc := ⟨.hbm, 698, rfl⟩
abbrev main_values_130 : Ref sig .tc := ⟨.hbm, 699, rfl⟩
abbrev main_indices_131 : Ref sig .tc := ⟨.hbm, 700, rfl⟩
abbrev main_v442 : Ref sig .tc := ⟨.hbm, 701, rfl⟩
abbrev main_v443 : Ref sig .tc := ⟨.hbm, 702, rfl⟩
abbrev main_v444 : Ref sig .tc := ⟨.hbm, 703, rfl⟩
abbrev main_cst_132 : Ref sig .tc := ⟨.hbm, 704, rfl⟩
abbrev main_v445 : Ref sig .tc := ⟨.hbm, 705, rfl⟩
abbrev main_v446 : Ref sig .tc := ⟨.hbm, 706, rfl⟩
abbrev main_c_133 : Ref sig .tc := ⟨.hbm, 707, rfl⟩
abbrev main_v447 : Ref sig .tc := ⟨.hbm, 708, rfl⟩
abbrev main_v448 : Ref sig .tc := ⟨.hbm, 709, rfl⟩
abbrev main_c_134 : Ref sig .tc := ⟨.hbm, 710, rfl⟩
abbrev main_v449 : Ref sig .tc := ⟨.hbm, 711, rfl⟩
abbrev main_v450 : Ref sig .tc := ⟨.hbm, 712, rfl⟩
abbrev main_v451 : Ref sig .tc := ⟨.hbm, 713, rfl⟩
abbrev main_c_135 : Ref sig .tc := ⟨.hbm, 714, rfl⟩
abbrev main_v452 : Ref sig .tc := ⟨.hbm, 715, rfl⟩
abbrev main_v453 : Ref sig .tc := ⟨.hbm, 716, rfl⟩
abbrev main_c_136 : Ref sig .tc := ⟨.hbm, 717, rfl⟩
abbrev main_v454 : Ref sig .tc := ⟨.hbm, 718, rfl⟩
abbrev main_v455 : Ref sig .tc := ⟨.hbm, 719, rfl⟩
abbrev main_v456 : Ref sig .tc := ⟨.hbm, 720, rfl⟩
abbrev main_v457 : Ref sig .tc := ⟨.hbm, 721, rfl⟩
abbrev main_v458 : Ref sig .tc := ⟨.hbm, 722, rfl⟩
abbrev main_v459 : Ref sig .tc := ⟨.hbm, 723, rfl⟩
abbrev main_cst_137 : Ref sig .tc := ⟨.hbm, 724, rfl⟩
abbrev main_v460 : Ref sig .tc := ⟨.hbm, 725, rfl⟩
abbrev main_v461 : Ref sig .tc := ⟨.hbm, 726, rfl⟩
abbrev main_v462 : Ref sig .tc := ⟨.hbm, 727, rfl⟩
abbrev main_c_138 : Ref sig .tc := ⟨.hbm, 728, rfl⟩
abbrev main_call20_v0 : Ref sig .tc := ⟨.hbm, 729, rfl⟩
abbrev main_call20_v1 : Ref sig .tc := ⟨.hbm, 730, rfl⟩
abbrev main_call20_v2 : Ref sig .tc := ⟨.hbm, 731, rfl⟩
abbrev main_call20_v3 : Ref sig .tc := ⟨.hbm, 732, rfl⟩
abbrev main_call20_v4 : Ref sig .tc := ⟨.hbm, 733, rfl⟩
abbrev main_call20_v5 : Ref sig .tc := ⟨.hbm, 734, rfl⟩
abbrev main_call20_v6 : Ref sig .tc := ⟨.hbm, 735, rfl⟩
abbrev main_call20_v7 : Ref sig .tc := ⟨.hbm, 736, rfl⟩
abbrev main_call20_v8 : Ref sig .tc := ⟨.hbm, 737, rfl⟩
abbrev main_call20_c : Ref sig .tc := ⟨.hbm, 738, rfl⟩
abbrev main_call20_v9 : Ref sig .tc := ⟨.hbm, 739, rfl⟩
abbrev main_call20_v10 : Ref sig .tc := ⟨.hbm, 740, rfl⟩
abbrev main_call20_v11 : Ref sig .tc := ⟨.hbm, 741, rfl⟩
abbrev main_call20_c_0 : Ref sig .tc := ⟨.hbm, 742, rfl⟩
abbrev main_call20_v12 : Ref sig .tc := ⟨.hbm, 743, rfl⟩
abbrev main_call20_v13 : Ref sig .tc := ⟨.hbm, 744, rfl⟩
abbrev main_v463 : Ref sig .tc := ⟨.hbm, 745, rfl⟩
abbrev main_c_139 : Ref sig .tc := ⟨.hbm, 746, rfl⟩
abbrev main_call21_v0 : Ref sig .tc := ⟨.hbm, 747, rfl⟩
abbrev main_call21_c : Ref sig .tc := ⟨.hbm, 748, rfl⟩
abbrev main_call21_v1 : Ref sig .tc := ⟨.hbm, 749, rfl⟩
abbrev main_call21_c_0 : Ref sig .tc := ⟨.hbm, 750, rfl⟩
abbrev main_call21_v2 : Ref sig .tc := ⟨.hbm, 751, rfl⟩
abbrev main_call21_v3 : Ref sig .tc := ⟨.hbm, 752, rfl⟩
abbrev main_call21_v4 : Ref sig .tc := ⟨.hbm, 753, rfl⟩
abbrev main_call21_c_1 : Ref sig .tc := ⟨.hbm, 754, rfl⟩
abbrev main_call21_v5 : Ref sig .tc := ⟨.hbm, 755, rfl⟩
abbrev main_call21_v6 : Ref sig .tc := ⟨.hbm, 756, rfl⟩
abbrev main_call21_c_2 : Ref sig .tc := ⟨.hbm, 757, rfl⟩
abbrev main_call21_v7 : Ref sig .tc := ⟨.hbm, 758, rfl⟩
abbrev main_call21_v8 : Ref sig .tc := ⟨.hbm, 759, rfl⟩
abbrev main_call21_c_3 : Ref sig .tc := ⟨.hbm, 760, rfl⟩
abbrev main_call21_v9 : Ref sig .tc := ⟨.hbm, 761, rfl⟩
abbrev main_call21_v10 : Ref sig .tc := ⟨.hbm, 762, rfl⟩
abbrev main_call21_v11 : Ref sig .tc := ⟨.hbm, 763, rfl⟩
abbrev main_call21_v12 : Ref sig .tc := ⟨.hbm, 764, rfl⟩
abbrev main_call21_v13 : Ref sig .tc := ⟨.hbm, 765, rfl⟩
abbrev main_call21_v14 : Ref sig .tc := ⟨.hbm, 766, rfl⟩
abbrev main_v464 : Ref sig .tc := ⟨.hbm, 767, rfl⟩
abbrev main_v465 : Ref sig .tc := ⟨.hbm, 768, rfl⟩
abbrev main_v466 : Ref sig .tc := ⟨.hbm, 769, rfl⟩
abbrev main_v467 : Ref sig .tc := ⟨.hbm, 770, rfl⟩
abbrev main_v468 : Ref sig .tc := ⟨.hbm, 771, rfl⟩
abbrev main_v469 : Ref sig .tc := ⟨.hbm, 772, rfl⟩
abbrev main_cst_140 : Ref sig .tc := ⟨.hbm, 773, rfl⟩
abbrev main_cst_141 : Ref sig .tc := ⟨.hbm, 774, rfl⟩
abbrev main_cst_142 : Ref sig .tc := ⟨.hbm, 775, rfl⟩
abbrev main_cst_143 : Ref sig .tc := ⟨.hbm, 776, rfl⟩
abbrev main_cst_144 : Ref sig .tc := ⟨.hbm, 777, rfl⟩
abbrev main_cst_145 : Ref sig .tc := ⟨.hbm, 778, rfl⟩
abbrev main_cst_146 : Ref sig .tc := ⟨.hbm, 779, rfl⟩
abbrev main_cst_147 : Ref sig .tc := ⟨.hbm, 780, rfl⟩
abbrev main_cst_148 : Ref sig .tc := ⟨.hbm, 781, rfl⟩
abbrev main_cst_149 : Ref sig .tc := ⟨.hbm, 782, rfl⟩
abbrev main_cst_150 : Ref sig .tc := ⟨.hbm, 783, rfl⟩
abbrev main_cst_151 : Ref sig .tc := ⟨.hbm, 784, rfl⟩
abbrev main_cst_152 : Ref sig .tc := ⟨.hbm, 785, rfl⟩
abbrev main_cst_153 : Ref sig .tc := ⟨.hbm, 786, rfl⟩
abbrev main_cst_154 : Ref sig .tc := ⟨.hbm, 787, rfl⟩
abbrev main_v470 : Ref sig .tc := ⟨.hbm, 788, rfl⟩
abbrev main_v471 : Ref sig .tc := ⟨.hbm, 789, rfl⟩
abbrev main_v472 : Ref sig .tc := ⟨.hbm, 790, rfl⟩
abbrev main_v473 : Ref sig .tc := ⟨.hbm, 791, rfl⟩
abbrev main_v474 : Ref sig .tc := ⟨.hbm, 792, rfl⟩
abbrev main_v475 : Ref sig .tc := ⟨.hbm, 793, rfl⟩
abbrev main_v476 : Ref sig .tc := ⟨.hbm, 794, rfl⟩
abbrev main_v477 : Ref sig .tc := ⟨.hbm, 795, rfl⟩
abbrev main_v478 : Ref sig .tc := ⟨.hbm, 796, rfl⟩
abbrev main_v479 : Ref sig .tc := ⟨.hbm, 797, rfl⟩
abbrev main_v480 : Ref sig .tc := ⟨.hbm, 798, rfl⟩
abbrev main_v481 : Ref sig .tc := ⟨.hbm, 799, rfl⟩
abbrev main_v482 : Ref sig .tc := ⟨.hbm, 800, rfl⟩
abbrev main_v483 : Ref sig .tc := ⟨.hbm, 801, rfl⟩
abbrev main_v484 : Ref sig .tc := ⟨.hbm, 802, rfl⟩
abbrev main_v485 : Ref sig .tc := ⟨.hbm, 803, rfl⟩
abbrev main_v486 : Ref sig .tc := ⟨.hbm, 804, rfl⟩
abbrev main_v487 : Ref sig .tc := ⟨.hbm, 805, rfl⟩
abbrev main_v488 : Ref sig .tc := ⟨.hbm, 806, rfl⟩
abbrev main_v489 : Ref sig .tc := ⟨.hbm, 807, rfl⟩
abbrev main_v490 : Ref sig .tc := ⟨.hbm, 808, rfl⟩
abbrev main_v491 : Ref sig .tc := ⟨.hbm, 809, rfl⟩
abbrev main_c_155 : Ref sig .tc := ⟨.hbm, 810, rfl⟩
abbrev main_call22_v0 : Ref sig .tc := ⟨.hbm, 811, rfl⟩
abbrev main_v492 : Ref sig .tc := ⟨.hbm, 812, rfl⟩
abbrev main_v493 : Ref sig .tc := ⟨.hbm, 813, rfl⟩
abbrev main_v494 : Ref sig .tc := ⟨.hbm, 814, rfl⟩
abbrev main_v495 : Ref sig .tc := ⟨.hbm, 815, rfl⟩
abbrev main_v496 : Ref sig .tc := ⟨.hbm, 816, rfl⟩
abbrev main_v497 : Ref sig .tc := ⟨.hbm, 817, rfl⟩
abbrev main_v498 : Ref sig .tc := ⟨.hbm, 818, rfl⟩
abbrev main_v499 : Ref sig .tc := ⟨.hbm, 819, rfl⟩
abbrev main_v500 : Ref sig .tc := ⟨.hbm, 820, rfl⟩
abbrev main_v501 : Ref sig .tc := ⟨.hbm, 821, rfl⟩
abbrev main_v502 : Ref sig .tc := ⟨.hbm, 822, rfl⟩
abbrev main_v503 : Ref sig .tc := ⟨.hbm, 823, rfl⟩
abbrev main_v504 : Ref sig .tc := ⟨.hbm, 824, rfl⟩
abbrev main_v505 : Ref sig .tc := ⟨.hbm, 825, rfl⟩
abbrev main_v506 : Ref sig .tc := ⟨.hbm, 826, rfl⟩
abbrev main_v507 : Ref sig .tc := ⟨.hbm, 827, rfl⟩
abbrev main_v508 : Ref sig .tc := ⟨.hbm, 828, rfl⟩
abbrev main_v509 : Ref sig .tc := ⟨.hbm, 829, rfl⟩
abbrev main_v510 : Ref sig .tc := ⟨.hbm, 830, rfl⟩
abbrev main_v511 : Ref sig .tc := ⟨.hbm, 831, rfl⟩
abbrev main_v512 : Ref sig .tc := ⟨.hbm, 832, rfl⟩
abbrev main_v513 : Ref sig .tc := ⟨.hbm, 833, rfl⟩
abbrev main_v514 : Ref sig .tc := ⟨.hbm, 834, rfl⟩
abbrev main_v515 : Ref sig .tc := ⟨.hbm, 835, rfl⟩
abbrev main_v516 : Ref sig .tc := ⟨.hbm, 836, rfl⟩
abbrev main_v517 : Ref sig .tc := ⟨.hbm, 837, rfl⟩
abbrev main_v518 : Ref sig .tc := ⟨.hbm, 838, rfl⟩
abbrev main_v519 : Ref sig .tc := ⟨.hbm, 839, rfl⟩
abbrev main_v520 : Ref sig .tc := ⟨.hbm, 840, rfl⟩
abbrev main_v521 : Ref sig .tc := ⟨.hbm, 841, rfl⟩
abbrev main_v522 : Ref sig .tc := ⟨.hbm, 842, rfl⟩
abbrev main_v523 : Ref sig .tc := ⟨.hbm, 843, rfl⟩
abbrev main_v524 : Ref sig .tc := ⟨.hbm, 844, rfl⟩
abbrev main_v525 : Ref sig .tc := ⟨.hbm, 845, rfl⟩
abbrev main_v526 : Ref sig .tc := ⟨.hbm, 846, rfl⟩
abbrev main_v527 : Ref sig .tc := ⟨.hbm, 847, rfl⟩
abbrev main_v528 : Ref sig .tc := ⟨.hbm, 848, rfl⟩
abbrev main_v529 : Ref sig .tc := ⟨.hbm, 849, rfl⟩
abbrev main_v530 : Ref sig .tc := ⟨.hbm, 850, rfl⟩
abbrev main_v531 : Ref sig .tc := ⟨.hbm, 851, rfl⟩
abbrev main_v532 : Ref sig .tc := ⟨.hbm, 852, rfl⟩
abbrev main_v533 : Ref sig .tc := ⟨.hbm, 853, rfl⟩
abbrev main_v534 : Ref sig .tc := ⟨.hbm, 854, rfl⟩
abbrev main_v535 : Ref sig .tc := ⟨.hbm, 855, rfl⟩
abbrev main_v536 : Ref sig .tc := ⟨.hbm, 856, rfl⟩
abbrev main_v537 : Ref sig .tc := ⟨.hbm, 857, rfl⟩
abbrev main_v538 : Ref sig .tc := ⟨.hbm, 858, rfl⟩
abbrev main_v539 : Ref sig .tc := ⟨.hbm, 859, rfl⟩
abbrev main_v540 : Ref sig .tc := ⟨.hbm, 860, rfl⟩
abbrev main_v541 : Ref sig .tc := ⟨.hbm, 861, rfl⟩
abbrev main_v542 : Ref sig .tc := ⟨.hbm, 862, rfl⟩
abbrev main_v543 : Ref sig .tc := ⟨.hbm, 863, rfl⟩
abbrev main_v544 : Ref sig .tc := ⟨.hbm, 864, rfl⟩
abbrev main_v545 : Ref sig .tc := ⟨.hbm, 865, rfl⟩
abbrev main_v546 : Ref sig .tc := ⟨.hbm, 866, rfl⟩
abbrev main_v547 : Ref sig .tc := ⟨.hbm, 867, rfl⟩
abbrev main_v548 : Ref sig .tc := ⟨.hbm, 868, rfl⟩
abbrev main_v549 : Ref sig .tc := ⟨.hbm, 869, rfl⟩
abbrev main_v550 : Ref sig .tc := ⟨.hbm, 870, rfl⟩
abbrev main_v551 : Ref sig .tc := ⟨.hbm, 871, rfl⟩
abbrev main_v552 : Ref sig .tc := ⟨.hbm, 872, rfl⟩
abbrev main_v553 : Ref sig .tc := ⟨.hbm, 873, rfl⟩
abbrev main_v554 : Ref sig .tc := ⟨.hbm, 874, rfl⟩
abbrev main_v555 : Ref sig .tc := ⟨.hbm, 875, rfl⟩
abbrev main_v556 : Ref sig .tc := ⟨.hbm, 876, rfl⟩
abbrev main_v557 : Ref sig .tc := ⟨.hbm, 877, rfl⟩
abbrev main_cst_156 : Ref sig .tc := ⟨.hbm, 878, rfl⟩
abbrev main_v558 : Ref sig .tc := ⟨.hbm, 879, rfl⟩
abbrev main_v559 : Ref sig .tc := ⟨.hbm, 880, rfl⟩
abbrev main_cst_157 : Ref sig .tc := ⟨.hbm, 881, rfl⟩
abbrev main_v560 : Ref sig .tc := ⟨.hbm, 882, rfl⟩
abbrev main_v561 : Ref sig .tc := ⟨.hbm, 883, rfl⟩
abbrev main_v562 : Ref sig .tc := ⟨.hbm, 884, rfl⟩
abbrev main_v563 : Ref sig .tc := ⟨.hbm, 885, rfl⟩
abbrev main_v564 : Ref sig .tc := ⟨.hbm, 886, rfl⟩
abbrev main_v565 : Ref sig .tc := ⟨.hbm, 887, rfl⟩
abbrev main_cst_158 : Ref sig .tc := ⟨.hbm, 888, rfl⟩
abbrev main_v566 : Ref sig .tc := ⟨.hbm, 889, rfl⟩
abbrev main_cst_159 : Ref sig .tc := ⟨.hbm, 890, rfl⟩
abbrev main_v567 : Ref sig .tc := ⟨.hbm, 891, rfl⟩

abbrev nD : Nat := 1
abbrev τ : Topo := Topo.v7x

variable {F : FTy → Type} [FloatOps F]
-- ==== Proof.NmsRegion.lean ====
/- The first kernel region (non-maximum suppression): what its body computes from its two staged images, the proof
   data of the pipeline from any entry contents, and the arrays the region leaves, in closed form. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.Value
public import Idealize.ShloMosaic.Lib.Pipeline.ValueKit.Basic
public import Idealize.ShloMosaic.Lib.Pipeline.Regions
public import Idealize.ShloMosaic.Lib.ValueIdxCore
public import Idealize.ShloMosaic.Lib.Tactic

@[expose] public section

set_option maxRecDepth 16384

noncomputable section

namespace Cert.Proof.Ideal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.ValueIdx
open Idealize.ShloMosaic.Pipeline (Dat RDat Cfg Window BodyObligation cellOf)

variable {F : FTy → Type} [FloatOps F]

/-- The resource algebra of the launch: the pipelines' own. -/
abbrev UU : Type := UR sig nD τ

local notation "𝕄" => MT nD τ sig Unit (Elt F) ℕ UU ℕ

/-- What the TensorCore's buffers hold, core by core: a region's entry or exit contents. -/
abbrev Conts (F : FTy → Type) : Type := (c : Dev nD) → (b : Ref sig .tc) → Buf (Elt F) ((c : Thread nD τ).loc b)

/-- The suppressed score of one image: its scores, where they are the largest of their window, else zero. -/
def keepScore (x : Vec F S1x512x512 .f32) : Vec F S1x512x512 .f32 :=
  k0_pay8 (k0_pay3 x) (k0_pay4 x) (k0_pay5 x) (k0_pay6 (F := F)) (k0_pay7 x)

/-- The suppressed score of one warped image, its border blanked first. -/
def keepWarped (y : Vec F S1x512x512 .f32) : Vec F S1x512x512 .f32 :=
  k0_pay1 (k0_pay9 (k0_pay2 (F := F)) y) (k0_pay10 (k0_pay2 (F := F)) y) (Scalar.ofBits .f32 0xF149F2CA#32)

set_option maxHeartbeats 1000000 in
/-- The body run on whole staging buffers: the inputs keep their contents, each output is left at the suppressed
    score of its input. -/
theorem nms_body (c : Dev nD) (E : Set ℕ) (i : grid0.Coords)
    (a1 : Memref sig .tc .vmem S1x512x512 .f32) (h1 : a1.IsWhole) (a2 : Memref sig .tc .vmem S1x512x512 .f32) (h2 : a2.IsWhole)
    (a3 : Memref sig .tc .vmem S1x512x512 .f32) (h3 : a3.IsWhole) (a4 : Memref sig .tc .vmem S1x512x512 .f32) (h4 : a4.IsWhole)
    (x y : Vec F S1x512x512 .f32) (K : PUnit → sProp 𝕄) :
    iprop(owns (c : Thread nD τ) a1 fullShare x ∗ owns (c : Thread nD τ) a2 fullShare y
        ∗ (∃ d, owns (c : Thread nD τ) a3 fullShare d) ∗ (∃ d, owns (c : Thread nD τ) a4 fullShare d)
        ∗ (iprop(owns (c : Thread nD τ) a1 fullShare x ∗ owns (c : Thread nD τ) a2 fullShare y
            ∗ owns (c : Thread nD τ) a3 fullShare (keepScore x) ∗ owns (c : Thread nD τ) a4 fullShare (keepWarped y)) -∗ K ⟨⟩))
      ⊢ wp frame (wpE (defs₀ (F := F)) Variants.none c none) E (cc0__nms_kernel i a1 h1 a2 h2 a3 h3 a4 h4) K := by
  simp only [cc0__nms_kernel_eq_skeleton]; unfold cc0__nms_kernel_skel
  simp only [k0_part1_eq_skeleton, k0_part2_eq_skeleton]
  unfold owns
  iintro ⟨⟨%f1, %e1, H1⟩, ⟨%f2, %e2, H2⟩, ⟨%d3, %f3, -, H3⟩, ⟨%d4, %f4, -, H4⟩, Hk⟩
  subst e1 e2
  have hz : (![0, 0, 0] : Fin 3 → ℕ) = fun _ => 0 := by funext a; fin_cases a <;> rfl
  sl_exec
  sl_step
  iapply Hk
  isplitl [H1]
  · iexists f1; isplitr; · ipureintro; rfl
    iexact H1
  isplitl [H2]
  · iexists f2; isplitr; · ipureintro; rfl
    iexact H2
  isplitl [H3]
  · iexists _; isplitr
    swap; · iexact H3
    ipureintro
    refine (View.read_writes_eq_canon _ _ _ fun j => ⟨_, List.mem_singleton_self _, View.mem_set_unit_zero hz inb_S1x512x512_S1x512x512_0_0_0 j⟩).trans ?_
    exact (View.canon_unit_zero hz _ _).trans (congrArg keepScore (View.ld_unit_zero hz inb_S1x512x512_S1x512x512_0_0_0 _))
  iexists _; isplitr
  swap; · iexact H4
  ipureintro
  refine (View.read_writes_eq_canon _ _ _ fun j => ⟨_, List.mem_singleton_self _, View.mem_set_unit_zero hz inb_S1x512x512_S1x512x512_0_0_0 j⟩).trans ?_
  exact (View.canon_unit_zero hz _ _).trans (congrArg keepWarped (View.ld_unit_zero hz inb_S1x512x512_S1x512x512_0_0_0 _))

variable (V : Conts F)

/-- Window `w`'s block at point `t`, read off the entry contents. -/
def blk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The pipeline's proof data from the entry contents. -/
def dat0 (c : Dev nD) : Dat τ (Elt F) Unit ℕ UU ℕ cfg0 c where
  A w := V c (Pipeline.arrRef spec0 w)
  after w t := match w with
    | ⟨0, _⟩ => blk0 V c 0 t
    | ⟨1, _⟩ => blk0 V c 1 t
    | ⟨2, _⟩ => keepScore (blk0 V c 0 t)
    | ⟨3, _⟩ => keepWarped (blk0 V c 1 t)
  Φ _ := Pipeline.scopedRest (Ix := Unit) (Name := ℕ) (U := UU) (Lvl := ℕ) (Val := Elt F) spec0 c
  q _ := fullShare
  owed _ := 0

theorem dat0_A (c : Dev nD) (w : Fin cfg0.W) : (dat0 V c).A w = V c (Pipeline.arrRef spec0 w) := by dsimp only [dat0]
theorem dat0_after0 (c : Dev nD) (t : Fin cfg0.N) : (dat0 V c).after 0 t = blk0 V c 0 t := by dsimp only [dat0]
theorem dat0_after1 (c : Dev nD) (t : Fin cfg0.N) : (dat0 V c).after 1 t = blk0 V c 1 t := by dsimp only [dat0]
theorem dat0_after2 (c : Dev nD) (t : Fin cfg0.N) : (dat0 V c).after 2 t = keepScore (blk0 V c 0 t) := by dsimp only [dat0]
theorem dat0_after3 (c : Dev nD) (t : Fin cfg0.N) : (dat0 V c).after 3 t = keepWarped (blk0 V c 1 t) := by dsimp only [dat0]

/-- The first input's buffer holds its block whenever the body runs, -/
theorem dat0_before0 (c : Dev nD) (t : Fin cfg0.N) (d) : (dat0 V c).before 0 t d = blk0 V c 0 t :=
  ((dat0 V c).before_in_eq_fetched 0 rfl (fun _ => rfl) (fun _ _ _ => rfl)
    (fun t => by rw [dat0_after0]; unfold Dat.blockOf blk0; rw [dat0_A]) t d).trans
    (by unfold Dat.fetched Dat.blockOf blk0; rw [dat0_A]; rfl)
/-- and so does the second's. -/
theorem dat0_before1 (c : Dev nD) (t : Fin cfg0.N) (d) : (dat0 V c).before 1 t d = blk0 V c 1 t :=
  ((dat0 V c).before_in_eq_fetched 1 rfl (fun _ => rfl) (fun _ _ _ => rfl)
    (fun t => by rw [dat0_after1]; unfold Dat.blockOf blk0; rw [dat0_A]) t d).trans
    (by unfold Dat.fetched Dat.blockOf blk0; rw [dat0_A]; rfl)

/-- The body obligation at every point. -/
theorem dat0_body (c : Dev nD) : BodyObligation (dat0 (F := F) V c) (defs₀ (F := F)) Variants.none () Set.univ := fun t => by
  rw [bigSep_W0, bigSep_W0, show defs₀ (F := F) .tc cfg0.body (cfg0.bodyArgs t (cfg0.slots t)) = bodyAt0 t by unfold defs₀; rw [Defs.onTc_tc]]
  simp only [dat0_before0, dat0_before1]
  rw [show (dat0 V c).Φ t.succ = (dat0 V c).Φ t.castSucc from rfl,
    show (dat0 V c).owesAt () t.succ = (dat0 V c).owesAt () t.castSucc from rfl]
  unfold bodyAt0
  iintro ⟨HΦ, Ho, ⟨%d0, H0⟩, ⟨%d1, H1⟩, ⟨%d2, H2⟩, ⟨%d3, H3⟩⟩
  iapply (nms_body c Set.univ (grid0.coords t) _ _ _ _ _ _ _ _ (blk0 V c 0 t) (blk0 V c 1 t) _)
  isplitl [H0]; · iexact H0
  isplitl [H1]; · iexact H1
  isplitl [H2]; · iexists _; iexact H2
  isplitl [H3]; · iexists _; iexact H3
  iintro ⟨H0, H1, H2, H3⟩
  isplitl [HΦ]; · iexact HΦ
  isplitl [Ho]; · iexact Ho
  isplitl [H0]; · rw [dat0_after0]; iexact H0
  isplitl [H1]; · rw [dat0_after1]; iexact H1
  isplitl [H2]; · rw [dat0_after2]; iexact H2
  rw [dat0_after3]; iexact H3

/-- Image `b` of a batch. -/
def image (A : Vec F S4x512x512 .f32) (b : Fin 4) : Vec F S1x512x512 .f32 := fun x => A (ix3 b (x 1) (x 2))

/-- The batch of images whose image `b` is `f` of image `b`. -/
def mapImages (f : Vec F S1x512x512 .f32 → Vec F S1x512x512 .f32) (A : Vec F S4x512x512 .f32) : Vec F S4x512x512 .f32 :=
  fun j => f (image A (j 0)) (ix3 0 (j 1) (j 2))

/-- The grid point's image number. -/
abbrev at0 (t : Fin cfg0.N) : Fin 4 := t.cast N_0

/-- The block index of every window at a point is the point's image, in the first coordinate, -/
theorem index0 (t : Fin cfg0.N) : (cfg0.win 0).index t = ![t.val, 0, 0] ∧ (cfg0.win 1).index t = ![t.val, 0, 0]
    ∧ (cfg0.win 2).index t = ![t.val, 0, 0] ∧ (cfg0.win 3).index t = ![t.val, 0, 0] := by
  revert t; decide +kernel

/-- so an element of the block of point `t` sits at image `t`, at its own row and column: the element's place, from
    the value of each of its coordinates. -/
theorem place (t : ℕ) (b : Fin 4) (hb : b.val = t) (y : S1x512x512.Idx) (f : S4x512x512.Idx)
    (h : ∀ a : Fin 3, (f a).val = (![t, 0, 0] : Fin 3 → ℕ) a * S1x512x512.size a + (y a).val) : f = ix3 b (y 1) (y 2) := by
  funext a; apply Fin.ext
  have hy : (y 0).val = 0 := by have := (y 0).isLt; simp at this; omega
  have h' := h a
  fin_cases a
  · refine h'.trans ?_; show t * 1 + (y 0).val = b.val; omega
  · refine h'.trans ?_; show 0 * 512 + (y 1).val = (y 1).val; omega
  · refine h'.trans ?_; show 0 * 512 + (y 2).val = (y 2).val; omega

/-- The first input's block at a point is its image, -/
theorem blk0_0 (c : Dev nD) (t : Fin cfg0.N) : blk0 V c 0 t = image (V c main_v372) (at0 t) := by
  funext y
  exact congrArg (V c main_v372) (place t.val _ rfl y _ fun a => by rw [← (index0 t).1]; exact (cfg0.win 0).rect_emb_val t y a)

/-- and so is the second's. -/
theorem blk0_1 (c : Dev nD) (t : Fin cfg0.N) : blk0 V c 1 t = image (V c main_v373) (at0 t) := by
  funext y
  exact congrArg (V c main_v373) (place t.val _ rfl y _ fun a => by rw [← (index0 t).2.1]; exact (cfg0.win 1).rect_emb_val t y a)

/-- The first output's array after the region: every image's suppressed score. -/
theorem dat0_out2 (c : Dev nD) : (dat0 V c).arrAt 2 cfg0.N = mapImages keepScore (V c main_v372) := by
  have he : ∀ (t : Fin cfg0.N) (y : S1x512x512.Idx), ((cfg0.win 2).rect t).emb y = (ix3 (at0 t) (y 1) (y 2) : S4x512x512.Idx) :=
    fun t y => place t.val _ rfl y _ fun a => by rw [← (index0 t).2.2.1]; exact (cfg0.win 2).rect_emb_val t y a
  refine (dat0 V c).arrAt_eq_of_cover 2 (mapImages keepScore (V c main_v372)) (fun t _ => ?_) fun i => ?_
  · show (dat0 V c).after 2 t = _
    rw [dat0_after2, blk0_0]
    funext y
    refine Eq.trans ?_ (congrArg (mapImages keepScore (V c main_v372)) (he t y)).symm
    show keepScore (image (V c main_v372) (at0 t)) y = keepScore (image (V c main_v372) (at0 t)) (ix3 0 (y 1) (y 2))
    refine congrArg _ ((eq_ix3 y).trans ?_)
    rw [show y 0 = (0 : Fin 1) from Subsingleton.elim (α := Fin 1) _ _]
    rfl
  · refine ⟨(i 0).cast N_0.symm, flush0_2 _, Finset.mem_map.mpr ⟨ix3 0 (i 1) (i 2), Finset.mem_univ _, ?_⟩⟩
    exact (he _ _).trans (eq_ix3 i).symm

/-- The second output's array after the region: every warped image's suppressed score. -/
theorem dat0_out3 (c : Dev nD) : (dat0 V c).arrAt 3 cfg0.N = mapImages keepWarped (V c main_v373) := by
  have he : ∀ (t : Fin cfg0.N) (y : S1x512x512.Idx), ((cfg0.win 3).rect t).emb y = (ix3 (at0 t) (y 1) (y 2) : S4x512x512.Idx) :=
    fun t y => place t.val _ rfl y _ fun a => by rw [← (index0 t).2.2.2]; exact (cfg0.win 3).rect_emb_val t y a
  refine (dat0 V c).arrAt_eq_of_cover 3 (mapImages keepWarped (V c main_v373)) (fun t _ => ?_) fun i => ?_
  · show (dat0 V c).after 3 t = _
    rw [dat0_after3, blk0_1]
    funext y
    refine Eq.trans ?_ (congrArg (mapImages keepWarped (V c main_v373)) (he t y)).symm
    show keepWarped (image (V c main_v373) (at0 t)) y = keepWarped (image (V c main_v373) (at0 t)) (ix3 0 (y 1) (y 2))
    refine congrArg _ ((eq_ix3 y).trans ?_)
    rw [show y 0 = (0 : Fin 1) from Subsingleton.elim (α := Fin 1) _ _]
    rfl
  · refine ⟨(i 0).cast N_0.symm, flush0_3 _, Finset.mem_map.mpr ⟨ix3 0 (i 1) (i 2), Finset.mem_univ _, ?_⟩⟩
    exact (he _ _).trans (eq_ix3 i).symm

end Cert.Proof.Ideal

end
-- ==== Proof.LossRegion.lean ====
/- The second kernel region (the loss): what its body computes from its four staged images, the proof data of the
   pipeline from any entry contents — the two outputs, one row of which each point writes, described by what a point
   does to them — and the arrays the region leaves, in closed form. -/
module

public import proofs.«01_k».proof.Proof.NmsRegion
public import Idealize.ShloMosaic.Lib.Pipeline.ArrRel

@[expose] public section

set_option maxRecDepth 16384

noncomputable section

namespace Cert.Proof.Ideal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.ValueIdx
open Idealize.ShloMosaic.Pipeline (Dat RDat Cfg Window BodyObligation cellOf)

variable {F : FTy → Type} [FloatOps F]

local notation "𝕄" => MT nD τ sig Unit (Elt F) ℕ UU ℕ

/-- The blurred target of one image: the product of its two operands through the fifteen taps along rows, then along
    columns; with the last column pass's partial sum, the one term of it left to add, and that term's weight. -/
def blurred (a b : Vec F S1x512x512 .f32) : FVec F S512x512 .f32 × FVec F S512x512 .f32 × FVec F S512x512 .f32 :=
  let v84 := k1_pay7 (k1_pay4 a b) (k1_pay5 a b) (k1_pay6 a b) (Scalar.ofBits .f32 0x3282D314#32)
  let z : F .f32 := Scalar.ofBits .f32 0x00000000#32
  let v90 := k1_pay8 (k1_pay4 a b) v84 z
  (k1_pay11 v90 (k1_pay9 (k1_pay4 a b) v84 z) k1_pay10, k1_pay12 v90, k1_pay13)

/-- One image's loss, before division: the visible part of the squared difference of the score `s` and the blurred
    target, summed. -/
def lossOf (s a b v : Vec F S1x512x512 .f32) : Vec F S1x1 .f32 :=
  k1_pay2 (blurred a b).1 (blurred a b).2.1 (blurred a b).2.2 s v

/-- One image's count of visible pixels. -/
def visOf (v : Vec F S1x512x512 .f32) : Vec F S1x1 .f32 := k1_pay3 v

/-- The row of an output that grid point `i` writes. -/
abbrev row (i : grid1.Coords) : Rect S4x1 := Rect.unit (s := S4x1) (k1_off1 i) S1x1.size (k1_off1_inb i)

/-- One store through a rectangle leaves the contents overlaid with its payload there. -/
theorem read_one_store {sig : RefSig} {κ : Kind} {sp : Space} {S : Shape} {e : EltTy} {Val : EltTy → Type} (v : View sig κ sp S e)
    (f : v.ty.Contents Val) (r : Rect S) (w : r.shape.Idx → Val e) :
    v.read Val (v.writes Val f [⟨r, w⟩]) = r.overlay (v.read Val f) w := by
  funext y
  by_cases hy : y ∈ r.set
  · obtain ⟨x, rfl⟩ := r.exists_idx_of_mem hy
    exact (View.read_writes_cons_emb (v := v) (f := f) r w [] x).trans (r.overlay_emb _ _ x).symm
  · rw [r.overlay_of_not_mem _ _ hy]
    exact View.read_writes_apply_of_forall_not_mem (v := v) (f := f) y _ fun p hp => by
      rw [List.mem_singleton.mp hp]; exact hy

set_option maxHeartbeats 1000000 in
/-- The body run on whole staging buffers: the inputs keep their contents, and each output keeps its own but for the
    point's row, which is left at the image's loss and at its count of visible pixels. -/
theorem loss_body (c : Dev nD) (E : Set ℕ) (i : grid1.Coords)
    (a1 : Memref sig .tc .vmem S1x512x512 .f32) (h1 : a1.IsWhole) (a2 : Memref sig .tc .vmem S1x512x512 .f32) (h2 : a2.IsWhole)
    (a3 : Memref sig .tc .vmem S1x512x512 .f32) (h3 : a3.IsWhole) (a4 : Memref sig .tc .vmem S1x512x512 .f32) (h4 : a4.IsWhole)
    (a5 : Memref sig .tc .vmem S4x1 .f32) (h5 : a5.IsWhole) (a6 : Memref sig .tc .vmem S4x1 .f32) (h6 : a6.IsWhole)
    (s a b v : Vec F S1x512x512 .f32) (x y : Vec F S4x1 .f32) (K : PUnit → sProp 𝕄) :
    iprop(owns (c : Thread nD τ) a1 fullShare s ∗ owns (c : Thread nD τ) a2 fullShare a ∗ owns (c : Thread nD τ) a3 fullShare b
        ∗ owns (c : Thread nD τ) a4 fullShare v ∗ owns (c : Thread nD τ) a5 fullShare x ∗ owns (c : Thread nD τ) a6 fullShare y
        ∗ (iprop(owns (c : Thread nD τ) a1 fullShare s ∗ owns (c : Thread nD τ) a2 fullShare a ∗ owns (c : Thread nD τ) a3 fullShare b
            ∗ owns (c : Thread nD τ) a4 fullShare v ∗ owns (c : Thread nD τ) a5 fullShare ((row i).overlay x (lossOf s a b v))
            ∗ owns (c : Thread nD τ) a6 fullShare ((row i).overlay y (visOf v))) -∗ K ⟨⟩))
      ⊢ wp frame (wpE (defs₀ (F := F)) Variants.none c none) E (cc1__loss_kernel i a1 h1 a2 h2 a3 h3 a4 h4 a5 h5 a6 h6) K := by
  simp only [cc1__loss_kernel_eq_skeleton]; unfold cc1__loss_kernel_skel
  simp only [k1_part1_eq_skeleton, k1_part2_eq_skeleton, k1_part3_eq_skeleton, k1_part4_eq_skeleton]
  unfold owns
  iintro ⟨⟨%f1, %e1, H1⟩, ⟨%f2, %e2, H2⟩, ⟨%f3, %e3, H3⟩, ⟨%f4, %e4, H4⟩, ⟨%f5, %e5, H5⟩, ⟨%f6, %e6, H6⟩, Hk⟩
  subst e1 e2 e3 e4 e5 e6
  have hz : (![0, 0, 0] : Fin 3 → ℕ) = fun _ => 0 := by funext a; fin_cases a <;> rfl
  have hl : ∀ (m : Memref sig .tc .vmem S1x512x512 .f32) (f : m.view.ty.Contents (Elt F)),
      View.readAt (Elt F) m.view (Rect.unit (s := S1x512x512) ![0, 0, 0] ![1, 512, 512] inb_S1x512x512_S1x512x512_0_0_0).toLoadRect f
        = View.read (Elt F) m.view f :=
    fun m f => View.ld_unit_zero hz inb_S1x512x512_S1x512x512_0_0_0 (m.view.read (Elt F) f)
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    refine (read_one_store _ _ _ _).trans (congrArg ((row i).overlay _) ?_)
    unfold loss_body.sl.r_6 loss_body.sl.r_7 loss_body.sl.r_5 loss_body.sl.r_4 loss_body.sl.r_3 loss_body.sl.r_2 loss_body.sl.r_1
      loss_body.sl.r loss_body.sl.cst_16 loss_body.sl.cst_31
    simp only [hl]
    unfold lossOf blurred
    rfl
  iexists _; isplitr
  swap; · iexact H6
  ipureintro
  refine (read_one_store _ _ _ _).trans (congrArg ((row i).overlay _) ?_)
  unfold visOf
  rfl

variable (V : Conts F)

/-- The grid point's image number. -/
abbrev at1 (t : Fin cfg1.N) : Fin 4 := t.cast N_1

/-- The image of window `w`'s array that a point stages, for the four inputs. -/
def in1 (c : Dev nD) (t : Fin cfg1.N) (A : (c : Dev nD) → Vec F S4x512x512 .f32) : Vec F S1x512x512 .f32 := image (A c) (at1 t)

/-- The loss of the image of a point, from the entry contents, -/
def loss1 (c : Dev nD) (t : Fin 4) : Vec F S1x1 .f32 :=
  lossOf (image (V c main_v372) t) (image (V c main_v374_1) t) (image (V c main_v403) t) (image (V c main_v404) t)

/-- and its count of visible pixels. -/
def vis1 (c : Dev nD) (t : Fin 4) : Vec F S1x1 .f32 := visOf (image (V c main_v404) t)

/-- The pipeline's proof data from the entry contents: an input's buffer is left as it was handed, an output's
    overlaid in the point's row. -/
def dat1 (c : Dev nD) : RDat τ (Elt F) Unit ℕ UU ℕ cfg1 c where
  A w := V c (Pipeline.arrRef spec1 w)
  after w t := match w with
    | ⟨0, _⟩ => fun Y X => X = Y
    | ⟨1, _⟩ => fun Y X => X = Y
    | ⟨2, _⟩ => fun Y X => X = Y
    | ⟨3, _⟩ => fun Y X => X = Y
    | ⟨4, _⟩ => fun Y X => X = (row (grid1.coords t)).overlay Y (loss1 V c (at1 t))
    | ⟨5, _⟩ => fun Y X => X = (row (grid1.coords t)).overlay Y (vis1 V c (at1 t))
  Φ _ := Pipeline.scopedRest (Ix := Unit) (Name := ℕ) (U := UU) (Lvl := ℕ) (Val := Elt F) spec1 c
  q _ := fullShare
  owed _ := 0

/-- The block index of every input at a point is the point's image, in the first coordinate. -/
theorem index1 (t : Fin cfg1.N) : (cfg1.win 0).index t = ![t.val, 0, 0] ∧ (cfg1.win 1).index t = ![t.val, 0, 0]
    ∧ (cfg1.win 2).index t = ![t.val, 0, 0] ∧ (cfg1.win 3).index t = ![t.val, 0, 0] := by
  revert t; decide +kernel

/-- What the body finds in the first input's buffer is the point's image, -/
theorem finds1_0 (c : Dev nD) (t : Fin cfg1.N) (Y) (h : (dat1 V c).Finds 0 t Y) : Y = image (V c main_v372) (at1 t) := by
  obtain ⟨d, rfl⟩ := ((dat1 V c).finds_of_fetch (fetch1_0 t) Y).mp h
  funext y
  exact congrArg (V c main_v372) (place t.val _ rfl y _ fun a => by rw [← (index1 t).1]; exact (cfg1.win 0).rect_emb_val t y a)
/-- the second's, -/
theorem finds1_1 (c : Dev nD) (t : Fin cfg1.N) (Y) (h : (dat1 V c).Finds 1 t Y) : Y = image (V c main_v374_1) (at1 t) := by
  obtain ⟨d, rfl⟩ := ((dat1 V c).finds_of_fetch (fetch1_1 t) Y).mp h
  funext y
  exact congrArg (V c main_v374_1) (place t.val _ rfl y _ fun a => by rw [← (index1 t).2.1]; exact (cfg1.win 1).rect_emb_val t y a)
/-- the third's, -/
theorem finds1_2 (c : Dev nD) (t : Fin cfg1.N) (Y) (h : (dat1 V c).Finds 2 t Y) : Y = image (V c main_v403) (at1 t) := by
  obtain ⟨d, rfl⟩ := ((dat1 V c).finds_of_fetch (fetch1_2 t) Y).mp h
  funext y
  exact congrArg (V c main_v403) (place t.val _ rfl y _ fun a => by rw [← (index1 t).2.2.1]; exact (cfg1.win 2).rect_emb_val t y a)
/-- and the fourth's. -/
theorem finds1_3 (c : Dev nD) (t : Fin cfg1.N) (Y) (h : (dat1 V c).Finds 3 t Y) : Y = image (V c main_v404) (at1 t) := by
  obtain ⟨d, rfl⟩ := ((dat1 V c).finds_of_fetch (fetch1_3 t) Y).mp h
  funext y
  exact congrArg (V c main_v404) (place t.val _ rfl y _ fun a => by rw [← (index1 t).2.2.2]; exact (cfg1.win 3).rect_emb_val t y a)

/-- The body obligation at every point. -/
theorem dat1_body (c : Dev nD) : (dat1 (F := F) V c).BodyObligation (defs₀ (F := F)) Variants.none () Set.univ := fun t Y hY => by
  rw [bigSep_W1, bigSep_W1, show defs₀ (F := F) .tc cfg1.body (cfg1.bodyArgs t (cfg1.slots t)) = bodyAt1 t by unfold defs₀; rw [Defs.onTc_tc]]
  rw [show (dat1 V c).Φ t.succ = (dat1 V c).Φ t.castSucc from rfl,
    show (dat1 V c).owesAt () t.succ = (dat1 V c).owesAt () t.castSucc from rfl]
  unfold bodyAt1
  rw [finds1_0 V c t _ (hY 0), finds1_1 V c t _ (hY 1), finds1_2 V c t _ (hY 2), finds1_3 V c t _ (hY 3)]
  iintro ⟨HΦ, Ho, H0, H1, H2, H3, H4, H5⟩
  iapply (loss_body c Set.univ (grid1.coords t) _ _ _ _ _ _ _ _ _ _ _ _ (image (V c main_v372) (at1 t)) (image (V c main_v374_1) (at1 t))
    (image (V c main_v403) (at1 t)) (image (V c main_v404) (at1 t)) (Y 4) (Y 5) _)
  isplitl [H0]; · iexact H0
  isplitl [H1]; · iexact H1
  isplitl [H2]; · iexact H2
  isplitl [H3]; · iexact H3
  isplitl [H4]; · iexact H4
  isplitl [H5]; · iexact H5
  iintro ⟨H0, H1, H2, H3, H4, H5⟩
  isplitl [HΦ]; · iexact HΦ
  isplitl [Ho]; · iexact Ho
  isplitl [H0]; · iexists _; isplitr; swap; (· iexact H0); ipureintro; dsimp only [dat1]
  isplitl [H1]; · iexists _; isplitr; swap; (· iexact H1); ipureintro; dsimp only [dat1]
  isplitl [H2]; · iexists _; isplitr; swap; (· iexact H2); ipureintro; dsimp only [dat1]
  isplitl [H3]; · iexists _; isplitr; swap; (· iexact H3); ipureintro; dsimp only [dat1]
  isplitl [H4]; · iexists _; isplitr; swap; (· iexact H4); ipureintro; rfl
  iexists _; isplitr; swap; (· iexact H5); ipureintro; rfl

/-- A row of an output overlaid: the point's own entry is the payload, -/
theorem row_self (t : Fin cfg1.N) (X : Vec F S4x1 .f32) (p : Vec F S1x1 .f32) :
    (row (grid1.coords t)).overlay X p (ix2 (at1 t) 0) = p (ix2 0 0) := by
  have h : (row (grid1.coords t)).emb (ix2 0 0 : S1x1.Idx) = (ix2 (at1 t) 0 : S4x1.Idx) := by
    revert t; decide +kernel
  rw [← h]; exact Rect.overlay_emb _ _ _ _

/-- and every other entry is as before. -/
theorem row_other (t : Fin cfg1.N) (b : Fin 4) (hb : b ≠ at1 t) (X : Vec F S4x1 .f32) (p : Vec F S1x1 .f32) :
    (row (grid1.coords t)).overlay X p (ix2 b 0) = X (ix2 b 0) := by
  refine Rect.overlay_of_not_mem _ _ _ ?_
  intro hm
  obtain ⟨x, hx⟩ := (row (grid1.coords t)).exists_idx_of_mem hm
  have e : x = (ix2 0 0 : S1x1.Idx) := by funext a; fin_cases a <;> exact Subsingleton.elim (α := Fin 1) _ _
  subst e
  have h : (row (grid1.coords t)).emb (ix2 0 0 : S1x1.Idx) = (ix2 (at1 t) 0 : S4x1.Idx) := by
    clear hb hx hm; revert t; decide +kernel
  exact hb (congrFun (hx.symm.trans h) 0)

/-- What the body may leave in an output whose buffer each point overlays in its row: the rows of the points so far. -/
theorem leaves_rows (c : Dev nD) (w : Fin cfg1.W) (hw : w = 4 ∨ w = 5) (p : Fin 4 → Vec F S1x1 .f32)
    (f : ((cfg1.win w).block.Idx → Elt F (cfg1.win w).elt) → Vec F S4x1 .f32)
    (ha : ∀ t Y X, (dat1 V c).after w t Y X → f X = (row (grid1.coords t)).overlay (f Y) (p (at1 t)))
    (hf : ∀ t : Fin cfg1.N, (cfg1.win w).fetch t = false) (hu : ∀ t : Fin cfg1.N, (cfg1.win w).flush t = true ↔ t.val % 4 = 3) :
    ∀ (n : ℕ) (t : Fin cfg1.N), t.val = n → ∀ X, (dat1 V c).Leaves w t X → ∀ b : Fin 4, b.val ≤ n → f X (ix2 b 0) = p b (ix2 0 0) := by
  intro n
  induction n with
  | zero =>
    rintro t ht X ⟨Y, -, h⟩ b hb
    rw [ha t Y X h, show b = at1 t from Fin.ext (by show b.val = t.val; omega)]
    exact row_self t _ _
  | succ n ih =>
    rintro t ht X ⟨Y, hY, h⟩ b hb
    rw [ha t Y X h]
    by_cases e : b = at1 t
    · rw [e]; exact row_self t _ _
    · rw [row_other t b e]
      have hlt : t.val < 4 := (t.cast N_1).isLt
      rcases ((dat1 V c).finds_of_pos (hf t) (by omega) Y).mp hY with hfl | hl
      · have := (hu _).mp hfl
        simp only at this; omega
      · refine ih ⟨t.val - 1, _⟩ (by show t.val - 1 = n; omega) Y hl b ?_
        have : b.val ≠ t.val := fun e' => e (Fin.ext e')
        omega

/-- A column of four rows from one entry per row. -/
def column (p : Fin 4 → Vec F S1x1 .f32) : Vec F S4x1 .f32 := fun j => p (j 0) (ix2 0 0)

/-- The last point, where the outputs are written back. -/
abbrev last1 : Fin cfg1.N := Fin.last 3

/-- The first output's array after the region: each image's loss, -/
theorem dat1_out4 (c : Dev nD) (G : Vec F S4x1 .f32) (h : (dat1 V c).ArrAt 4 cfg1.N G) : G = column (loss1 V c) := by
  have hw : (cfg1.win 4).WholeAt last1 := by decide +kernel
  obtain ⟨X, hX, hG⟩ := h.emb_eq_of_wholeAt hw
  funext j
  refine (hG j).trans ?_
  have := leaves_rows V c 4 (.inl rfl) (loss1 V c) (fun X => X) (fun t Y X h => h) (fun t => rfl) flush1_4 3 last1 rfl X hX (j 0) (by have := (j 0).isLt; change (j 0).val < 4 at this; omega)
  refine Eq.trans ?_ this
  refine congrArg X ?_
  funext a
  fin_cases a
  · rfl
  · exact Subsingleton.elim (α := Fin 1) _ _

/-- and the second's: each image's count of visible pixels. -/
theorem dat1_out5 (c : Dev nD) (G : Vec F S4x1 .f32) (h : (dat1 V c).ArrAt 5 cfg1.N G) : G = column (vis1 V c) := by
  have hw : (cfg1.win 5).WholeAt last1 := by decide +kernel
  obtain ⟨X, hX, hG⟩ := h.emb_eq_of_wholeAt hw
  funext j
  refine (hG j).trans ?_
  have := leaves_rows V c 5 (.inr rfl) (vis1 V c) (fun X => X) (fun t Y X h => h) (fun t => rfl) flush1_5 3 last1 rfl X hX (j 0) (by have := (j 0).isLt; change (j 0).val < 4 at this; omega)
  refine Eq.trans ?_ this
  refine congrArg X ?_
  funext a
  fin_cases a
  · rfl
  · exact Subsingleton.elim (α := Fin 1) _ _

end Cert.Proof.Ideal

end
-- ==== Proof.RunIdeal.lean ====
/- The whole program's run: the two kernel regions as segments between the host stretches, launched from any memory,
   with every buffer the program leaves read off the last valuation. -/
module

public import proofs.«01_k».proof.Proof.LossRegion
public import proofs.«01_k».proof.Proof.Gen.KernelIdeal.Regions
public import Idealize.ShloMosaic.Lib.Pipeline.RegionsLoop

@[expose] public section

set_option maxRecDepth 16384

noncomputable section

namespace Cert.Proof.Ideal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.ValueIdx Idealize.ShloMosaic.Rounds
open Idealize.ShloMosaic.Pipeline (Dat RDat Cfg Window BodyObligation cellOf)

variable {F : FTy → Type} [FloatOps F]

local notation "𝕄" => MT nD τ sig Unit (Elt F) ℕ UU ℕ

/-! ## What the regions leave -/

/-- A family of valuations read at TensorCore references. -/
abbrev conts (W : Dev nD → Valuation τ sig (Elt F)) : Conts (F := F) := fun c b => W c b

section Leave

variable (W : Dev nD → Valuation τ sig (Elt F)) (c : Dev nD)

/-- The buffers after the first region entered at `W`: its two outputs at the kept scores, image by image. -/
def leave0 : Valuation τ sig (Elt F) :=
  Function.update (Function.update (W c) main_v374_0 (mapImages keepScore (W c main_v372)))
    main_v374_1 (mapImages keepWarped (W c main_v373))

theorem leave0_other (r : Ref sig .tc) (h0 : r ≠ main_v374_0) (h1 : r ≠ main_v374_1) : leave0 W c r = W c r := by
  unfold leave0
  rw [Function.update_of_ne fun h => h1 (Proc.devRef_injective _ h), Function.update_of_ne fun h => h0 (Proc.devRef_injective _ h)]

theorem leave0_0 : leave0 W c main_v374_0 = mapImages keepScore (W c main_v372) := by
  unfold leave0
  rw [Function.update_of_ne (by decide), Function.update_self]

theorem leave0_1 : leave0 W c main_v374_1 = mapImages keepWarped (W c main_v373) := by
  unfold leave0
  rw [Function.update_self]

theorem input0 (w : Fin cfg0.W) (n : Nat) (hw : (cfg0.win w).isOut = false) :
    (dat0 (conts W) c).arrAt w n = W c (Pipeline.arrRef spec0 w) := ((dat0 (conts W) c).arrAt_in w hw n).trans rfl
theorem leave0_at0 : leave0 W c (Pipeline.arrRef spec0 0) = W c (Pipeline.arrRef spec0 0) := leave0_other W c main_v372 (by decide) (by decide)
theorem leave0_at1 : leave0 W c (Pipeline.arrRef spec0 1) = W c (Pipeline.arrRef spec0 1) := leave0_other W c main_v373 (by decide) (by decide)
theorem leave0_at2 : leave0 W c (Pipeline.arrRef spec0 2) = (dat0 (conts W) c).arrAt 2 cfg0.N := (leave0_0 W c).trans (dat0_out2 (conts W) c).symm
theorem leave0_at3 : leave0 W c (Pipeline.arrRef spec0 3) = (dat0 (conts W) c).arrAt 3 cfg0.N := (leave0_1 W c).trans (dat0_out3 (conts W) c).symm

/-- What the first region's arrays hold at its end is `leave0` there, -/
theorem leave0_arr (w : Fin cfg0.W) (G : Buf (Elt F) ((spec0 w).arr.view.loc (c : Thread nD τ)))
    (h : (dat0 (conts W) c).toR.ArrAt w cfg0.N G) : G = leave0 W c (Pipeline.arrRef spec0 w) := by
  have hG := (dat0 (conts W) c).toR_arrAt w _ G h
  clear h
  subst hG
  exact Fin.cases ((input0 W c 0 _ rfl).trans (leave0_at0 W c).symm) (Fin.cases ((input0 W c 1 _ rfl).trans (leave0_at1 W c).symm)
    (Fin.cases (leave0_at2 W c).symm (Fin.cases (leave0_at3 W c).symm fun i => i.elim0))) w

/-- and every other buffer is as it was. -/
theorem leave0_rest (b : Ref sig .tc) (hb : b ∉ Finset.univ.image (Pipeline.arrRef spec0)) : leave0 W c b = W c b :=
  leave0_other W c b (fun h => hb (h ▸ Finset.mem_image_of_mem _ (Finset.mem_univ (2 : Fin 4))))
    fun h => hb (h ▸ Finset.mem_image_of_mem _ (Finset.mem_univ (3 : Fin 4)))

/-- The buffers after the second region entered at `W`: its two outputs at the images' losses and counts. -/
def leave1 : Valuation τ sig (Elt F) :=
  Function.update (Function.update (W c) main_v405_0 (column (loss1 (conts W) c))) main_v405_1 (column (vis1 (conts W) c))

theorem leave1_other (r : Ref sig .tc) (h0 : r ≠ main_v405_0) (h1 : r ≠ main_v405_1) : leave1 W c r = W c r := by
  unfold leave1
  rw [Function.update_of_ne fun h => h1 (Proc.devRef_injective _ h), Function.update_of_ne fun h => h0 (Proc.devRef_injective _ h)]

theorem leave1_0 : leave1 W c main_v405_0 = column (loss1 (conts W) c) := by
  unfold leave1
  rw [Function.update_of_ne (by decide), Function.update_self]

theorem leave1_1 : leave1 W c main_v405_1 = column (vis1 (conts W) c) := by
  unfold leave1
  rw [Function.update_self]

/-- An input of the second region still holds at its end what it held. -/
theorem input1 (w : Fin cfg1.W) (G : Buf (Elt F) ((spec1 w).arr.view.loc (c : Thread nD τ))) (n : Nat) (hw : (cfg1.win w).isOut = false)
    (h : (dat1 (conts W) c).ArrAt w n G) : G = W c (Pipeline.arrRef spec1 w) := by
  rw [(dat1 (conts W) c).ArrAt_in w hw n] at h
  exact h

theorem leave1_at0 : leave1 W c (Pipeline.arrRef spec1 0) = W c (Pipeline.arrRef spec1 0) := leave1_other W c main_v372 (by decide) (by decide)
theorem leave1_at1 : leave1 W c (Pipeline.arrRef spec1 1) = W c (Pipeline.arrRef spec1 1) := leave1_other W c main_v374_1 (by decide) (by decide)
theorem leave1_at2 : leave1 W c (Pipeline.arrRef spec1 2) = W c (Pipeline.arrRef spec1 2) := leave1_other W c main_v403 (by decide) (by decide)
theorem leave1_at3 : leave1 W c (Pipeline.arrRef spec1 3) = W c (Pipeline.arrRef spec1 3) := leave1_other W c main_v404 (by decide) (by decide)
theorem leave1_at4 (G : Buf (Elt F) ((spec1 4).arr.view.loc (c : Thread nD τ))) (h : (dat1 (conts W) c).ArrAt 4 cfg1.N G) :
    G = leave1 W c (Pipeline.arrRef spec1 4) := (dat1_out4 (conts W) c G h).trans (leave1_0 W c).symm
theorem leave1_at5 (G : Buf (Elt F) ((spec1 5).arr.view.loc (c : Thread nD τ))) (h : (dat1 (conts W) c).ArrAt 5 cfg1.N G) :
    G = leave1 W c (Pipeline.arrRef spec1 5) := (dat1_out5 (conts W) c G h).trans (leave1_1 W c).symm

/-- What the second region's arrays hold at its end is `leave1` there, -/
theorem leave1_arr (w : Fin cfg1.W) : ∀ (G : Buf (Elt F) ((spec1 w).arr.view.loc (c : Thread nD τ))),
    (dat1 (conts W) c).ArrAt w cfg1.N G → G = leave1 W c (Pipeline.arrRef spec1 w) := by
  exact Fin.cases (fun G h => (input1 W c 0 G _ rfl h).trans (leave1_at0 W c).symm)
    (Fin.cases (fun G h => (input1 W c 1 G _ rfl h).trans (leave1_at1 W c).symm)
    (Fin.cases (fun G h => (input1 W c 2 G _ rfl h).trans (leave1_at2 W c).symm)
    (Fin.cases (fun G h => (input1 W c 3 G _ rfl h).trans (leave1_at3 W c).symm)
    (Fin.cases (leave1_at4 W c) (Fin.cases (leave1_at5 W c) fun i => i.elim0))))) w

/-- and every other buffer is as it was. -/
theorem leave1_rest (b : Ref sig .tc) (hb : b ∉ Finset.univ.image (Pipeline.arrRef spec1)) : leave1 W c b = W c b :=
  leave1_other W c b (fun h => hb (h ▸ Finset.mem_image_of_mem _ (Finset.mem_univ (4 : Fin 6))))
    fun h => hb (h ▸ Finset.mem_image_of_mem _ (Finset.mem_univ (5 : Fin 6)))

end Leave

variable (m : (ℓ : Loc nD τ sig) → Buf (Elt F) ℓ)

/-- The first region's outputs, in the form the host stretches after it take them. -/
def outs0 : Outs (F := F) := fun _ r c => leave0 (V33 m) c r

/-- The buffers the second region is entered with. -/
abbrev before1 (c : Dev nD) : Valuation τ sig (Elt F) := V39 m (outs0 m) c

/-- Both regions' outputs. -/
def outs : Outs (F := F) := fun J r c => if J = 34 then outs0 m J r c else leave1 (before1 m) c r

theorem V34_outs0 (c : Dev nD) : V34 m (outs0 m) c = leave0 (V33 m) c := by
  unfold V34
  rw [show outs0 m 34 main_v374_0 c = _ from leave0_0 (V33 m) c, show outs0 m 34 main_v374_1 c = _ from leave0_1 (V33 m) c]
  rfl

theorem V34_outs (c : Dev nD) : V34 m (outs m) c = V34 m (outs0 m) c := by
  unfold V34
  rw [show outs m 34 main_v374_0 c = outs0 m 34 main_v374_0 c from if_pos rfl,
    show outs m 34 main_v374_1 c = outs0 m 34 main_v374_1 c from if_pos rfl]

theorem V39_outs (c : Dev nD) : V39 m (outs m) c = before1 m c := by
  unfold before1 V39 V38 V37 V36 V35
  rw [V34_outs]

theorem V40_outs (c : Dev nD) : V40 m (outs m) c = leave1 (before1 m) c := by
  unfold V40
  rw [show outs m 40 main_v405_0 c = _ from (if_neg (by decide)).trans (leave1_0 (before1 m) c),
    show outs m 40 main_v405_1 c = _ from (if_neg (by decide)).trans (leave1_1 (before1 m) c), V39_outs]
  rfl

/-! ## A region as a segment -/

/-- The proof data of the two pipelines, each from the contents its region is entered from. -/
def rdats : (p : Fin 2) → (c : Dev nD) → RDat τ (Elt F) Unit ℕ UU ℕ (cfgs p) c
  | 0 => fun c => (dat0 (conts (V33 m)) c).toR
  | 1 => fun c => dat1 (conts (before1 m)) c

abbrev lev : GSem nD τ sig → Finset Unit := fun _ => ∅
abbrev lvl : GSem nD τ sig → Unit → ℕ := fun _ _ => 0

/-- A core owes nothing. -/
abbrev idle (c : Dev nD) : sProp 𝕄 := iprop(∃ W, owes (c : Thread nD τ) (0 : CellTallies nD τ sig Unit) W)

section Region

variable (ds : (p : Fin 2) → (c : Dev nD) → RDat τ (Elt F) Unit ℕ UU ℕ (cfgs p) c)

omit [FloatOps F] in
/-- A region's exit, the arrays' part: when the only contents each array may hold are `V'`'s and `V'` agrees with `V`
    off the arrays, the arrays and the rest at `V` are all the buffers at `V'`. -/
theorem arrays_join [FloatOps F] (p : Fin 2) (hw : Pipeline.LaunchFacts (nD := nD) (τ := τ) cfgs p) (c : Dev nD)
    (hshare : ∀ w, (ds p c).share w = fullShare) (V V' : (b : Ref sig .tc) → Buf (Elt F) ((c.tc : Thread nD τ).loc b))
    (hF : ∀ w G, (ds p c).ArrAt w (cfgs p).N G → G = V' (Pipeline.arrRef (cfgs p).spec w))
    (hrest : ∀ b, b ∉ Finset.univ.image (Pipeline.arrRef (cfgs p).spec) → V' b = V b) :
    iprop((ds p c).arraysAt (cfgs p).N ∗ Pipeline.unscopedRest (cfgs p).spec c V) ⊢ (unscopedBufs c V' : sProp 𝕄) := by
  rw [Pipeline.unscopedBufs_split cfgs p hw.win.arr_unscoped hw.win.arr_inj c V', Pipeline.RDat.arraysAt_eq (pcfgs (F := F)) adm ds p c hw.arr_whole hshare]
  refine sep_mono (bigSep_mono fun w _ => ?_) (Entails.of_eq ?_)
  · refine exists_elim (PROP := sProp 𝕄) fun G => ?_
    iintro ⟨%h, H⟩
    rw [← hF w G h]
    iexact H
  · unfold Pipeline.unscopedRest
    exact bigSep_congr fun b hb => by rw [hrest b (Finset.mem_sdiff.mp hb).2]

set_option backward.isDefEq.respectTransparency.types false in
/-- A kernel region between two valuations of every buffer: entered with the arrays read off the first, left with them
    read off the second. -/
def regionSeg (p : Fin 2) (hw : Pipeline.LaunchFacts (nD := nD) (τ := τ) cfgs p)
    (hbody : ∀ c, (ds p c).BodyObligation defs₀ Variants.none () Set.univ)
    (howed : ∀ c t, (ds p c).owed t = 0) (hΦ : ∀ c t, (ds p c).Φ t = Pipeline.scopedRest (cfgs p).spec c)
    (hshare : ∀ c w, (ds p c).share w = fullShare)
    (hrec : ∀ c x, x ∈ (ds p c).recorded 0)
    (hpre : (pcfgs (F := F) p).pre.K = 0)
    (W W' : Dev nD → Valuation τ sig (Elt F))
    (hA : ∀ c w, (ds p c).A w = W c (Proc.devRef .tc (Pipeline.arrRef (cfgs p).spec w)))
    (hF : ∀ c w G, (ds p c).ArrAt w (cfgs p).N G → G = W' c (Proc.devRef .tc (Pipeline.arrRef (cfgs p).spec w)))
    (hrest : ∀ c b, b ∉ Finset.univ.image (Pipeline.arrRef (cfgs p).spec) → W' c (Proc.devRef .tc b) = W c (Proc.devRef .tc b)) :
    RDat.RegionSeg (pcfgs (F := F)) adm ds () defs₀ Variants.none lev lvl p where
  win := hw.win.to₀
  block_pos := hw.block_pos
  stage_whole := hw.stage_whole
  K := PEmpty
  osem k := k.elim
  ho := Pipeline.OwnSemFacts.none _
  hbody := hbody
  hwaits := Pipeline.RDat.hwaits_of_owed_zero _ _ _ _ lev lvl p howed
  pre c := iprop(StableHlo.held (c : Thread nD τ) (Pipeline.ucRefs τ sig) (W c) ∗ idle c)
  post c := iprop(StableHlo.held (c : Thread nD τ) (Pipeline.ucRefs τ sig) (W' c) ∗ idle c)
  X _ := BI.emp
  Y _ := BI.emp
  Z c := Pipeline.unscopedRest (Ix := Unit) (Name := ℕ) (U := UU) (Lvl := ℕ) (cfgs p).spec c (fun b => W c b)
  hentry c := by
    rw [Pipeline.ownSems0_none, ← Pipeline.unscopedBufs_held c (W c)]
    have hsplit := Pipeline.RDat.arrays_of_unscopedBufs (p := p) (pcfgs (F := F)) adm ds hw.win hw.arr_whole c
      (hshare c) (fun b => W c b) (hA c)
    iintro ⟨⟨Hub, HO⟩, -, -⟩
    ihave H := hsplit $$ Hub
    icases H with ⟨Ha, Hrest⟩
    imodintro
    isplitl [Ha]; · iexact Ha
    isplitr
    · unfold Pipeline.prefHeld
      haveI : IsEmpty (Fin (pcfgs (F := F) p).pre.K) := by rw [hpre]; infer_instance
      rw [Finset.univ_eq_empty, BI.bigSep_empty]
      iempintro
    isplitl [HO]
    · unfold Pipeline.RDat.owesAt Pipeline.owesWithin
      rw [howed c 0]
      icases HO with ⟨%W, HO⟩
      iexists W
      isplitr
      · ipureintro; exact fun x _ => Or.inl (hrec c x)
      iexact HO
    isplitr
    · iempintro
    iexact Hrest
  hin c := by
    rw [hΦ c 0]
    iintro ⟨-, -, Hr⟩
    iexact Hr
  hout c := by
    rw [Pipeline.ownSems0_none, hΦ c]
    iintro Hr
    isplitr; · iempintro
    isplitr; · iempintro
    iexact Hr
  hexit c := by
    rw [← Pipeline.unscopedBufs_held c (W' c)]
    have hjoin := arrays_join ds p hw c (hshare c) (fun b => W c b) (fun b => W' c b) (hF c) (hrest c)
    iintro ⟨Ha, HO, -, Hrest⟩
    imodintro
    isplitl [Ha Hrest]
    · iapply hjoin
      isplitl [Ha] <;> iassumption
    unfold Pipeline.RDat.owesAt Pipeline.owesWithin
    rw [howed c]
    icases HO with ⟨%W, -, HO⟩
    iexists W
    iexact HO

end Region

/-- The first region: it leaves the two arrays of kept scores. -/
def seg33 : RDat.RegionSeg (pcfgs (F := F)) adm (rdats m) () defs₀ Variants.none lev lvl 0 :=
  regionSeg (rdats m) 0 launch0 (fun c => (dat0_body (conts (V33 m)) c).loose.toR) (fun _ _ => rfl) (fun _ _ => rfl)
    (fun c w => (dat0 (conts (V33 m)) c).share_full (fun _ => rfl) w) (fun _ _ => trivial) rfl (V33 m) (leave0 (V33 m))
    (fun _ _ => rfl) (fun c w G h => leave0_arr (V33 m) c w G h) (fun c b hb => leave0_rest (V33 m) c b hb)

/-- The second region: it leaves the images' losses and counts. -/
def seg39 : RDat.RegionSeg (pcfgs (F := F)) adm (rdats m) () defs₀ Variants.none lev lvl 1 :=
  regionSeg (rdats m) 1 launch1 (fun c => dat1_body (conts (before1 m)) c) (fun _ _ => rfl) (fun _ _ => rfl)
    (fun c w => (dat1 (conts (before1 m)) c).share_full (fun _ => rfl) w) (fun _ _ => trivial) rfl (before1 m) (leave1 (before1 m))
    (fun _ _ => rfl) (fun c w G h => leave1_arr (before1 m) c w G h) (fun c b hb => leave1_rest (before1 m) c b hb)

/-! ## The run -/

/-- @main's items in order. -/
abbrev items (_ : Dev nD) : List (RDat.Seg (pcfgs (F := F)) adm (rdats m) () defs₀ Variants.none lev lvl) :=
  [.host (seg0 m Variants.none lev lvl fun _ => idle), .host (seg1 m Variants.none lev lvl fun _ => idle), .host (seg2 m Variants.none lev lvl fun _ => idle), .host (seg3 m Variants.none lev lvl fun _ => idle), .host (seg4 m Variants.none lev lvl fun _ => idle), .host (seg5 m Variants.none lev lvl fun _ => idle), .host (seg6 m Variants.none lev lvl fun _ => idle), .host (seg7 m Variants.none lev lvl fun _ => idle), .host (seg8 m Variants.none lev lvl fun _ => idle), .host (seg9 m Variants.none lev lvl fun _ => idle), .host (seg10 m Variants.none lev lvl fun _ => idle), .host (seg11 m Variants.none lev lvl fun _ => idle), .host (seg12 m Variants.none lev lvl fun _ => idle), .host (seg13 m Variants.none lev lvl fun _ => idle), .host (seg14 m Variants.none lev lvl fun _ => idle), .host (seg15 m Variants.none lev lvl fun _ => idle), .host (seg16 m Variants.none lev lvl fun _ => idle), .host (seg17 m Variants.none lev lvl fun _ => idle), .host (seg18 m Variants.none lev lvl fun _ => idle), .host (seg19 m Variants.none lev lvl fun _ => idle), .host (seg20 m Variants.none lev lvl fun _ => idle), .host (seg21 m Variants.none lev lvl fun _ => idle), .host (seg22 m Variants.none lev lvl fun _ => idle), .host (seg23 m Variants.none lev lvl fun _ => idle), .host (seg24 m Variants.none lev lvl fun _ => idle), .host (seg25 m Variants.none lev lvl fun _ => idle), .host (seg26 m Variants.none lev lvl fun _ => idle), .host (seg27 m Variants.none lev lvl fun _ => idle), .host (seg28 m Variants.none lev lvl fun _ => idle), .host (seg29 m Variants.none lev lvl fun _ => idle), .host (seg30 m Variants.none lev lvl fun _ => idle), .host (seg31 m Variants.none lev lvl fun _ => idle), .host (seg32 m Variants.none lev lvl fun _ => idle), .region (seg33 m), .host (seg34 m (outs m) Variants.none lev lvl fun _ => idle), .host (seg35 m (outs m) Variants.none lev lvl fun _ => idle), .host (seg36 m (outs m) Variants.none lev lvl fun _ => idle), .host (seg37 m (outs m) Variants.none lev lvl fun _ => idle), .host (seg38 m (outs m) Variants.none lev lvl fun _ => idle), .region (seg39 m), .host (seg40 m (outs m) Variants.none lev lvl fun _ => idle)]

theorem post33 (c : Dev nD) : (seg33 m).post c ⊢ iprop(StableHlo.held (c : Thread nD τ) (Pipeline.ucRefs τ sig) (V34 m (outs m) c) ∗ idle c) :=
  Entails.of_eq (by rw [V34_outs, V34_outs0]; rfl)

theorem pre39 (c : Dev nD) : iprop(StableHlo.held (c : Thread nD τ) (Pipeline.ucRefs τ sig) (V39 m (outs m) c) ∗ idle c) ⊢ (seg39 m).pre c :=
  Entails.of_eq (by rw [V39_outs]; rfl)

theorem post39 (c : Dev nD) : (seg39 m).post c ⊢ iprop(StableHlo.held (c : Thread nD τ) (Pipeline.ucRefs τ sig) (V40 m (outs m) c) ∗ idle c) :=
  Entails.of_eq (by rw [V40_outs]; rfl)

set_option backward.isDefEq.respectTransparency.types false in
/-- Every weakly fair execution of @main from memory `m` with zero counters terminates, every buffer of every core at the
    last valuation and every counter at zero. -/
theorem run (ρ : Dev nD → PrngReg) :
    θ_run defs (onTc (τ := τ) (main (F := F))) ⟨m, fun _ => 0, ρ⟩ (fun r =>
      (∀ c : Dev nD, ∀ b ∈ Pipeline.ucRefs τ sig, r.2.mem (c, b) = V41 m (outs m) c b) ∧ r.2.sem = fun _ => 0) := by
  refine Pipeline.RDat.θ_run_regions_kit_dev_sems (pcfgs (F := F)) adm (rdats m) () cellOf_inj emb₁ defs₀ Variants.none lev lvl m ρ main
    (items m)
    (fun c Q => by
      rewrite [main_chain c, RDat.Seg.run_eq_chain,
        show (items m c).map RDat.Seg.prog = [StableHlo.seq hostOps0, StableHlo.seq hostOps0_1, StableHlo.seq hostOps0_2, StableHlo.seq hostOps0_3, StableHlo.seq hostOps0_4, StableHlo.seq hostOps0_5, StableHlo.seq hostOps0_6, StableHlo.seq hostOps0_7, StableHlo.seq hostOps0_8, StableHlo.seq hostOps0_9, StableHlo.seq hostOps0_10, StableHlo.seq hostOps0_11, StableHlo.seq hostOps0_12, StableHlo.seq hostOps0_13, StableHlo.seq hostOps0_14, StableHlo.seq hostOps0_15, StableHlo.seq hostOps0_16, StableHlo.seq hostOps0_17, StableHlo.seq hostOps0_18, StableHlo.seq hostOps0_19, StableHlo.seq hostOps0_20, StableHlo.seq hostOps0_21, StableHlo.seq hostOps0_22, StableHlo.seq hostOps0_23, StableHlo.seq hostOps0_24, StableHlo.seq hostOps0_25, StableHlo.seq hostOps0_26, StableHlo.seq hostOps0_27, StableHlo.seq hostOps0_28, StableHlo.seq hostOps0_29, StableHlo.seq hostOps0_30, StableHlo.seq hostOps0_31, StableHlo.seq hostOps0_32, Prog.lift (.customCall (Pipeline.entry 0) ()), StableHlo.seq hostOps1, StableHlo.seq hostOps1_1, StableHlo.seq hostOps1_2, StableHlo.seq hostOps1_3, StableHlo.seq hostOps1_4, Prog.lift (.customCall (Pipeline.entry 1) ()), StableHlo.seq hostOps2] from rfl]
      dsimp (config := { failIfUnchanged := false }) only
      exact .rfl)
    (fun c => by simp only [items, RDat.Seg.pipes_host, RDat.Seg.pipes_region, RDat.Seg.pipes_nil]; decide)
    (O₀ := 0) (fun _ _ => rfl) (G := fun _ => BI.emp)
    (u₀ := initOf (Pipeline.cells cfgs cellOf_inj) (Pipeline.launchToks cfgs cellOf_inj)) ?_
    (T₀ := fun c => iprop(StableHlo.held (c : Thread nD τ) (Pipeline.ucRefs τ sig) (V0 m c) ∗ idle c))
    (Tₙ := fun c => StableHlo.held (c : Thread nD τ) (Pipeline.ucRefs τ sig) (V41 m (outs m) c))
    (hch := fun c => ⟨.rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, post33 m c, .rfl, .rfl, .rfl, .rfl, pre39 m c, post39 m c, .rfl⟩)
    (hinit := ?_) (QY := fun c s => ∀ b ∈ Pipeline.ucRefs τ sig, s.mem (c, b) = V41 m (outs m) c b)
    (hfin := fun c s' => ?_) (hQ := fun _ h hz => ⟨h, funext fun g => hz g (.inr (regions_no_unscoped g.2))⟩)
  · rw [ownU_emb₁]
    iintro H
    imodintro
    isplitl [H]; · iexact H
    rw [BI.bigSep_emp_const]
    iempintro
  · refine Pipeline.initEach lev lvl fun c => ?_
    rw [← Pipeline.unscopedBufs_held c (V0 m c)]
    iintro ⟨⟨Hh, -, HO, -, -, -⟩, -⟩
    imodintro
    isplitl [Hh]; · iexact Hh
    iexists ∅
    iexact HO
  · unfold StableHlo.held
    iintro ⟨Hh, HSI⟩
    ihave Hr := (pointsTo_read_all (Pipeline.ucRefs τ sig) (fun b => ((c : Thread nD τ).1, b)) (V41 m (outs m) c) s') $$ [Hh HSI]
    · isplitl [Hh] <;> iassumption
    icases Hr with ⟨%h, HSI⟩
    imodintro
    isplitr
    · ipureintro
      exact h
    · iexact HSI

/-- A TensorCore reference that is not scoped is among the buffers the run reads. -/
theorem mem_ucRefs (r : Ref sig .tc) (h : (Proc.devRef .tc r : DevRef τ sig).isScoped = false) :
    Proc.devRef .tc r ∈ Pipeline.ucRefs τ sig :=
  Finset.mem_filter.mpr ⟨StableHlo.devRef_mem_tcRefs r, by rw [h]; decide⟩

end Cert.Proof.Ideal

end
-- ==== Proof.Frames.lean ====
/- The frame claims: every run ends with the arguments as launched and every semaphore counter at zero. -/
module

public import proofs.«01_k».proof.Defs
public import proofs.«01_k».proof.Proof.RunKernel
public import proofs.«01_k».proof.Proof.RunIdeal
public import proofs.«01_k».proof.Proof.Gen.ReferenceIdeal.Run
public import Idealize.ShloMosaic.Lib.Quiescent

@[expose] public section

noncomputable section

namespace Cert.Proof

open Idealize.ShloMosaic Idealize.SL.Sem

/-- The printed kernel leaves its arguments and ends quiescent. -/
theorem frame_kernel : quiescent_Kernel := fun m g _ =>
  (θ_run _ _ _).mono (fun _ h => ⟨fun c =>
    ⟨(h.1 c _ (Printed.mem_ucRefs Kernel.main_arg0 rfl)).trans (Kernel.Gen.V41_main_arg0 m _ c),
      (h.1 c _ (Printed.mem_ucRefs Kernel.main_arg1 rfl)).trans (Kernel.Gen.V41_main_arg1 m _ c),
      (h.1 c _ (Printed.mem_ucRefs Kernel.main_arg2 rfl)).trans (Kernel.Gen.V41_main_arg2 m _ c)⟩, h.2⟩)
    (Printed.run m g)

/-- So does its ideal reading. -/
theorem frame_ideal : quiescent_KernelIdeal := fun m g _ =>
  (θ_run _ _ _).mono (fun _ h => ⟨fun c =>
    ⟨(h.1 c _ (Ideal.mem_ucRefs KernelIdeal.main_arg0 rfl)).trans (KernelIdeal.Gen.V41_main_arg0 m _ c),
      (h.1 c _ (Ideal.mem_ucRefs KernelIdeal.main_arg1 rfl)).trans (KernelIdeal.Gen.V41_main_arg1 m _ c),
      (h.1 c _ (Ideal.mem_ucRefs KernelIdeal.main_arg2 rfl)).trans (KernelIdeal.Gen.V41_main_arg2 m _ c)⟩, h.2⟩)
    (Ideal.run m g)

/-- The reference too: it has no semaphore at all. -/
theorem frame_reference : quiescent_ReferenceIdeal := fun m g _ =>
  (θ_run _ _ _).mono (fun _ h => ⟨fun c => ⟨(h c).2.2.1, (h c).2.2.2.1, (h c).2.2.2.2⟩, sem_eq_zero_of_no_sems rfl _⟩)
    (ReferenceIdeal.Value.run m g)

end Cert.Proof

end
-- ==== Proof.Blur.lean ====
/- The blur as mathematics: fifteen weighted neighbours along rows, then along columns. The kernel's two passes and the
   reference's two-dimensional window are both read as this. -/
module

public import proofs.«01_k».proof.Proof.Gen.KernelIdeal.Skeleton
public import Idealize.ShloMosaic.Lib.Pointwise

@[expose] public section

set_option maxRecDepth 16384

noncomputable section

namespace Cert.Proof.Ideal

open Cert.KernelIdeal Cert.KernelIdeal.Gen
open Idealize.ShloMosaic

/-- The fifteen weights, as words, and as numbers: a Gaussian about the middle one. -/
def tapWord : Fin 15 → BitVec 32 :=
  ![0x000000C4#32, 0x0B8BAD78#32, 0x1B692BEB#32, 0x28642328#32, 0x3282D314#32, 0x39AFE108#32, 0x3E0A9555#32, 0x3F800000#32,
    0x3E0A9555#32, 0x39AFE108#32, 0x3282D314#32, 0x28642328#32, 0x1B692BEB#32, 0x0B8BAD78#32, 0x000000C4#32]

/-- A weight of the one-dimensional Gaussian. -/
def tap (a : Fin 15) : EReal := Ideal.ofBits .f32 (tapWord a)

/-- The element `a` places along a window that starts seven before `r`: zero where that is past the edge. -/
def reach (f : Fin 512 → EReal) (r : Fin 512) (a : Fin 15) : EReal :=
  if h : 7 ≤ r.val + a.val ∧ r.val + a.val < 519 then f ⟨r.val + a.val - 7, by omega⟩ else 0

/-- The weighted neighbours on one axis, and on both. -/
def pass (f : Fin 512 → EReal) (r : Fin 512) : EReal := ∑ a, tap a * reach f r a

/-- The blur of an image: along rows, then along columns. -/
def blur (x : Fin 512 → Fin 512 → EReal) (r c : Fin 512) : EReal := pass (fun c' => pass (fun r' => x r' c') r) c

/-- The element `k` before, and the one `k` after: zero past the edge. -/
def before (f : Fin 512 → EReal) (r : Fin 512) (k : Nat) : EReal := if h : r.val < k then 0 else f ⟨r.val - k, by omega⟩

/-- The element `k` places further on, zero beyond the end. -/
def after (f : Fin 512 → EReal) (r : Fin 512) (k : Nat) : EReal := if h : r.val < 512 - k then f ⟨k + r.val, by omega⟩ else 0

/-- A shift back is the window's reach at a distance below the middle, -/
theorem before_eq (f : Fin 512 → EReal) (r : Fin 512) (k : Nat) (a : Fin 15) (h : a.val + k = 7) : before f r k = reach f r a := by
  unfold before reach
  by_cases g : r.val < k
  · rw [dif_pos g, dif_neg (by omega)]
  · rw [dif_neg g, dif_pos (by omega)]
    exact congrArg f (Fin.ext (by simp only; omega))

/-- and a shift on is its reach at a distance above it. -/
theorem after_eq (f : Fin 512 → EReal) (r : Fin 512) (k : Nat) (a : Fin 15) (h : a.val = 7 + k) : after f r k = reach f r a := by
  unfold after reach
  by_cases g : r.val < 512 - k
  · rw [dif_pos g, dif_pos (by omega)]
    exact congrArg f (Fin.ext (by simp only; omega))
  · rw [dif_neg g, dif_neg (by omega)]

/-- A sum of fifteen terms, written out. -/
theorem sum_fifteen (g : Fin 15 → EReal) :
    ∑ a, g a = g 0 + g 1 + g 2 + g 3 + g 4 + g 5 + g 6 + g 7 + g 8 + g 9 + g 10 + g 11 + g 12 + g 13 + g 14 := by
  rw [Fin.sum_univ_castSucc, Fin.sum_univ_castSucc, Fin.sum_univ_castSucc, Fin.sum_univ_castSucc, Fin.sum_univ_castSucc,
    Fin.sum_univ_castSucc, Fin.sum_univ_castSucc, Fin.sum_univ_eight]
  rfl

/-- The first seven terms of a pass and the last eight, in the kernel's order: the middle, then outwards. -/
def near (f : Fin 512 → EReal) (r : Fin 512) : EReal :=
  f r + Ideal.ofBits .f32 0x3E0A9555#32 * before f r 1 + Ideal.ofBits .f32 0x3E0A9555#32 * after f r 1
    + Ideal.ofBits .f32 0x39AFE108#32 * before f r 2 + Ideal.ofBits .f32 0x39AFE108#32 * after f r 2
    + Ideal.ofBits .f32 0x3282D314#32 * before f r 3 + Ideal.ofBits .f32 0x3282D314#32 * after f r 3

/-- A pass continued from `s` by the terms further out. -/
def far (s : EReal) (f : Fin 512 → EReal) (r : Fin 512) : EReal :=
  s + Ideal.ofBits .f32 0x28642328#32 * before f r 4 + Ideal.ofBits .f32 0x28642328#32 * after f r 4
    + Ideal.ofBits .f32 0x1B692BEB#32 * before f r 5 + Ideal.ofBits .f32 0x1B692BEB#32 * after f r 5
    + Ideal.ofBits .f32 0x0B8BAD78#32 * before f r 6 + Ideal.ofBits .f32 0x0B8BAD78#32 * after f r 6
    + Ideal.ofBits .f32 0x000000C4#32 * before f r 7 + Ideal.ofBits .f32 0x000000C4#32 * after f r 7

/-- The order does not matter. -/
theorem far_near (f : Fin 512 → EReal) (r : Fin 512) : far (near f r) f r = pass f r := by
  have h7 : f r = tap 7 * reach f r 7 := by
    rw [show tap 7 = 1 from Ideal.ofBits_one_f32, one_mul]
    exact before_eq f r 0 7 rfl
  unfold far near pass
  rw [sum_fifteen, h7, before_eq f r 1 6 rfl, before_eq f r 2 5 rfl, before_eq f r 3 4 rfl, before_eq f r 4 3 rfl,
    before_eq f r 5 2 rfl, before_eq f r 6 1 rfl, before_eq f r 7 0 rfl, after_eq f r 1 8 rfl, after_eq f r 2 9 rfl,
    after_eq f r 3 10 rfl, after_eq f r 4 11 rfl, after_eq f r 5 12 rfl, after_eq f r 6 13 rfl, after_eq f r 7 14 rfl]
  have t : ∀ a b : Fin 15, tapWord a = tapWord b → tap a = tap b := fun a b h => congrArg (Ideal.ofBits .f32) h
  rw [t 8 6 rfl, t 9 5 rfl, t 10 4 rfl, t 11 3 rfl, t 12 2 rfl, t 13 1 rfl, t 14 0 rfl]
  show tap 7 * reach f r 7 + tap 6 * _ + tap 6 * _ + tap 5 * _ + tap 5 * _ + tap 4 * _ + tap 4 * _ + tap 3 * _ + tap 3 * _ + tap 2 * _
    + tap 2 * _ + tap 1 * _ + tap 1 * _ + tap 0 * _ + tap 0 * _ = _
  abel

/-- The kernel's first pass. -/
theorem rows_blur (x y : Vec Ideal S1x512x512 .f32) (r c : Fin 512) :
    k1_pay8 (k1_pay4 x y) (k1_pay7 (k1_pay4 x y) (k1_pay5 x y) (k1_pay6 x y) (Scalar.ofBits .f32 0x3282D314#32))
      (Scalar.ofBits .f32 0x00000000#32) (ix2 r c) = pass (fun r' => k1_pay4 x y (ix2 r' c)) r := by
  refine Eq.trans ?_ (far_near _ r)
  pointwise [k1_pay8, k1_pay7, k1_pay6, k1_pay5]
  rfl

/-- Its second. -/
theorem cols_blur (x y : FVec Ideal S512x512 .f32) (z : EReal) (r c : Fin 512) :
    addf (k1_pay11 (k1_pay8 x y z) (k1_pay9 x y z) k1_pay10) (mulf k1_pay13 (k1_pay12 (k1_pay8 x y z))) (ix2 r c)
      = pass (fun c' => k1_pay8 x y z (ix2 r c')) c := by
  refine Eq.trans ?_ (far_near _ c)
  pointwise [k1_pay9, k1_pay10, k1_pay11, k1_pay12, k1_pay13]
  rfl

/-- A factor goes into a sum of terms that are not below zero. -/
theorem mul_sum_nonneg {ι : Type} (s : Finset ι) (w : EReal) (g : ι → EReal) (h : ∀ i, 0 ≤ g i) : w * ∑ i ∈ s, g i = ∑ i ∈ s, w * g i := by
  classical
  induction s using Finset.induction_on with
  | empty => simp
  | insert i s hi ih =>
    rw [Finset.sum_insert hi, Finset.sum_insert hi, ← ih]
    exact EReal.left_distrib_of_nonneg (h i) (Finset.sum_nonneg fun j _ => h j)

/-- What the window reaches is not below zero where nothing is. -/
theorem reach_nonneg (f : Fin 512 → EReal) (hf : ∀ r, 0 ≤ f r) (r : Fin 512) (a : Fin 15) : 0 ≤ reach f r a := by
  unfold reach; split
  · exact hf _
  · exact le_rfl

/-- No weight is below zero. -/
theorem tap_nonneg (a : Fin 15) : 0 ≤ tap a := by
  unfold tap
  fin_cases a <;> simp [tapWord, Ideal.ofBits, Ideal.ieee, -EReal.coe_mul] <;> positivity

/-- The two passes as one window, of the products of the weights. -/
theorem blur_window (x : Fin 512 → Fin 512 → EReal) (hx : ∀ r c, 0 ≤ x r c) (r c : Fin 512) :
    blur x r c = ∑ a, ∑ b, tap a * tap b * reach (fun c' => reach (fun r' => x r' c') r a) c b := by
  have e : ∀ b, reach (fun c' => pass (fun r' => x r' c') r) c b
      = ∑ a, tap a * reach (fun c' => reach (fun r' => x r' c') r a) c b := by
    intro b
    unfold reach pass
    split
    · rfl
    · simp
  have p : ∀ a b, 0 ≤ reach (fun c' => reach (fun r' => x r' c') r a) c b := fun a b =>
    reach_nonneg _ (fun c' => reach_nonneg _ (fun r' => hx r' c') r a) c b
  have d : pass (fun c' => pass (fun r' => x r' c') r) c = ∑ b, ∑ a, tap a * tap b * reach (fun c' => reach (fun r' => x r' c') r a) c b := by
    refine Finset.sum_congr rfl fun (b : Fin 15) _ => ?_
    rw [e, mul_sum_nonneg _ _ _ fun a => mul_nonneg (tap_nonneg a) (p a b)]
    refine Finset.sum_congr rfl fun (a : Fin 15) _ => ?_
    rw [← mul_assoc, mul_comm (tap b)]
  refine Eq.trans d ?_
  exact Finset.sum_comm

end Cert.Proof.Ideal

end
-- ==== Proof.BlurRef.lean ====
/- The reference's window of weights, read as the blur. -/
module

public import proofs.«01_k».proof.Proof.Blur
public import proofs.«01_k».proof.Proof.Gen.ReferenceIdeal.Read
public import Idealize.ShloMosaic.Lib.Pipeline.ValueKit.Tiles
public import Idealize.ShloMosaic.Lib.Routing.OpsOrder

@[expose] public section

set_option maxRecDepth 16384

noncomputable section

namespace Cert.Proof.Ideal

open Cert.ReferenceIdeal Cert.ReferenceIdeal.Gen Cert.ReferenceIdeal.Read
open Idealize.ShloMosaic

variable (x1 : FVec Ideal S4x1x512x512 .f32) (x2 : FVec Ideal S4x3x3 .f32)

/-- A word laid out as one element. -/
theorem word_piece (w : BitVec 32) (i : S1.Idx) : broadcastInDim S1 ![] bcast_S_S1 (constant (F := Ideal) S_ .f32 w) i = Ideal.ofBits .f32 w := by
  pointwise

/-- The reference's fifteen weights. -/
theorem weights_ref (a : Fin 15) : val_main_v485 (F := Ideal) (ix1 a) = tap a := by
  obtain ⟨k, hk⟩ := a
  unfold val_main_v485
  concat_tiles i h
  all_goals
    obtain rfl : k = _ := h
    exact word_piece _ i

/-- One of its stacked row slices. -/
theorem row_piece (x : FVec Ideal S4x526x526 .f32) (k : Nat) (hs : S4x526x526.Slices ![0, k, 0] S4x512x526) (i : S1x4x512x526.Idx)
    (a : Fin 15) (b : Fin 4) (r : Fin 512) (q : Fin 526) (h : a.val = k) (h0 : (i 0).val = 0) (h1 : (i 1).val = b.val) (h2 : (i 2).val = r.val)
    (h3 : (i 3).val = q.val) :
    broadcastInDim S1x4x512x526 ![1, 2, 3] bcast_S4x512x526_S1x4x512x526_1_2_3 (extractStridedSlice S4x512x526 ![0, k, 0] x hs) i
      = x (ix3 b ⟨r.val + a.val, by omega⟩ q) := by
  obtain rfl : i = ix4 0 b r q := funext fun n => Fin.ext (match n with
    | ⟨0, _⟩ => h0
    | ⟨1, _⟩ => h1
    | ⟨2, _⟩ => h2
    | ⟨3, _⟩ => h3)
  pointwise
  refine congrArg x (funext fun n => Fin.ext ?_)
  match n with
  | ⟨0, _⟩ => rfl
  | ⟨1, _⟩ => show k + r.val = r.val + a.val; omega
  | ⟨2, _⟩ => rfl

/-- The stack of its rows. -/
theorem rows_ref (a : Fin 15) (b : Fin 4) (r : Fin 512) (q : Fin 526) :
    val_main_v523 (F := Ideal) x1 x2 (ix4 a b r q) = val_main_v492 (F := Ideal) x1 x2 (ix3 b ⟨r.val + a.val, by omega⟩ q) := by
  unfold val_main_v523
  concat_tiles i h
  all_goals exact row_piece _ _ _ i a b r q h h0 h1 h2 h3

/-- One of its stacked column slices. -/
theorem col_piece (x : FVec Ideal S15x4x512x526 .f32) (k : Nat) (hs : S15x4x512x526.Slices ![0, 0, 0, k] S15x4x512x512) (i : S15x1x4x512x512.Idx)
    (a p : Fin 15) (b : Fin 4) (r c : Fin 512) (h : p.val = k) (h0 : (i 0).val = a.val) (h1 : (i 1).val = 0) (h2 : (i 2).val = b.val)
    (h3 : (i 3).val = r.val) (h4 : (i 4).val = c.val) :
    broadcastInDim S15x1x4x512x512 ![0, 2, 3, 4] bcast_S15x4x512x512_S15x1x4x512x512_0_2_3_4 (extractStridedSlice S15x4x512x512 ![0, 0, 0, k] x hs) i
      = x (ix4 a b r ⟨c.val + p.val, by omega⟩) := by
  obtain rfl : i = ix5 a 0 b r c := funext fun n => Fin.ext (match n with
    | ⟨0, _⟩ => h0
    | ⟨1, _⟩ => h1
    | ⟨2, _⟩ => h2
    | ⟨3, _⟩ => h3
    | ⟨4, _⟩ => h4)
  pointwise
  refine congrArg x (funext fun n => Fin.ext ?_)
  match n with
  | ⟨0, _⟩ => rfl
  | ⟨1, _⟩ => rfl
  | ⟨2, _⟩ => rfl
  | ⟨3, _⟩ => show k + c.val = c.val + p.val; omega

/-- The stack of its columns. -/
theorem cols_ref (a p : Fin 15) (b : Fin 4) (r c : Fin 512) :
    val_main_v554 (F := Ideal) x1 x2 (ix5 a p b r c) = val_main_v523 (F := Ideal) x1 x2 (ix4 a b r ⟨c.val + p.val, by omega⟩) := by
  unfold val_main_v554
  concat_tiles i h
  all_goals exact col_piece _ _ _ i a p b r c h h0 h1 h2 h3 h4

/-- The padded array it slices. -/
theorem padded (b : Fin 4) (p q : Fin 526) :
    val_main_v492 (F := Ideal) x1 x2 (ix3 b p q)
      = if h : (7 ≤ p.val ∧ p.val - 7 < 512) ∧ 7 ≤ q.val ∧ q.val - 7 < 512 then
          val_main_v469 (F := Ideal) x1 x2 (ix4 b 0 ⟨p.val - 7, h.1.2⟩ ⟨q.val - 7, h.2.2⟩) else 0 := by
  have z : FloatOps.sitofp (F := Ideal) .f32 (val_main_c_155 (F := Ideal) (Shape.Idx.first h_S_)) = 0 := by
    show (((0#32 : BitVec 32).toInt : ℝ) : EReal) = 0
    simp
  pointwise [val_main_v492, val_main_v491, val_main_call22_v0]
  rw [z]

/-- A sum over the first two of five coordinates. -/
theorem sum_first_two (x : FVec Ideal S15x15x4x512x512 .f32) (init : EReal) (b : Fin 4) (r c : Fin 512) :
    Ideal.hostReduceAdd reducesTo_S15x15x4x512x512_S4x512x512_d0_1 x init (ix3 b r c) = init + ∑ p, ∑ q, x (ix5 p q b r c) := by
  have e := Finset.sum_filter_eq_sum_of_fiber (fun i => reducesTo_S15x15x4x512x512_S4x512x512_d0_1.drop i = ix3 b r c)
    (fun k : Fin 15 × Fin 15 => (ix5 k.1 k.2 b r c : S15x15x4x512x512.Idx))
    (fun k l e => Prod.ext (congrFun e 0) (congrFun e 1)) (fun i => by
      constructor
      · intro e
        refine ⟨(i 0, i 1), ?_⟩
        funext a; apply Fin.ext
        match a with
        | ⟨0, _⟩ => rfl
        | ⟨1, _⟩ => rfl
        | ⟨2, _⟩ => exact (congrArg Fin.val (congrFun e 0)).symm
        | ⟨3, _⟩ => exact (congrArg Fin.val (congrFun e 1)).symm
        | ⟨4, _⟩ => exact (congrArg Fin.val (congrFun e 2)).symm
      · rintro ⟨k, rfl⟩
        funext a; apply Fin.ext
        match a with
        | ⟨0, _⟩ => rfl
        | ⟨1, _⟩ => rfl
        | ⟨2, _⟩ => rfl) x
  unfold Ideal.hostReduceAdd
  rw [e, Fintype.sum_prod_type]

/-- The target's window sum, as the blur. -/
theorem blur_ref (b : Fin 4) (r c : Fin 512) (hx : ∀ r c, 0 ≤ val_main_v469 (F := Ideal) x1 x2 (ix4 b 0 r c)) :
    val_main_v558 (F := Ideal) x1 x2 (ix3 b r c) = blur (fun r c => val_main_v469 (F := Ideal) x1 x2 (ix4 b 0 r c)) r c := by
  have z : val_main_cst_156 (F := Ideal) (Shape.Idx.first h_S_) = 0 := by
    pointwise [val_main_cst_156]
  refine (sum_first_two _ _ b r c).trans ?_
  rw [z, zero_add, blur_window _ hx]
  refine Finset.sum_congr rfl fun (p : Fin 15) _ => Finset.sum_congr rfl fun (q : Fin 15) _ => ?_
  have w : val_main_v556 (F := Ideal) (ix5 p q b r c) = tap p * tap q := by
    rw [← weights_ref, ← weights_ref]
    pointwise [val_main_v556, val_main_v555, val_main_v490, val_main_v489, val_main_v488, val_main_v487, val_main_v486]
  show val_main_v556 (F := Ideal) (ix5 p q b r c) * val_main_v554 (F := Ideal) x1 x2 (ix5 p q b r c) = _
  rw [w, cols_ref, rows_ref, padded]
  refine congrArg (tap p * tap q * ·) ?_
  unfold reach
  by_cases hc : 7 ≤ c.val + q.val ∧ c.val + q.val < 519
  · by_cases hr : 7 ≤ r.val + p.val ∧ r.val + p.val < 519
    · rw [dif_pos hc]
      beta_reduce
      rw [dif_pos hr, dif_pos (by simp only; omega)]
    · rw [dif_pos hc]
      beta_reduce
      rw [dif_neg hr, dif_neg (by simp only; omega)]
  · rw [dif_neg hc, dif_neg (by simp only; omega)]

end Cert.Proof.Ideal

end
-- ==== Proof.Suppress.lean ====
/- Non-maximum suppression as mathematics: a score is kept where its border is not blanked, it is above zero, and no
   clamped score of its five by five window is larger. The kernel's row and column maxima and the reference's window
   maximum are both read as this. -/
module

public import proofs.«01_k».proof.Proof.Gen.KernelIdeal.Skeleton
public import proofs.«01_k».proof.Proof.Gen.ReferenceIdeal.Read
public import Idealize.ShloMosaic.Lib.Pointwise
public import Idealize.ShloMosaic.Lib.Routing.OpsPair
public import Idealize.ShloMosaic.Lib.Routing.OpsSet

@[expose] public section

set_option maxRecDepth 16384

noncomputable section

namespace Cert.Proof.Ideal

open Cert.KernelIdeal Cert.KernelIdeal.Gen
open Idealize.ShloMosaic

/-- One where an element is at least eight from every edge, else zero. -/
def border (r c : Fin 512) : EReal := if (8 ≤ r.val ∧ r.val < 504) ∧ 8 ≤ c.val ∧ c.val < 504 then 1 else 0

/-- Two coordinates at most two apart. -/
def Near (a b : Fin 512) : Prop := a.val ≤ b.val + 2 ∧ b.val ≤ a.val + 2

/-- A score with what is below zero put at zero. -/
def clamp (v : EReal) : EReal := if v < 0 then 0 else v

/-- An element above zero that no clamped element of its window exceeds. -/
def Peak (y : Fin 512 → Fin 512 → EReal) (r c : Fin 512) : Prop :=
  (∀ r' c', Near r r' → Near c c' → clamp (y r' c') ≤ clamp (y r c)) ∧ 0 < clamp (y r c)

open Classical in
/-- The peaks, and zero elsewhere. -/
def kept (y : Fin 512 → Fin 512 → EReal) (r c : Fin 512) : EReal := if Peak y r c then y r c else 0

/-- What stands past the edge is below every clamped score. -/
theorem fill_le : Ideal.ofBits .f32 0xF149F2CA#32 ≤ 0 := by
  simp [Ideal.ofBits, Ideal.ieee, -EReal.coe_mul]

/-- The word of minus infinity. -/
theorem neg_inf : Ideal.ofBits .f32 0xFF800000#32 = ⊥ := by
  simp [Ideal.ofBits, Ideal.ieee]

/-- What is clamped is not below zero. -/
theorem clamp_nonneg (v : EReal) : 0 ≤ clamp v := by
  unfold clamp; split
  · exact le_rfl
  · next h => exact not_lt.1 h

/-- What is above zero is left as it is. -/
theorem clamp_of_pos {v : EReal} (h : 0 < clamp v) : clamp v = v := by
  unfold clamp at h ⊢; split
  · next hv => rw [if_pos hv] at h; exact (lt_irrefl _ h).elim
  · rfl

/-- The bit of two tests, as a number. -/
theorem bit_signed (P Q : Prop) [Decidable P] [Decidable Q] :
    (((((IntOp.andi (BitVec.ofBool (decide P)) (BitVec.ofBool (decide Q))).setWidth 32 : BitVec 32).toInt : ℝ)) : EReal)
      = if P ∧ Q then 1 else 0 := by
  by_cases hP : P <;> by_cases hQ : Q <;> simp [hP, hQ, IntOp.andi]

/-- The same bit, read without a sign. -/
theorem bit_unsigned (P Q : Prop) [Decidable P] [Decidable Q] :
    ((((IntOp.andi (BitVec.ofBool (decide P)) (BitVec.ofBool (decide Q))).toNat : ℝ)) : EReal) = if P ∧ Q then 1 else 0 := by
  by_cases hP : P <;> by_cases hQ : Q <;> simp [hP, hQ, IntOp.andi]

/-- A coordinate is at least eight, and below five hundred and four, as words and as numbers. -/
theorem ge_eight (r : Fin 512) : IntOp.cmpi .sge (BitVec.ofNat 32 r.val) 8#32 = BitVec.ofBool (decide (8 ≤ r.val)) := by
  revert r; decide +kernel

/-- The border's upper bound, as a number. -/
theorem lt_last (r : Fin 512) : IntOp.cmpi .slt (BitVec.ofNat 32 r.val) 504#32 = BitVec.ofBool (decide (r.val < 504)) := by
  revert r; decide +kernel

/-- The kernel's blanked border. -/
theorem border_pay (r c : Fin 512) : k0_pay2 (F := Ideal) (ix2 r c) = border r c := by
  pointwise [k0_pay2]
  rw [ge_eight, ge_eight, lt_last, lt_last]
  have e : ∀ a b c d : Bool, IntOp.andi (IntOp.andi (IntOp.andi (BitVec.ofBool a) (BitVec.ofBool b)) (BitVec.ofBool c)) (BitVec.ofBool d)
      = IntOp.andi (BitVec.ofBool (decide ((a && b) = true))) (BitVec.ofBool (decide ((c && d) = true))) := by decide
  rw [e]
  refine (bit_signed _ _).trans ?_
  unfold border
  simp only [Bool.and_eq_true, decide_eq_true_eq]

/-- The kernel's clamped score. -/
theorem clamp_pay (x : FVec Ideal S1x512x512 .f32) (r c : Fin 512) :
    k0_pay9 (k0_pay2 (F := Ideal)) x (ix2 r c) = clamp (x (ix3 0 r c) * border r c) := by
  pointwise [k0_pay9]
  rw [border_pay]
  rfl

/-- A maximum of an element and its four neighbours on one axis, where what stands past the edge is below the bound. -/
theorem five_le (f : Fin 512 → EReal) (e t : EReal) (he : e ≤ t) (r : Fin 512) :
    max (max (max (max (f r) (if h : r.val < 510 then f ⟨2 + r.val, by omega⟩ else e))
      (if h : r.val < 511 then f ⟨1 + r.val, by omega⟩ else e)) (if h : r.val < 1 then e else f ⟨r.val - 1, by omega⟩))
      (if h : r.val < 2 then e else f ⟨r.val - 2, by omega⟩) ≤ t ↔ ∀ r', Near r r' → f r' ≤ t := by
  simp only [max_le_iff]
  constructor
  · rintro ⟨⟨⟨⟨h0, h2⟩, h1⟩, g1⟩, g2⟩ r' ⟨a, b⟩
    have hr' := r'.isLt
    have : r'.val = r.val ∨ r'.val = 2 + r.val ∨ r'.val = 1 + r.val ∨ (r'.val = r.val - 1 ∧ ¬ r.val < 1) ∨ (r'.val = r.val - 2 ∧ ¬ r.val < 2) := by
      omega
    rcases this with q | q | q | ⟨q, k⟩ | ⟨q, k⟩
    · rwa [Fin.ext q]
    · rw [dif_pos (by omega)] at h2
      rwa [show r' = ⟨2 + r.val, by omega⟩ from Fin.ext q]
    · rw [dif_pos (by omega)] at h1
      rwa [show r' = ⟨1 + r.val, by omega⟩ from Fin.ext q]
    · rw [dif_neg k] at g1
      rwa [show r' = ⟨r.val - 1, by omega⟩ from Fin.ext q]
    · rw [dif_neg k] at g2
      rwa [show r' = ⟨r.val - 2, by omega⟩ from Fin.ext q]
  · intro h
    refine ⟨⟨⟨⟨h _ ⟨by omega, by omega⟩, ?_⟩, ?_⟩, ?_⟩, ?_⟩ <;> split <;> first | exact he | exact h _ ⟨by simp only; omega, by simp only; omega⟩

/-- The kernel's maximum along rows, by its bounds. -/
theorem rows_pay (b : FVec Ideal S512x512 .f32) (x : FVec Ideal S1x512x512 .f32) (r c : Fin 512) (t : EReal) (ht : 0 ≤ t) :
    k0_pay10 b x (ix2 r c) ≤ t ↔ ∀ r', Near r r' → k0_pay9 b x (ix2 r' c) ≤ t := by
  pointwise [k0_pay10]
  exact five_le (fun r' => k0_pay9 b x (ix2 r' c)) _ t (fill_le.trans ht) r

open Classical in
/-- The kernel's suppressed element: the clamped one, where it bounds its window and is above zero. -/
theorem keep_pay (z m : FVec Ideal S512x512 .f32) (r c : Fin 512) (hz : 0 ≤ z (ix2 r c)) :
    k0_pay1 z m (Scalar.ofBits .f32 0xF149F2CA#32) (ix3 0 r c)
      = z (ix2 r c) * if (∀ c', Near c c' → m (ix2 r c') ≤ z (ix2 r c)) ∧ 0 < z (ix2 r c) then 1 else 0 := by
  pointwise [k0_pay1]
  refine congrArg (z (ix2 r c) * ·) ((bit_signed _ _).trans ?_)
  have e := five_le (fun c' => m (ix2 r c')) _ _ (fill_le.trans hz) c
  exact if_congr (and_congr e Iff.rfl) rfl rfl

/-- The suppressed warped score of the kernel, element by element. -/
theorem keepWarped_apply (x : FVec Ideal S1x512x512 .f32) (r c : Fin 512) :
    k0_pay1 (k0_pay9 (k0_pay2 (F := Ideal)) x) (k0_pay10 (k0_pay2 (F := Ideal)) x) (Scalar.ofBits .f32 0xF149F2CA#32) (ix3 0 r c)
      = kept (fun a b => x (ix3 0 a b) * border a b) r c := by
  have hz : 0 ≤ k0_pay9 (k0_pay2 (F := Ideal)) x (ix2 r c) := by rw [clamp_pay]; exact clamp_nonneg _
  rw [keep_pay _ _ _ _ hz]
  have e : ((∀ c', Near c c' → k0_pay10 (k0_pay2 (F := Ideal)) x (ix2 r c') ≤ k0_pay9 (k0_pay2 (F := Ideal)) x (ix2 r c))
      ∧ 0 < k0_pay9 (k0_pay2 (F := Ideal)) x (ix2 r c)) ↔ Peak (fun a b => x (ix3 0 a b) * border a b) r c := by
    refine and_congr ⟨fun h r' c' a b => ?_, fun h c' b => ?_⟩ ?_
    · have := (rows_pay _ _ _ _ _ hz).1 (h c' b) r' a
      rwa [clamp_pay, clamp_pay] at this
    · refine (rows_pay _ _ _ _ _ hz).2 fun r' a => ?_
      rw [clamp_pay, clamp_pay]
      exact h r' c' a b
    · rw [clamp_pay]
  unfold kept
  by_cases hp : Peak (fun a b => x (ix3 0 a b) * border a b) r c
  · rw [if_pos (e.2 hp), if_pos hp, mul_one, clamp_pay]
    exact clamp_of_pos hp.2
  · rw [if_neg (fun h => hp (e.1 h)), if_neg hp, mul_zero]

end Cert.Proof.Ideal

end
-- ==== Proof.SuppressRef.lean ====
/- The reference's non-maximum suppression, read as the same mathematics: its border mask, its window maximum and its mask of peaks. -/
module

public import proofs.«01_k».proof.Proof.Suppress
public import proofs.«01_k».proof.Proof.Gen.ReferenceIdeal.Read
public import Idealize.ShloMosaic.Lib.Pointwise
public import Idealize.ShloMosaic.Lib.Routing.OpsPair
public import Idealize.ShloMosaic.Lib.Routing.OpsSet

@[expose] public section

set_option maxRecDepth 16384

noncomputable section

namespace Cert.Proof.Ideal

open Cert.ReferenceIdeal Cert.ReferenceIdeal.Gen Cert.ReferenceIdeal.Read
open Idealize.ShloMosaic

/-- The start words of the mask's rectangle are eight. -/
theorem start_words (i : S2.Idx) : val_main_v187 (F := Ideal) i = 8#32 := by
  pointwise [val_main_v187, val_main_v186, val_main_v185, val_main_c_52, val_main_c_53]
  exact ite_self _

/-- The reference's mask of the border. -/
theorem border_ref (r c : Fin 512) : val_main_v189 (F := Ideal) (ix2 r c) = border r c := by
  have lands : ∀ k : S496x496.Idx, scatter_S512x512_S2_S496x496_01_n_01_0.resultIdx? k (val_main_v187 (F := Ideal)) = some (ix2 r c)
      ↔ 8 + (k 0).val = r.val ∧ 8 + (k 1).val = c.val := by
    intro k
    rw [Routing.resultIdx?_eq_some]
    have s : ∀ a, scatter_S512x512_S2_S496x496_01_n_01_0.start k (val_main_v187 (F := Ideal)) a = 8 := by
      intro a
      unfold ScatterDims.start
      rw [dif_pos (by fin_cases a <;> decide), start_words]
      rfl
    have w0 : scatter_S512x512_S2_S496x496_01_n_01_0.window k 0 = (k 0).val := rfl
    have w1 : scatter_S512x512_S2_S496x496_01_n_01_0.window k 1 = (k 1).val := rfl
    constructor
    · intro h
      have h0 := h 0
      have h1 := h 1
      rw [s, w0] at h0
      rw [s, w1] at h1
      exact ⟨by have : ((ix2 r c : S512x512.Idx) 0).val = r.val := rfl
                omega, by have : ((ix2 r c : S512x512.Idx) 1).val = c.val := rfl
                          omega⟩
    · rintro ⟨h0, h1⟩ a
      rw [s]
      match a with
      | ⟨0, _⟩ => show (8 : Int) + ((k 0).val : Int) = (r.val : Int); omega
      | ⟨1, _⟩ => show (8 : Int) + ((k 1).val : Int) = (c.val : Int); omega
  unfold border val_main_v189
  split
  · next h =>
    refine Routing.scatter_set_hit _ _ _ _ _ 1 (fun k _ => ?_) (ix2 ⟨r.val - 8, by omega⟩ ⟨c.val - 8, by omega⟩) ((lands _).2 ?_)
    · pointwise [val_main_v188, val_main_cst_54]
    · show 8 + (r.val - 8) = r.val ∧ 8 + (c.val - 8) = c.val
      omega
  · next h =>
    rw [Routing.scatter_set_miss _ _ _ _ _ fun k q => ?_]
    · pointwise [val_main_v184, val_main_cst_51]
    · have := (lands k).1 q
      have a : (k 0).val < 496 := (k 0).isLt
      have b : (k 1).val < 496 := (k 1).isLt
      omega

/-- A fold of maxima, by its bounds. -/
theorem foldl_max_le {ι : Type} (l : List ι) (f : ι → EReal) (a t : EReal) :
    l.foldl (fun r n => max r (f n)) a ≤ t ↔ a ≤ t ∧ ∀ n ∈ l, f n ≤ t := by
  induction l generalizing a with
  | nil => simp
  | cons n l ih => rw [List.foldl_cons, ih, max_le_iff, List.forall_mem_cons, and_assoc]

/-- The window's maximum, by its bounds. -/
theorem window_le (x : FVec Ideal S4x1x512x512 .f32) (init : FVec Ideal S_ .f32) (hi : init (Shape.Idx.first h_S_) = ⊥)
    (b : Fin 4) (r c : Fin 512) (t : EReal) :
    Host.reduceWindow FloatOps.maximumf ![1, 1, 5, 5] ![1, 1, 1, 1] ![0, 0, 2, 2] ![0, 0, 2, 2] x init
      reduceWindows_S4x1x512x512_S4x1x512x512_w1s1p0_0_w1s1p0_0_w5s1p2_2_w5s1p2_2 h_S_ (ix4 b 0 r c) ≤ t
      ↔ ∀ r' c', Near r r' → Near c c' → x (ix4 b 0 r' c') ≤ t := by
  unfold Host.reduceWindow
  refine (foldl_max_le _ _ _ _).trans ?_
  rw [hi]
  constructor
  · rintro ⟨-, h⟩ r' c' ⟨hr1, hr2⟩ ⟨hc1, hc2⟩
    have g := h ((⟨4, ![1, 1, 5, 5]⟩ : Shape).rowMajor (ix4 0 0 ⟨r'.val + 2 - r.val, by omega⟩ ⟨c'.val + 2 - c.val, by omega⟩)) (List.mem_finRange _)
    have hb := b.isLt
    have hr := r'.isLt
    have hc := c'.isLt
    simp only [Equiv.symm_apply_apply] at g
    rw [dif_pos] at g
    · refine le_trans (le_of_eq (congrArg x (funext fun a => Fin.ext ?_))) g
      match a with
      | ⟨0, _⟩ => show b.val = b.val * 1 + 0 - 0; omega
      | ⟨1, _⟩ => rfl
      | ⟨2, _⟩ => show r'.val = r.val * 1 + (r'.val + 2 - r.val) - 2; omega
      | ⟨3, _⟩ => show c'.val = c.val * 1 + (c'.val + 2 - c.val) - 2; omega
    · intro a
      match a with
      | ⟨0, _⟩ => show 0 ≤ b.val * 1 + 0 ∧ b.val * 1 + 0 - 0 < 4; omega
      | ⟨1, _⟩ => show 0 ≤ 0 * 1 + 0 ∧ 0 * 1 + 0 - 0 < 1; omega
      | ⟨2, _⟩ => show 2 ≤ r.val * 1 + (r'.val + 2 - r.val) ∧ r.val * 1 + (r'.val + 2 - r.val) - 2 < 512; omega
      | ⟨3, _⟩ => show 2 ≤ c.val * 1 + (c'.val + 2 - c.val) ∧ c.val * 1 + (c'.val + 2 - c.val) - 2 < 512; omega
  · intro h
    refine ⟨bot_le, fun n _ => ?_⟩
    obtain ⟨w, hw⟩ : ∃ w : (⟨4, ![1, 1, 5, 5]⟩ : Shape).Idx, w = (⟨S4x1x512x512.rank, ![1, 1, 5, 5]⟩ : Shape).rowMajor.symm n := ⟨_, rfl⟩
    have w0 : (w 0).val = 0 := Nat.lt_one_iff.1 (w 0).isLt
    have w1 : (w 1).val = 0 := Nat.lt_one_iff.1 (w 1).isLt
    have w2 : (w 2).val < 5 := (w 2).isLt
    have w3 : (w 3).val < 5 := (w 3).isLt
    split
    · next q =>
      have q2 : 2 ≤ r.val * 1 + (w 2).val ∧ r.val * 1 + (w 2).val - 2 < 512 := by rw [hw]; exact q 2
      have q3 : 2 ≤ c.val * 1 + (w 3).val ∧ c.val * 1 + (w 3).val - 2 < 512 := by rw [hw]; exact q 3
      refine le_trans (le_of_eq (congrArg x (funext fun a => Fin.ext ?_)))
        (h ⟨r.val * 1 + (w 2).val - 2, q2.2⟩ ⟨c.val * 1 + (w 3).val - 2, q3.2⟩ ⟨by simp only; omega, by simp only; omega⟩ ⟨by simp only; omega, by simp only; omega⟩)
      subst hw
      match a with
      | ⟨0, _⟩ => exact (by omega : ∀ k : Nat, k = 0 → b.val * 1 + k - 0 = b.val) _ w0
      | ⟨1, _⟩ => exact (by omega : ∀ k : Nat, k = 0 → 0 * 1 + k - 0 = 0) _ w1
      | ⟨2, _⟩ => rfl
      | ⟨3, _⟩ => rfl
    · exact bot_le

/-- The reference's zeros, its clamped score and its maxima over the window. -/
def zeroRef : FVec Ideal S4x1x512x512 .f32 := broadcastInDim S4x1x512x512 ![] bcast_S_S4x1x512x512 (constant S_ .f32 0x00000000#32)

/-- The reference's clamp at zero. -/
def clampRef (s : FVec Ideal S4x1x512x512 .f32) : FVec Ideal S4x1x512x512 .f32 := select (cmpf .olt s zeroRef) zeroRef s

/-- The reference's maximum over the window of five by five. -/
def maxRef (y : FVec Ideal S4x1x512x512 .f32) : FVec Ideal S4x1x512x512 .f32 :=
  Host.reduceWindow FloatOps.maximumf ![1, 1, 5, 5] ![1, 1, 1, 1] ![0, 0, 2, 2] ![0, 0, 2, 2] y
    (broadcastInDim S_ ![] bcast_S_S_ (constant S_ .f32 0xFF800000#32))
    reduceWindows_S4x1x512x512_S4x1x512x512_w1s1p0_0_w1s1p0_0_w5s1p2_2_w5s1p2_2 h_S_

/-- What the reference keeps of a score already blanked at its border. -/
def keepRef (s : FVec Ideal S4x1x512x512 .f32) : FVec Ideal S4x1x512x512 .f32 :=
  mulf s (uitofp .f32 (andi (cmpf .oge (clampRef s) (maxRef (clampRef s))) (cmpf .ogt (clampRef s) zeroRef)))

/-- The reference suppresses the score so, -/
theorem keep_score (x0 : FVec Ideal S4x1x512x512 .f32) : val_main_v400 (F := Ideal) x0 = keepRef (val_main_v192 (F := Ideal) x0) := rfl

/-- and the warped score too. -/
theorem keep_warped (x1 : FVec Ideal S4x1x512x512 .f32) (x2 : FVec Ideal S4x3x3 .f32) :
    val_main_v440 (F := Ideal) x1 x2 = keepRef (val_main_v201 (F := Ideal) x1 x2) := rfl

/-- Element by element, it is the peaks. -/
theorem keepRef_apply (s : FVec Ideal S4x1x512x512 .f32) (b : Fin 4) (r c : Fin 512) :
    keepRef s (ix4 b 0 r c) = kept (fun r c => s (ix4 b 0 r c)) r c := by
  have h0 : ∀ r c, zeroRef (ix4 b 0 r c) = 0 := fun r c => by pointwise [zeroRef]
  have hy : ∀ r c, clampRef s (ix4 b 0 r c) = clamp (s (ix4 b 0 r c)) := by
    intro r c
    pointwise [clampRef]
    rw [h0]
    rfl
  have hm : maxRef (clampRef s) (ix4 b 0 r c) ≤ clampRef s (ix4 b 0 r c)
      ↔ ∀ r' c', Near r r' → Near c c' → clampRef s (ix4 b 0 r' c') ≤ clampRef s (ix4 b 0 r c) :=
    window_le (clampRef s) _ (by pointwise; exact neg_inf) b r c _
  have e : (maxRef (clampRef s) (ix4 b 0 r c) ≤ clampRef s (ix4 b 0 r c) ∧ zeroRef (ix4 b 0 r c) < clampRef s (ix4 b 0 r c))
      ↔ Peak (fun r c => s (ix4 b 0 r c)) r c := by
    rw [hm, h0]
    simp only [hy]
    exact Iff.rfl
  pointwise [keepRef]
  refine (congrArg (s (ix4 b 0 r c) * ·) (bit_unsigned _ _)).trans ?_
  unfold kept
  by_cases hp : Peak (fun r c => s (ix4 b 0 r c)) r c
  · rw [if_pos (e.2 hp), if_pos hp, mul_one]
  · rw [if_neg (fun h => hp (e.1 h)), if_neg hp, mul_zero]

/-- The reference's score with its border blanked. -/
theorem score_blanked (x0 : FVec Ideal S4x1x512x512 .f32) (b : Fin 4) (r c : Fin 512) :
    val_main_v192 (F := Ideal) x0 (ix4 b 0 r c) = x0 (ix4 b 0 r c) * border r c := by
  pointwise [val_main_v192, val_main_v191, val_main_v190]
  rw [border_ref]

/-- The reference's warped score with its border blanked. -/
theorem warped_blanked (x1 : FVec Ideal S4x1x512x512 .f32) (x2 : FVec Ideal S4x3x3 .f32) (b : Fin 4) (r c : Fin 512) :
    val_main_v201 (F := Ideal) x1 x2 (ix4 b 0 r c) = val_main_v183 (F := Ideal) x1 x2 (ix4 b 0 r c) * border r c := by
  have e : val_main_v198 (F := Ideal) = val_main_v189 := rfl
  pointwise [val_main_v201, val_main_v200, val_main_v199]
  rw [e, border_ref]

end Cert.Proof.Ideal

end
-- ==== Proof.Marks.lean ====
/- The marks of the keypoints. -/
module

public import proofs.«01_k».proof.Proof.Gen.ReferenceIdeal.Read
public import Idealize.ShloMosaic.Lib.Pointwise
public import Idealize.ShloMosaic.Lib.Routing.OpsOrder

@[expose] public section

set_option maxRecDepth 16384

noncomputable section

namespace Cert.Proof.Ideal

open Cert.ReferenceIdeal Cert.ReferenceIdeal.Gen Cert.ReferenceIdeal.Read
open Idealize.ShloMosaic

variable (x1 : FVec Ideal S4x1x512x512 .f32) (x2 : FVec Ideal S4x3x3 .f32)

/-- A scatter of what is not below zero, over what is not, is not. -/
theorem scatter_nonneg (x : FVec Ideal S4x262144 .f32) (idx : IVec S2048x2 32) (u : FVec Ideal S2048 .f32) (hx : ∀ i, 0 ≤ x i) (hu : ∀ i, 0 ≤ u i)
    (i : S4x262144.Idx) :
    0 ≤ Host.scatter scatter_S4x262144_S2048x2_S2048_n_01_01_1 (fun _ b => b) x idx u i :=
  Routing.scatter_forall (P := fun v : EReal => 0 ≤ v) _ _ (fun _ _ _ hb => hb) _ _ _ hx hu i

/-- The mask begins at zeros, -/
theorem zeros_nonneg (i : S4x262144.Idx) : 0 ≤ val_main_v445 (F := Ideal) i := by
  rw [val_main_v445_apply, val_main_cst_132_apply]
  exact le_of_eq Ideal.ofBits_zero_f32.symm

/-- and ones are written into it. -/
theorem ones_nonneg (i : S2048.Idx) : 0 ≤ val_main_v460 (F := Ideal) i := by
  rw [val_main_v460_apply, val_main_cst_137_apply]
  exact le_of_le_of_eq zero_le_one Ideal.ofBits_one_f32.symm

/-- No mark is below zero. -/
theorem mark_nonneg (i : S4x262144.Idx) : 0 ≤ val_main_v461 (F := Ideal) x1 x2 i :=
  scatter_nonneg _ _ _ zeros_nonneg ones_nonneg i

end Cert.Proof.Ideal

end
-- ==== Proof.Loss.lean ====
/- The loss as mathematics: the visible part of the squared difference between the blanked score and the blurred target,
   summed over the images and divided by the number of visible pixels. The kernel divides the sum, the reference each
   of its terms. -/
module

public import proofs.«01_k».proof.Proof.BlurRef
public import proofs.«01_k».proof.Proof.SuppressRef
public import proofs.«01_k».proof.Proof.LossRegion
public import proofs.«01_k».proof.Proof.Marks

@[expose] public section

set_option maxRecDepth 16384

noncomputable section

namespace Cert.Proof.Ideal

open Idealize.ShloMosaic

/-- The squared difference at one pixel of one image. -/
def gap (s x : Fin 512 → Fin 512 → EReal) (r c : Fin 512) : EReal :=
  (s r c * border r c - blur x r c) * (s r c * border r c - blur x r c)

/-- A square is not below zero. -/
theorem gap_nonneg (s x : Fin 512 → Fin 512 → EReal) (r c : Fin 512) : 0 ≤ gap s x r c := by
  unfold gap
  generalize s r c * border r c - blur x r c = d
  rcases le_total 0 d with h | h
  · exact mul_nonneg h h
  · rw [← neg_mul_neg]
    exact mul_nonneg (EReal.neg_nonneg.2 h) (EReal.neg_nonneg.2 h)

section Kernel

open Cert.KernelIdeal Cert.KernelIdeal.Gen

/-- The kernel's blurred target, its last term added. -/
theorem blurred_apply (a b : Vec Ideal S1x512x512 .f32) (r c : Fin 512) :
    (blurred a b).1 (ix2 r c) + (blurred a b).2.2 (ix2 r c) * (blurred a b).2.1 (ix2 r c)
      = blur (fun r c => a (ix3 0 r c) * b (ix3 0 r c)) r c := by
  refine (cols_blur _ _ _ r c).trans ?_
  unfold blur
  refine congrArg (pass · c) (funext fun c' => (rows_blur a b r c').trans (congrArg (pass · r) (funext fun r' => ?_)))
  pointwise [k1_pay4]

/-- One image's loss, before division. -/
theorem lossOf_apply (s a b v : Vec Ideal S1x512x512 .f32) :
    lossOf s a b v (ix2 0 0)
      = ∑ r, ∑ c, gap (fun r c => s (ix3 0 r c)) (fun r c => a (ix3 0 r c) * b (ix3 0 r c)) r c * v (ix3 0 r c) := by
  have e : ∀ (p q w : FVec Ideal S512x512 .f32), k1_pay2 p q w s v (ix2 0 0)
      = ∑ r, ∑ c, ((s (ix3 0 r c) * k0_pay2 (F := Ideal) (ix2 r c) - (p (ix2 r c) + w (ix2 r c) * q (ix2 r c)))
        * (s (ix3 0 r c) * k0_pay2 (F := Ideal) (ix2 r c) - (p (ix2 r c) + w (ix2 r c) * q (ix2 r c)))) * v (ix3 0 r c) := by
    intro p q w
    pointwise [k1_pay2, k1_pay1, k0_pay2]
  unfold lossOf
  rw [e]
  refine Finset.sum_congr rfl fun (r : Fin 512) _ => Finset.sum_congr rfl fun (c : Fin 512) _ => ?_
  rw [border_pay, blurred_apply]
  rfl

/-- One image's count of visible pixels. -/
theorem visOf_apply (v : Vec Ideal S1x512x512 .f32) : visOf v (ix2 0 0) = ∑ r, ∑ c, v (ix3 0 r c) := by
  unfold visOf
  pointwise [k1_pay3, k1_pay1]

end Kernel

/-- A sum divided, term by term: the divisor counts the terms, and no term counted out is left. -/
theorem div_sum {ι : Type} [Fintype ι] [Nonempty ι] (d u : ι → EReal) (hd : ∀ i, 0 ≤ d i) (hu : ∀ i, 0 ≤ u i) :
    Ideal.div (∑ i, d i * u i) (∑ i, u i) = ∑ i, Ideal.div (d i * u i) (∑ i, u i) := by
  by_cases h : ∑ i, u i = 0
  · have z : ∀ i, u i = 0 := fun i => (Finset.sum_eq_zero_iff_of_nonneg fun i _ => hu i).1 h i (Finset.mem_univ i)
    have b : Ideal.div 0 0 = ⊥ := by simp [Ideal.div]
    simp only [z, mul_zero, Finset.sum_const_zero, b]
    refine (WithBot.sum_eq_bot_iff.2 ?_).symm
    obtain ⟨i⟩ := ‹Nonempty ι›
    exact ⟨i, Finset.mem_univ i, rfl⟩
  · simp only [Ideal.div, if_neg h]
    rw [mul_comm, mul_sum_nonneg _ _ _ fun i => mul_nonneg (hd i) (hu i)]
    exact Finset.sum_congr rfl fun i _ => mul_comm _ _

section Reference

open Cert.ReferenceIdeal Cert.ReferenceIdeal.Gen Cert.ReferenceIdeal.Read

/-- A sum over every pixel of every image. -/
theorem sum_all (x : FVec Ideal S4x1x512x512 .f32) (init : EReal) (i : S_.Idx) :
    Ideal.hostReduceAdd reducesTo_S4x1x512x512_S_d0_1_2_3 x init i = init + ∑ k : Fin 4 × Fin 512 × Fin 512, x (ix4 k.1 0 k.2.1 k.2.2) := by
  have e := Finset.sum_filter_eq_sum_of_fiber (fun k => reducesTo_S4x1x512x512_S_d0_1_2_3.drop k = i)
    (fun k : Fin 4 × Fin 512 × Fin 512 => (ix4 k.1 0 k.2.1 k.2.2 : S4x1x512x512.Idx))
    (fun k l e => Prod.ext (congrFun e 0) (Prod.ext (congrFun e 2) (congrFun e 3))) (fun k => by
      constructor
      · intro _
        refine ⟨(k 0, k 2, k 3), ?_⟩
        funext a; apply Fin.ext
        match a with
        | ⟨0, _⟩ => rfl
        | ⟨1, _⟩ => have : (k 1).val < 1 := (k 1).isLt; show 0 = (k 1).val; omega
        | ⟨2, _⟩ => rfl
        | ⟨3, _⟩ => rfl
      · intro _
        exact funext fun a => a.elim0) x
  unfold Ideal.hostReduceAdd
  rw [e]

/-- A pixel is visible or not. -/
theorem visible_nonneg (x2 : FVec Ideal S4x3x3 .f32) (i : S4x1x512x512.Idx) : 0 ≤ val_main_v389 (F := Ideal) x2 i := by
  rw [val_main_v389_apply]
  generalize val_main_v388 (F := Ideal) x2 i = w
  show (0 : EReal) ≤ ((w.toNat : ℝ) : EReal)
  exact EReal.coe_nonneg.2 (Nat.cast_nonneg _)

/-- What is kept is not below zero. -/
theorem kept_nonneg (y : Fin 512 → Fin 512 → EReal) (r c : Fin 512) : 0 ≤ kept y r c := by
  unfold kept
  split
  · next h => rw [← clamp_of_pos h.2]; exact clamp_nonneg _
  · exact le_rfl

variable (x0 x1 : FVec Ideal S4x1x512x512 .f32) (x2 : FVec Ideal S4x3x3 .f32)

/-- So the target before its blur is not below zero. -/
theorem target_nonneg (b : Fin 4) (r c : Fin 512) : 0 ≤ val_main_v469 (F := Ideal) x1 x2 (ix4 b 0 r c) := by
  rw [val_main_v469_apply, keep_warped, keepRef_apply, val_main_v462_apply]
  exact mul_nonneg (kept_nonneg _ _ _) (mark_nonneg x1 x2 _)

/-- The number of visible pixels. -/
theorem count_ref (j : S_.Idx) :
    val_main_v560 (F := Ideal) x2 j = ∑ k : Fin 4 × Fin 512 × Fin 512, val_main_v389 (F := Ideal) x2 (ix4 k.1 0 k.2.1 k.2.2) := by
  unfold val_main_v560
  generalize val_main_v389 (F := Ideal) x2 = y
  simp only [Host.reduceAdd, Ideal.hostReduceAdd_def]
  rw [sum_all, val_main_cst_157_apply, show FloatOps.ofBits (F := Ideal) .f32 0x00000000#32 = 0 from Ideal.ofBits_zero_f32, zero_add]

/-- The sum of the divided terms. -/
theorem terms_ref (j : S_.Idx) :
    val_main_v566 (F := Ideal) x0 x1 x2 j = ∑ k : Fin 4 × Fin 512 × Fin 512, val_main_v565 (F := Ideal) x0 x1 x2 (ix4 k.1 0 k.2.1 k.2.2) := by
  unfold val_main_v566
  generalize val_main_v565 (F := Ideal) x0 x1 x2 = y
  simp only [Host.reduceAdd, Ideal.hostReduceAdd_def]
  rw [sum_all, val_main_cst_158_apply, show FloatOps.ofBits (F := Ideal) .f32 0x00000000#32 = 0 from Ideal.ofBits_zero_f32, zero_add]

/-- One of them. -/
theorem term_ref (b : Fin 4) (r c : Fin 512) : val_main_v565 (F := Ideal) x0 x1 x2 (ix4 b 0 r c)
    = Ideal.div (gap (fun r c => x0 (ix4 b 0 r c)) (fun r c => val_main_v469 (F := Ideal) x1 x2 (ix4 b 0 r c)) r c
        * val_main_v389 (F := Ideal) x2 (ix4 b 0 r c)) (val_main_v560 (F := Ideal) x2 (Shape.Idx.first h_S_)) := by
  have g : val_main_v559 (F := Ideal) x1 x2 (ix4 b 0 r c) = blur (fun r c => val_main_v469 (F := Ideal) x1 x2 (ix4 b 0 r c)) r c := by
    rw [← blur_ref x1 x2 b r c (target_nonneg x1 x2 b)]
    pointwise [val_main_v559]
  have n : val_main_v564 (F := Ideal) x2 (ix4 b 0 r c) = val_main_v560 (F := Ideal) x2 (Shape.Idx.first h_S_) := by
    rw [val_main_v564_apply]
    exact congrArg _ (funext fun a => a.elim0)
  have s : val_main_v561 (F := Ideal) x0 x1 x2 (ix4 b 0 r c) = val_main_v192 (F := Ideal) x0 (ix4 b 0 r c) - val_main_v559 (F := Ideal) x1 x2 (ix4 b 0 r c) := by
    rw [val_main_v561_apply]
    generalize val_main_v192 (F := Ideal) x0 (ix4 b 0 r c) = p
    generalize val_main_v559 (F := Ideal) x1 x2 (ix4 b 0 r c) = q
    rfl
  have t : val_main_v565 (F := Ideal) x0 x1 x2 (ix4 b 0 r c)
      = Ideal.div (val_main_v561 (F := Ideal) x0 x1 x2 (ix4 b 0 r c) * val_main_v561 (F := Ideal) x0 x1 x2 (ix4 b 0 r c)
        * val_main_v389 (F := Ideal) x2 (ix4 b 0 r c)) (val_main_v564 (F := Ideal) x2 (ix4 b 0 r c)) := by
    rw [val_main_v565_apply, val_main_v563_apply, val_main_v562_apply]
    generalize val_main_v561 (F := Ideal) x0 x1 x2 (ix4 b 0 r c) = p
    generalize val_main_v389 (F := Ideal) x2 (ix4 b 0 r c) = q
    generalize val_main_v564 (F := Ideal) x2 (ix4 b 0 r c) = n
    rfl
  rw [t, n, s, g, score_blanked]
  rfl

/-- The reference's loss. -/
theorem loss_ref (i : S_.Idx) : val_main_v567 (F := Ideal) x0 x1 x2 i
    = Ideal.div
        (∑ k : Fin 4 × Fin 512 × Fin 512, gap (fun r c => x0 (ix4 k.1 0 r c)) (fun r c => val_main_v469 (F := Ideal) x1 x2 (ix4 k.1 0 r c)) k.2.1 k.2.2
          * val_main_v389 (F := Ideal) x2 (ix4 k.1 0 k.2.1 k.2.2))
        (∑ k : Fin 4 × Fin 512 × Fin 512, val_main_v389 (F := Ideal) x2 (ix4 k.1 0 k.2.1 k.2.2)) * Ideal.ofBits .f32 0x42C80000#32 := by
  rw [val_main_v567_apply, val_main_cst_159_apply, terms_ref, div_sum _ _ (fun k => gap_nonneg _ _ _ _) (fun k => visible_nonneg x2 _), ← count_ref x2 (Shape.Idx.first h_S_)]
  exact congrArg (· * Ideal.ofBits .f32 0x42C80000#32) (Finset.sum_congr rfl fun k _ => term_ref x0 x1 x2 k.1 k.2.1 k.2.2)

end Reference

end Cert.Proof.Ideal

end
-- ==== Proof.Whole.lean ====
/- The kernel's two regions on whole batches, against the reference: the kept scores and the loss. -/
module

public import proofs.«01_k».proof.Proof.Loss

@[expose] public section

set_option maxRecDepth 16384

noncomputable section

namespace Cert.Proof.Ideal

open Idealize.ShloMosaic
open Cert.KernelIdeal Cert.KernelIdeal.Gen

/-- A batch without its unit axis. -/
abbrev flat (x : FVec Ideal S4x1x512x512 .f32) : FVec Ideal S4x512x512 .f32 := shapeCast S4x512x512 x shapeCasts_S4x1x512x512_S4x512x512

/-- It has the same pixels. -/
theorem flat_apply (x : FVec Ideal S4x1x512x512 .f32) (b : Fin 4) (r c : Fin 512) : flat x (ix3 b r c) = x (ix4 b 0 r c) := by
  pointwise [flat]

/-- Every element of a batch is a pixel of an image. -/
theorem batch_ext (A B : FVec Ideal S4x512x512 .f32) (h : ∀ b r c, A (ix3 b r c) = B (ix3 b r c)) : A = B := by
  funext j
  have e : j = ix3 (j 0) (j 1) (j 2) := by
    funext a
    match a with
    | ⟨0, _⟩ => rfl
    | ⟨1, _⟩ => rfl
    | ⟨2, _⟩ => rfl
  rw [e]
  exact h _ _ _

/-- The pixels of one image of a batch. -/
theorem image_apply (A : FVec Ideal S4x512x512 .f32) (b : Fin 4) (r c : Fin 512) : image (F := Ideal) A b (ix3 0 r c) = A (ix3 b r c) := rfl

/-- The first region on a whole batch: the reference's suppression of it. -/
theorem mapImages_keep (x y : FVec Ideal S4x1x512x512 .f32) (h : ∀ b r c, y (ix4 b 0 r c) = x (ix4 b 0 r c) * border r c) :
    mapImages (F := Ideal) keepWarped (flat x) = flat (keepRef y) := by
  refine batch_ext _ _ fun b r c => ?_
  rw [flat_apply, keepRef_apply]
  refine (keepWarped_apply (image (F := Ideal) (flat x) b) r c).trans ?_
  simp only [image_apply, flat_apply, h]

/-- Both images are suppressed alike. -/
theorem keepScore_eq : keepScore (F := Ideal) = keepWarped := rfl

/-- Read in one row, the batch without its unit axis is the batch. -/
theorem flat_rows (x : FVec Ideal S4x1x512x512 .f32) : shapeCast S4x262144 (flat x) shapeCasts_S4x512x512_S4x262144
    = shapeCast S4x262144 x Cert.ReferenceIdeal.Gen.shapeCasts_S4x1x512x512_S4x262144 :=
  shapeCast_comp _ _ _

/-- A sum down the column of the images' numbers. -/
theorem sum_column (p : Fin 4 → FVec Ideal S1x1 .f32) (i : S_.Idx) :
    Host.reduceAdd (column (F := Ideal) p) (constant (F := Ideal) S_ .f32 0x00000000#32) reducesTo_S4x1_S_d0_1 h_S_ i = ∑ b, p b (ix2 0 0) := by
  have e : ∀ (b : Fin 4) (z : Fin 1), column (F := Ideal) p (ix2 b z) = p b (ix2 0 0) := fun _ _ => rfl
  pointwise
  simp only [e]
  exact Finset.sum_congr rfl fun _ _ => Fin.sum_univ_one _

/-- The loss of whole batches is the reference's. -/
theorem loss_whole (x0 x1 : FVec Ideal S4x1x512x512 .f32) (x2 : FVec Ideal S4x3x3 .f32) (s a t v : FVec Ideal S4x512x512 .f32)
    (hs : ∀ b r c, s (ix3 b r c) = x0 (ix4 b 0 r c))
    (hat : ∀ b r c, a (ix3 b r c) * t (ix3 b r c) = Cert.ReferenceIdeal.Read.val_main_v469 (F := Ideal) x1 x2 (ix4 b 0 r c))
    (hv : ∀ b r c, v (ix3 b r c) = Cert.ReferenceIdeal.Read.val_main_v389 (F := Ideal) x2 (ix4 b 0 r c)) :
    mulf (Host.divf
        (Host.reduceAdd (column (F := Ideal) fun b => lossOf (image (F := Ideal) s b) (image (F := Ideal) a b) (image (F := Ideal) t b) (image (F := Ideal) v b)) (constant (F := Ideal) S_ .f32 0x00000000#32) reducesTo_S4x1_S_d0_1 h_S_)
        (Host.reduceAdd (column (F := Ideal) fun b => visOf (image (F := Ideal) v b)) (constant (F := Ideal) S_ .f32 0x00000000#32) reducesTo_S4x1_S_d0_1 h_S_))
      (constant (F := Ideal) S_ .f32 0x42C80000#32) = Cert.ReferenceIdeal.Read.val_main_v567 (F := Ideal) x0 x1 x2 := by
  funext i
  rw [loss_ref]
  simp only [← hs, ← hat, ← hv]
  have n : Host.reduceAdd (column (F := Ideal) fun b => lossOf (image (F := Ideal) s b) (image (F := Ideal) a b) (image (F := Ideal) t b) (image (F := Ideal) v b)) (constant (F := Ideal) S_ .f32 0x00000000#32) reducesTo_S4x1_S_d0_1 h_S_ i
      = ∑ k : Fin 4 × Fin 512 × Fin 512, gap (fun r c => s (ix3 k.1 r c)) (fun r c => a (ix3 k.1 r c) * t (ix3 k.1 r c)) k.2.1 k.2.2 * v (ix3 k.1 k.2.1 k.2.2) := by
    rw [sum_column]
    simp only [Fintype.sum_prod_type, lossOf_apply, image_apply]
  have d : Host.reduceAdd (column (F := Ideal) fun b => visOf (image (F := Ideal) v b)) (constant (F := Ideal) S_ .f32 0x00000000#32) reducesTo_S4x1_S_d0_1 h_S_ i
      = ∑ k : Fin 4 × Fin 512 × Fin 512, v (ix3 k.1 k.2.1 k.2.2) := by
    rw [sum_column]
    simp only [Fintype.sum_prod_type, visOf_apply, image_apply]
  rw [← n, ← d]
  rfl

/-- The target before its blur, from the kept scores and the mask. -/
theorem target_whole (x1 : FVec Ideal S4x1x512x512 .f32) (x2 : FVec Ideal S4x3x3 .f32) (b : Fin 4) (r c : Fin 512) :
    flat (Cert.ReferenceIdeal.Read.val_main_v440 (F := Ideal) x1 x2) (ix3 b r c)
        * shapeCast S4x512x512 (Cert.ReferenceIdeal.Read.val_main_v461 (F := Ideal) x1 x2) shapeCasts_S4x262144_S4x512x512 (ix3 b r c)
      = Cert.ReferenceIdeal.Read.val_main_v469 (F := Ideal) x1 x2 (ix4 b 0 r c) := by
  rw [flat_apply, Cert.ReferenceIdeal.Read.val_main_v469_apply]
  unfold Cert.ReferenceIdeal.Read.val_main_v462
  generalize Cert.ReferenceIdeal.Read.val_main_v461 (F := Ideal) x1 x2 = m
  generalize Cert.ReferenceIdeal.Read.val_main_v440 (F := Ideal) x1 x2 (ix4 b 0 r c) = k
  have e : shapeCast S4x512x512 m shapeCasts_S4x262144_S4x512x512 (ix3 b r c)
      = shapeCast S4x1x512x512 m Cert.ReferenceIdeal.Gen.shapeCasts_S4x262144_S4x1x512x512 (ix4 b 0 r c) := by pointwise
  rw [e]
  rfl

end Cert.Proof.Ideal

end
-- ==== Proof.LinkHost.lean ====
/- The host between and after the two regions: top-k and the loss, as the reference has them. -/
module

public import proofs.«01_k».proof.Proof.Gen.KernelIdeal.Regions
public import proofs.«01_k».proof.Proof.Gen.ReferenceIdeal.Read
public import Idealize.ShloMosaic.Lib.StableHlo.RunRead

@[expose] public section

set_option maxRecDepth 16384

noncomputable section

namespace Cert.Proof.Ideal

open Cert.KernelIdeal Cert.KernelIdeal.Gen
open Idealize.ShloMosaic Idealize.ShloMosaic.TcCoe StableHlo

variable {F : FTy → Type} [FloatOps F]

variable (V : Valuation τ sig (Elt F))

/-- The operands of the first region are the two images, without their unit axis. -/
theorem flat_score : after hostOps0_32 V main_v372 = shapeCast S4x512x512 (V main_arg0) shapeCasts_S4x1x512x512_S4x512x512 := by
  after_reads_simp
  rfl

/-- The second operand is the warped score. -/
theorem flat_warped : after hostOps0_32 V main_v373 = shapeCast S4x512x512 (V main_v183) shapeCasts_S4x1x512x512_S4x512x512 := by
  after_reads_simp
  rfl

/-- The host between the two regions. -/
abbrev W39 : Valuation τ sig (Elt F) := (after hostOps1_4 (after hostOps1_3 (after hostOps1_2 (after hostOps1_1 (after hostOps1 V)))))

/-- Reads that the two results below join: each is the reference's, once the scores they are the largest of are. -/
theorem keyRows (x0 : Cert.ReferenceIdeal.main_arg0.ty.Contents (Elt F))
    (h : shapeCast S4x262144 (V main_v374_0) shapeCasts_S4x512x512_S4x262144 = Cert.ReferenceIdeal.Read.val_main_v401 x0) :
    W39 V main_v378 = Cert.ReferenceIdeal.Read.val_main_v425 x0 := by
  have h' : (fun i => shapeCast main_v375.ty.shape (V main_v374_0) shapeCasts_S4x512x512_S4x262144 i) = Cert.ReferenceIdeal.Read.val_main_v401 x0 := h
  unfold W39
  after_reads_simp
  rw [h']
  simp only [TRef.ofBuf_toBuf, id_eq, Cert.ReferenceIdeal.Read.val_main_indices, Cert.ReferenceIdeal.Read.val_main_c_124, Cert.ReferenceIdeal.Read.val_main_call17_v0, Cert.ReferenceIdeal.Read.val_main_call17_v1, Cert.ReferenceIdeal.Read.val_main_call17_v2, Cert.ReferenceIdeal.Read.val_main_call17_v3, Cert.ReferenceIdeal.Read.val_main_call17_v4, Cert.ReferenceIdeal.Read.val_main_call17_v5, Cert.ReferenceIdeal.Read.val_main_call17_v6, Cert.ReferenceIdeal.Read.val_main_call17_v7, Cert.ReferenceIdeal.Read.val_main_call17_v8, Cert.ReferenceIdeal.Read.val_main_call17_c, Cert.ReferenceIdeal.Read.val_main_call17_v9, Cert.ReferenceIdeal.Read.val_main_call17_v10, Cert.ReferenceIdeal.Read.val_main_call17_v11, Cert.ReferenceIdeal.Read.val_main_call17_c_0, Cert.ReferenceIdeal.Read.val_main_call17_v12, Cert.ReferenceIdeal.Read.val_main_call17_v13, Cert.ReferenceIdeal.Read.val_main_v423, Cert.ReferenceIdeal.Read.val_main_v425]
  rfl

/-- The keypoints' columns. -/
theorem keyCols (x0 : Cert.ReferenceIdeal.main_arg0.ty.Contents (Elt F))
    (h : shapeCast S4x262144 (V main_v374_0) shapeCasts_S4x512x512_S4x262144 = Cert.ReferenceIdeal.Read.val_main_v401 x0) :
    W39 V main_v379 = Cert.ReferenceIdeal.Read.val_main_v426 x0 := by
  have h' : (fun i => shapeCast main_v375.ty.shape (V main_v374_0) shapeCasts_S4x512x512_S4x262144 i) = Cert.ReferenceIdeal.Read.val_main_v401 x0 := h
  unfold W39
  after_reads_simp
  rw [h']
  simp only [TRef.ofBuf_toBuf, id_eq, Cert.ReferenceIdeal.Read.val_main_indices, Cert.ReferenceIdeal.Read.val_main_c_125, Cert.ReferenceIdeal.Read.val_main_call18_v0, Cert.ReferenceIdeal.Read.val_main_call18_c, Cert.ReferenceIdeal.Read.val_main_call18_v1, Cert.ReferenceIdeal.Read.val_main_call18_c_0, Cert.ReferenceIdeal.Read.val_main_call18_v2, Cert.ReferenceIdeal.Read.val_main_call18_v3, Cert.ReferenceIdeal.Read.val_main_call18_v4, Cert.ReferenceIdeal.Read.val_main_call18_c_1, Cert.ReferenceIdeal.Read.val_main_call18_v5, Cert.ReferenceIdeal.Read.val_main_call18_v6, Cert.ReferenceIdeal.Read.val_main_call18_c_2, Cert.ReferenceIdeal.Read.val_main_call18_v7, Cert.ReferenceIdeal.Read.val_main_call18_v8, Cert.ReferenceIdeal.Read.val_main_call18_c_3, Cert.ReferenceIdeal.Read.val_main_call18_v9, Cert.ReferenceIdeal.Read.val_main_call18_v10, Cert.ReferenceIdeal.Read.val_main_call18_v11, Cert.ReferenceIdeal.Read.val_main_call18_v12, Cert.ReferenceIdeal.Read.val_main_call18_v13, Cert.ReferenceIdeal.Read.val_main_call18_v14, Cert.ReferenceIdeal.Read.val_main_v424, Cert.ReferenceIdeal.Read.val_main_v426]
  rfl

/-- The keypoints are the reference's. -/
theorem keypoints (x0 : Cert.ReferenceIdeal.main_arg0.ty.Contents (Elt F))
    (h : shapeCast S4x262144 (V main_v374_0) shapeCasts_S4x512x512_S4x262144 = Cert.ReferenceIdeal.Read.val_main_v401 x0) :
    W39 V main_v381 = Cert.ReferenceIdeal.Read.val_main_v428 x0 := by
  have e : W39 V main_v381 = shapeCast S4x1x512x2 (concatenate S4x512x2 2 [⟨S4x512x1, W39 V main_v378⟩, ⟨S4x512x1, W39 V main_v379⟩]
      concatenates_S4x512x1_S4x512x1_S4x512x2_d2) shapeCasts_S4x512x2_S4x1x512x2 := by
    unfold W39
    after_reads_simp
    rfl
  rw [e, keyRows V x0 h, keyCols V x0 h]
  rfl

/-- The image numbers where the mask is set, -/
theorem topRows : W39 V main_v398 = Cert.ReferenceIdeal.Read.val_main_v457 := by
  unfold W39
  after_reads_simp
  rfl

/-- and the places in the image. -/
theorem topCols (x1 : Cert.ReferenceIdeal.main_arg1.ty.Contents (Elt F)) (x2 : Cert.ReferenceIdeal.main_arg2.ty.Contents (Elt F))
    (h : shapeCast S4x262144 (V main_v374_1) shapeCasts_S4x512x512_S4x262144 = Cert.ReferenceIdeal.Read.val_main_v441 x1 x2) :
    W39 V main_v399 = Cert.ReferenceIdeal.Read.val_main_v458 x1 x2 := by
  have h' : (fun i => shapeCast main_v382.ty.shape (V main_v374_1) shapeCasts_S4x512x512_S4x262144 i) = Cert.ReferenceIdeal.Read.val_main_v441 x1 x2 := h
  unfold W39
  after_reads_simp
  rw [h']
  rfl

/-- So is the mask of the warped side's keypoints. -/
theorem topMask (x1 : Cert.ReferenceIdeal.main_arg1.ty.Contents (Elt F)) (x2 : Cert.ReferenceIdeal.main_arg2.ty.Contents (Elt F))
    (h : shapeCast S4x262144 (V main_v374_1) shapeCasts_S4x512x512_S4x262144 = Cert.ReferenceIdeal.Read.val_main_v441 x1 x2) :
    W39 V main_v403 = shapeCast S4x512x512 (Cert.ReferenceIdeal.Read.val_main_v461 x1 x2) shapeCasts_S4x262144_S4x512x512 := by
  have e : W39 V main_v403 = shapeCast S4x512x512 (Host.scatter scatter_S4x262144_S2048x2_S2048_n_01_01_1 (fun _ b => b)
      (broadcastInDim S4x262144 ![] bcast_S_S4x262144 (constant S_ .f32 0x00000000#32))
      (concatenate S2048x2 1 [⟨S2048x1, W39 V main_v398⟩, ⟨S2048x1, W39 V main_v399⟩] concatenates_S2048x1_S2048x1_S2048x2_d1)
      (broadcastInDim S2048 ![] bcast_S_S2048 (constant S_ .f32 0x3F800000#32))) shapeCasts_S4x262144_S4x512x512 := by
    unfold W39
    after_reads_simp
    rfl
  rw [e, topRows V, topCols V x1 x2 h]
  rfl

/-- The visible pixels, without their unit axis. -/
theorem flat_visible : W39 V main_v404 = shapeCast S4x512x512 (V main_v371) shapeCasts_S4x1x512x512_S4x512x512 := by
  unfold W39
  after_reads_simp
  rfl

/-- The loss: the sum of the images' losses over that of the visible elements, times a hundred. -/
theorem total : after hostOps2 V main_v409 = mulf
      (Host.divf (Host.reduceAdd (V main_v405_0) (constant S_ .f32 0x00000000#32) reducesTo_S4x1_S_d0_1 h_S_)
        (Host.reduceAdd (V main_v405_1) (constant S_ .f32 0x00000000#32) reducesTo_S4x1_S_d0_1 h_S_))
      (constant S_ .f32 0x42C80000#32) := by
  after_reads_simp

end Cert.Proof.Ideal

end
-- ==== Proof.LinkWarp.lean ====
/- The two warps of the host before the first region are the reference's: the second score, and the image of ones that says what is visible. -/
module

public import proofs.«01_k».proof.Proof.Gen.KernelIdeal.Regions
public import proofs.«01_k».proof.Proof.Gen.ReferenceIdeal.Read
public import Idealize.ShloMosaic.Lib.StableHlo.RunRead

@[expose] public section

set_option maxRecDepth 16384

noncomputable section

namespace Cert.Proof.Ideal

open Cert.KernelIdeal Cert.KernelIdeal.Gen
open Idealize.ShloMosaic Idealize.ShloMosaic.TcCoe StableHlo

variable {F : FTy → Type} [FloatOps F]

variable (V : Valuation τ sig (Elt F))

/-- After the first seventeen stretches the warped second score is the reference's. -/
abbrev W17 : Valuation τ sig (Elt F) := (after hostOps0_16 (after hostOps0_15 (after hostOps0_14 (after hostOps0_13 (after hostOps0_12 (after hostOps0_11 (after hostOps0_10 (after hostOps0_9 (after hostOps0_8 (after hostOps0_7 (after hostOps0_6 (after hostOps0_5 (after hostOps0_4 (after hostOps0_3 (after hostOps0_2 (after hostOps0_1 (after hostOps0 V)))))))))))))))))

/-- The seventeen stretches from the last of these on, which hold the warp of ones. -/
abbrev W33 : Valuation τ sig (Elt F) := (after hostOps0_32 (after hostOps0_31 (after hostOps0_30 (after hostOps0_29 (after hostOps0_28 (after hostOps0_27 (after hostOps0_26 (after hostOps0_25 (after hostOps0_24 (after hostOps0_23 (after hostOps0_22 (after hostOps0_21 (after hostOps0_20 (after hostOps0_19 (after hostOps0_18 (after hostOps0_17 (after hostOps0_16 V)))))))))))))))))

set_option maxHeartbeats 40000000 in
/-- The warped second score is the reference's. -/
theorem warped : W17 V main_v183 = Cert.ReferenceIdeal.Read.val_main_v183 (V main_arg1) (V main_arg2) := by
  unfold W17
  after_reads_simp
  rfl

set_option maxHeartbeats 40000000 in
/-- The visible mask is the reference's. -/
theorem visible : W33 V main_v371 = Cert.ReferenceIdeal.Read.val_main_v389 (V main_arg2) := by
  unfold W33
  after_reads_simp
  rfl

end Cert.Proof.Ideal

end
-- ==== Proof.Algebraic.lean ====
/- The loss and the keypoints of the kernel are the reference's. -/
module

public import proofs.«01_k».proof.Defs
public import proofs.«01_k».proof.Proof.Whole
public import proofs.«01_k».proof.Proof.LinkHost
public import proofs.«01_k».proof.Proof.LinkWarp
public import proofs.«01_k».proof.Proof.RunIdeal
public import proofs.«01_k».proof.Proof.Gen.ReferenceIdeal.Run

@[expose] public section

set_option maxRecDepth 16384

noncomputable section

namespace Cert.Proof.Ideal

open Cert.KernelIdeal Cert.KernelIdeal.Gen
open Idealize.ShloMosaic Idealize.ShloMosaic.TcCoe StableHlo
open Cert.ReferenceIdeal.Read (val_main_v183 val_main_v389 val_main_v400 val_main_v440 val_main_v461 val_main_v469 val_main_v428 val_main_v567)

variable (m : (ℓ : Loc nD τ sig) → Buf (Elt Ideal) ℓ) (c : Dev nD)

/-- The first score of one core. -/
abbrev arg0 : FVec Ideal S4x1x512x512 .f32 := m ((c.tc : Thread nD τ).loc main_arg0)
/-- The second score of one core. -/
abbrev arg1 : FVec Ideal S4x1x512x512 .f32 := m ((c.tc : Thread nD τ).loc main_arg1)
/-- The homographies of one core. -/
abbrev arg2 : FVec Ideal S4x3x3 .f32 := m ((c.tc : Thread nD τ).loc main_arg2)

/-! ## What the first region is entered with -/

/-- The host writes no argument before the last stretch, -/
theorem score_kept : V32 m c main_arg0 = arg0 m c :=
  (V32_of m c main_arg0 (by decide)).trans <|
    (V31_of m c main_arg0 (by decide)).trans <|
    (V30_of m c main_arg0 (by decide)).trans <|
    (V29_of m c main_arg0 (by decide)).trans <|
    (V28_of m c main_arg0 (by decide)).trans <|
    (V27_of m c main_arg0 (by decide)).trans <|
    (V26_of m c main_arg0 (by decide)).trans <|
    (V25_of m c main_arg0 (by decide)).trans <|
    (V24_of m c main_arg0 (by decide)).trans <|
    (V23_of m c main_arg0 (by decide)).trans <|
    (V22_of m c main_arg0 (by decide)).trans <|
    (V21_of m c main_arg0 (by decide)).trans <|
    (V20_of m c main_arg0 (by decide)).trans <|
    (V19_of m c main_arg0 (by decide)).trans <|
    (V18_of m c main_arg0 (by decide)).trans <|
    (V17_of m c main_arg0 (by decide)).trans <|
    (V16_of m c main_arg0 (by decide)).trans <|
    (V15_of m c main_arg0 (by decide)).trans <|
    (V14_of m c main_arg0 (by decide)).trans <|
    (V13_of m c main_arg0 (by decide)).trans <|
    (V12_of m c main_arg0 (by decide)).trans <|
    (V11_of m c main_arg0 (by decide)).trans <|
    (V10_of m c main_arg0 (by decide)).trans <|
    (V9_of m c main_arg0 (by decide)).trans <|
    (V8_of m c main_arg0 (by decide)).trans <|
    (V7_of m c main_arg0 (by decide)).trans <|
    (V6_of m c main_arg0 (by decide)).trans <|
    (V5_of m c main_arg0 (by decide)).trans <|
    (V4_of m c main_arg0 (by decide)).trans <|
    (V3_of m c main_arg0 (by decide)).trans <|
    (V2_of m c main_arg0 (by decide)).trans <|
    V1_of m c main_arg0 (by decide)

/-- nor the homographies before the second warp, -/
theorem maps_kept : V16 m c main_arg2 = arg2 m c :=
  (V16_of m c main_arg2 (by decide)).trans <|
    (V15_of m c main_arg2 (by decide)).trans <|
    (V14_of m c main_arg2 (by decide)).trans <|
    (V13_of m c main_arg2 (by decide)).trans <|
    (V12_of m c main_arg2 (by decide)).trans <|
    (V11_of m c main_arg2 (by decide)).trans <|
    (V10_of m c main_arg2 (by decide)).trans <|
    (V9_of m c main_arg2 (by decide)).trans <|
    (V8_of m c main_arg2 (by decide)).trans <|
    (V7_of m c main_arg2 (by decide)).trans <|
    (V6_of m c main_arg2 (by decide)).trans <|
    (V5_of m c main_arg2 (by decide)).trans <|
    (V4_of m c main_arg2 (by decide)).trans <|
    (V3_of m c main_arg2 (by decide)).trans <|
    (V2_of m c main_arg2 (by decide)).trans <|
    V1_of m c main_arg2 (by decide)

/-- nor the warped score after it is made. -/
theorem warped_kept : V32 m c main_v183 = V17 m c main_v183 :=
  (V32_of m c main_v183 (by decide)).trans <|
    (V31_of m c main_v183 (by decide)).trans <|
    (V30_of m c main_v183 (by decide)).trans <|
    (V29_of m c main_v183 (by decide)).trans <|
    (V28_of m c main_v183 (by decide)).trans <|
    (V27_of m c main_v183 (by decide)).trans <|
    (V26_of m c main_v183 (by decide)).trans <|
    (V25_of m c main_v183 (by decide)).trans <|
    (V24_of m c main_v183 (by decide)).trans <|
    (V23_of m c main_v183 (by decide)).trans <|
    (V22_of m c main_v183 (by decide)).trans <|
    (V21_of m c main_v183 (by decide)).trans <|
    (V20_of m c main_v183 (by decide)).trans <|
    (V19_of m c main_v183 (by decide)).trans <|
    V18_of m c main_v183 (by decide)

/-- The first operand is the first score. -/
theorem entry_score : V33 m c main_v372 = flat (arg0 m c) := by
  refine (flat_score (V32 m c)).trans ?_
  rw [score_kept]

/-- The second operand is the reference's warp of the second score. -/
theorem entry_warped : V33 m c main_v373 = flat (val_main_v183 (F := Ideal) (arg1 m c) (arg2 m c)) := by
  refine (flat_warped (V32 m c)).trans ?_
  rw [warped_kept, show V17 m c main_v183 = val_main_v183 (F := Ideal) (arg1 m c) (arg2 m c) from warped (V0 m c)]

/-- The image of ones is warped as the reference warps it. -/
theorem entry_visible : V33 m c main_v371 = val_main_v389 (F := Ideal) (arg2 m c) := by
  refine (visible (V16 m c)).trans ?_
  rw [maps_kept]

/-! ## What the first region leaves -/

/-- The suppressed score is the reference's. -/
theorem left_score : leave0 (V33 m) c main_v374_0 = flat (val_main_v400 (F := Ideal) (arg0 m c)) := by
  rw [leave0_0, entry_score, keepScore_eq, keep_score]
  exact mapImages_keep _ _ (score_blanked _)

/-- So is the suppressed warped score. -/
theorem left_warped : leave0 (V33 m) c main_v374_1 = flat (val_main_v440 (F := Ideal) (arg1 m c) (arg2 m c)) := by
  rw [leave0_1, entry_warped, keep_warped]
  exact mapImages_keep _ _ (warped_blanked _ _)

/-! ## The host between the regions -/

/-- The second region is entered after the host stretches that follow the first. -/
theorem before1_eq : before1 m c = W39 (leave0 (V33 m) c) := congrArg W39 (V34_outs0 m c)

/-- The host between the regions leaves the arrays the first region read and wrote. -/
theorem between (o : Outs (F := Ideal)) (r : Ref sig .tc) (h1 : r ∉ hostOps1_W) (h2 : r ∉ hostOps1_1_W) (h3 : r ∉ hostOps1_2_W)
    (h4 : r ∉ hostOps1_3_W) (h5 : r ∉ hostOps1_4_W) : V39 m o c r = V34 m o c r :=
  (V39_of m o c r h5).trans <| (V38_of m o c r h4).trans <| (V37_of m o c r h3).trans <| (V36_of m o c r h2).trans <| V35_of m o c r h1

/-- The second region reads the first score again. -/
theorem before_score : before1 m c main_v372 = flat (arg0 m c) := by
  refine (between m c (outs0 m) main_v372 (by decide) (by decide) (by decide) (by decide) (by decide)).trans ?_
  rw [V34_outs0, leave0_other _ _ _ (by decide) (by decide), entry_score]

/-- It reads the suppressed warped score that the first region left. -/
theorem before_warped : before1 m c main_v374_1 = flat (val_main_v440 (F := Ideal) (arg1 m c) (arg2 m c)) := by
  refine (between m c (outs0 m) main_v374_1 (by decide) (by decide) (by decide) (by decide) (by decide)).trans ?_
  rw [V34_outs0, left_warped]

/-- The keypoints are made before it is entered. -/
theorem before_keypoints : before1 m c main_v381 = val_main_v428 (F := Ideal) (arg0 m c) := by
  rw [before1_eq]
  refine keypoints (leave0 (V33 m) c) _ ?_
  rw [left_score]
  exact flat_rows _

/-- It reads the mask of the largest 512 suppressed warped scores. -/
theorem before_mask : before1 m c main_v403
    = shapeCast S4x512x512 (val_main_v461 (F := Ideal) (arg1 m c) (arg2 m c)) shapeCasts_S4x262144_S4x512x512 := by
  rw [before1_eq]
  refine topMask (leave0 (V33 m) c) _ _ ?_
  rw [left_warped]
  exact flat_rows _

/-- It reads the visible pixels. -/
theorem before_visible : before1 m c main_v404 = flat (val_main_v389 (F := Ideal) (arg2 m c)) := by
  rw [before1_eq]
  refine (flat_visible (leave0 (V33 m) c)).trans ?_
  rw [leave0_other _ _ _ (by decide) (by decide), entry_visible]

/-! ## The results -/

/-- The keypoints. -/
theorem result_keypoints : V41 m (outs m) c main_v381 = val_main_v428 (F := Ideal) (arg0 m c) := by
  refine (V41_of m (outs m) c main_v381 (by decide)).trans ((V40_of m (outs m) c main_v381 (by decide)).trans ?_)
  rw [V39_outs, before_keypoints]

/-- The loss. -/
theorem result_loss : V41 m (outs m) c main_v409 = val_main_v567 (F := Ideal) (arg0 m c) (arg1 m c) (arg2 m c) := by
  refine (total (V40 m (outs m) c)).trans ?_
  rw [V40_outs, leave1_0, leave1_1]
  unfold loss1 vis1
  rw [show conts (before1 m) c main_v372 = _ from before_score m c, show conts (before1 m) c main_v374_1 = _ from before_warped m c,
    show conts (before1 m) c main_v403 = _ from before_mask m c, show conts (before1 m) c main_v404 = _ from before_visible m c]
  exact loss_whole _ _ _ _ _ _ _ (flat_apply _) (target_whole _ _) (flat_apply _)

end Cert.Proof.Ideal

namespace Cert.Proof

open Idealize.ShloMosaic Idealize.SL.Sem

/-- The kernel and the reference, from the same arguments, end at the same two results. -/
theorem algebraic : algebraic_KernelIdeal_ReferenceIdeal := fun m g m' g' _ hm =>
  ⟨fun c => ReferenceIdeal.Read.val_main_v567 (F := Ideal) (Ideal.arg0 m c) (Ideal.arg1 m c) (Ideal.arg2 m c),
    fun c => ReferenceIdeal.Read.val_main_v428 (F := Ideal) (Ideal.arg0 m c),
    (θ_run _ _ _).mono (fun _ h c =>
      ⟨(h.1 c _ (Ideal.mem_ucRefs KernelIdeal.main_v409 rfl)).trans (Ideal.result_loss m c),
        (h.1 c _ (Ideal.mem_ucRefs KernelIdeal.main_v381 rfl)).trans (Ideal.result_keypoints m c),
        (h.1 c _ (Ideal.mem_ucRefs KernelIdeal.main_arg0 rfl)).trans (KernelIdeal.Gen.V41_main_arg0 m _ c),
        (h.1 c _ (Ideal.mem_ucRefs KernelIdeal.main_arg1 rfl)).trans (KernelIdeal.Gen.V41_main_arg1 m _ c),
        (h.1 c _ (Ideal.mem_ucRefs KernelIdeal.main_arg2 rfl)).trans (KernelIdeal.Gen.V41_main_arg2 m _ c)⟩)
      (Ideal.run m g),
    (θ_run _ _ _).mono (fun _ h c => by
      obtain ⟨h0, h1, k0, k1, k2⟩ := h c
      obtain ⟨e0, e1, e2⟩ := hm c
      have l0 : StableHlo.launchContents m' c (Proc.devRef .tc ReferenceIdeal.main_arg0) = Ideal.arg0 m c := e0
      have l1 : StableHlo.launchContents m' c (Proc.devRef .tc ReferenceIdeal.main_arg1) = Ideal.arg1 m c := e1
      have l2 : StableHlo.launchContents m' c (Proc.devRef .tc ReferenceIdeal.main_arg2) = Ideal.arg2 m c := e2
      refine ⟨h0.trans ((ReferenceIdeal.Read.val_main_v567_eq _).trans ?_), h1.trans ((ReferenceIdeal.Read.val_main_v428_eq _).trans ?_), k0, k1, k2⟩
      · rw [l0, l1, l2]
      · rw [l0]) (ReferenceIdeal.Value.run m' g')⟩

end Cert.Proof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.ReferenceIdeal.Run
public import proofs.«01_k».proof.Proof.Gen.ReferenceIdeal.Read
public import proofs.«01_k».proof.Proof.Frames
public import proofs.«01_k».proof.Proof.Algebraic
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  frame_kernel, frame_ideal, frame_reference, trivial, algebraic⟩

end Cert.Proof

end
